-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_fox [hPre_finite_fox : Cert.Pre_finite_fox.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latent [hPre_finite_latent : Cert.Pre_finite_latent.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3))) = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_finite_latent [hPre_finite_latent : Cert.Pre_finite_latent.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_finite_latent.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2)) (m ((c.tc : Thread Cert.LatentRefIdeal.nD Cert.LatentRefIdeal.τ).loc Cert.LatentRefIdeal.main_arg3))) = (fun _ => 1#1)

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowIdeal_finite_window [hPre_finite_window : Cert.Pre_finite_window.Facts] (m : (ℓ : Loc Cert.WindowIdeal.nD Cert.WindowIdeal.τ Cert.WindowIdeal.sig) → Buf (Elt Ideal) ℓ) : Prop :=
  ∀ c : Dev Cert.WindowIdeal.nD,
    (Cert.Pre_finite_window.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1))) = (fun _ => 1#1)

def Pre_WindowRefIdeal (m : (ℓ : Loc Cert.WindowRefIdeal.nD Cert.WindowRefIdeal.τ Cert.WindowRefIdeal.sig) → Buf (Elt Ideal) ℓ) : Prop :=
  True

def Pre_WindowRefIdeal_finite_window [hPre_finite_window : Cert.Pre_finite_window.Facts] (m : (ℓ : Loc Cert.WindowRefIdeal.nD Cert.WindowRefIdeal.τ Cert.WindowRefIdeal.sig) → Buf (Elt Ideal) ℓ) : Prop :=
  ∀ c : Dev Cert.WindowRefIdeal.nD,
    (Cert.Pre_finite_window.fn (F := Ideal) (m ((c.tc : Thread Cert.WindowRefIdeal.nD Cert.WindowRefIdeal.τ).loc Cert.WindowRefIdeal.main_arg0)) (m ((c.tc : Thread Cert.WindowRefIdeal.nD Cert.WindowRefIdeal.τ).loc Cert.WindowRefIdeal.main_arg1))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_finite_fox [hFoxRefIdeal : Cert.FoxRefIdeal.Facts] [hPre_finite_fox : Cert.Pre_finite_fox.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_fox m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentIdeal_pre_finite_latent [hLatentIdeal : Cert.LatentIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latent m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_LatentRefIdeal_pre_finite_latent [hLatentRefIdeal : Cert.LatentRefIdeal.Facts] [hPre_finite_latent : Cert.Pre_finite_latent.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_finite_latent m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ r.2.sem = fun _ => 0)

def quiescent_WindowIdeal_pre_finite_window [hWindowIdeal : Cert.WindowIdeal.Facts] [hPre_finite_window : Cert.Pre_finite_window.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_finite_window m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1))
      ∧ r.2.sem = fun _ => 0)

def quiescent_WindowRefIdeal_pre_finite_window [hWindowRefIdeal : Cert.WindowRefIdeal.Facts] [hPre_finite_window : Cert.Pre_finite_window.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal_finite_window m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite_fox [hFoxIdeal : Cert.FoxIdeal.Facts] [hFoxRefIdeal : Cert.FoxRefIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_fox m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v2)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v2) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v45) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v62) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v26) = v0 c
          ∧ r.2.mem ((c.tc : Thread Cert.NormRefIdeal.nD Cert.NormRefIdeal.τ).loc Cert.NormRefIdeal.main_v27) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Latent_LatentIdeal : Prop :=
  IdealRules.named_const.Statement Cert.LatentIdeal.κ "mask" .f32 0xF149F2CA#32 ⊥

def algebraic_LatentIdeal_LatentRefIdeal_pre_finite_latent [hLatentIdeal : Cert.LatentIdeal.Facts] [hLatentRefIdeal : Cert.LatentRefIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_finite_latent m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)) →
    ∃ (v0 : (c : Dev Cert.LatentIdeal.nD) → Buf (Elt Ideal) ((c.tc : Thread Cert.LatentIdeal.nD Cert.LatentIdeal.τ).loc Cert.LatentIdeal.main_v0)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v36) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)) →
    ∃ (v0 : (c : Dev Cert.SmallIdeal.nD) → Buf (Elt Ideal) ((c.tc : Thread Cert.SmallIdeal.nD Cert.SmallIdeal.τ).loc Cert.SmallIdeal.main_v1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v1) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1))

def preserves_Window_WindowIdeal : Prop :=
  IdealRules.named_const.Statement Cert.WindowIdeal.κ "mask" .f32 0xF149F2CA#32 ⊥

def algebraic_WindowIdeal_WindowRefIdeal_pre_finite_window [hWindowIdeal : Cert.WindowIdeal.Facts] [hWindowRefIdeal : Cert.WindowRefIdeal.Facts] [hPre_finite_window : Cert.Pre_finite_window.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal_finite_window m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)) →
    ∃ (v0 : (c : Dev Cert.WindowIdeal.nD) → Buf (Elt Ideal) ((c.tc : Thread Cert.WindowIdeal.nD Cert.WindowIdeal.τ).loc Cert.WindowIdeal.main_v0)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v0) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v69) = v0 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v35_0)) (v1 : (c : Dev Cert.PrepIdeal.nD) → Buf (Elt Ideal) ((c.tc : Thread Cert.PrepIdeal.nD Cert.PrepIdeal.τ).loc Cert.PrepIdeal.main_v35_1)) (v2 : (c : Dev Cert.PrepIdeal.nD) → Buf (Elt Ideal) ((c.tc : Thread Cert.PrepIdeal.nD Cert.PrepIdeal.τ).loc Cert.PrepIdeal.main_v35_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v35_0) = v0 c
          ∧ r.2.mem ((c.tc : Thread Cert.PrepIdeal.nD Cert.PrepIdeal.τ).loc Cert.PrepIdeal.main_v35_1) = v1 c
          ∧ r.2.mem ((c.tc : Thread Cert.PrepIdeal.nD Cert.PrepIdeal.τ).loc Cert.PrepIdeal.main_v35_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v83) = v0 c
          ∧ r.2.mem ((c.tc : Thread Cert.PrepRefIdeal.nD Cert.PrepRefIdeal.τ).loc Cert.PrepRefIdeal.main_v85) = v1 c
          ∧ r.2.mem ((c.tc : Thread Cert.PrepRefIdeal.nD Cert.PrepRefIdeal.τ).loc Cert.PrepRefIdeal.main_v88) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def Claim : Prop :=
  ∃ (hFox : Cert.Fox.Facts) (hFoxIdeal : Cert.FoxIdeal.Facts) (hFoxRefIdeal : Cert.FoxRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hLatent : Cert.Latent.Facts) (hLatentIdeal : Cert.LatentIdeal.Facts) (hLatentRefIdeal : Cert.LatentRefIdeal.Facts) (hSmall : Cert.Small.Facts) (hSmallIdeal : Cert.SmallIdeal.Facts) (hSmallRefIdeal : Cert.SmallRefIdeal.Facts) (hWindow : Cert.Window.Facts) (hWindowIdeal : Cert.WindowIdeal.Facts) (hWindowRefIdeal : Cert.WindowRefIdeal.Facts) (hPrep : Cert.Prep.Facts) (hPrepIdeal : Cert.PrepIdeal.Facts) (hPrepRefIdeal : Cert.PrepRefIdeal.Facts) (hPre_finite_fox : Cert.Pre_finite_fox.Facts) (hPre_finite_latent : Cert.Pre_finite_latent.Facts) (hPre_finite_window : Cert.Pre_finite_window.Facts) (hPre_finite_prep : Cert.Pre_finite_prep.Facts),
    quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxRefIdeal (hFoxRefIdeal := hFoxRefIdeal)
    ∧ quiescent_FoxRefIdeal_pre_finite_fox (hFoxRefIdeal := hFoxRefIdeal) (hPre_finite_fox := hPre_finite_fox)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_Latent (hLatent := hLatent)
    ∧ quiescent_LatentIdeal (hLatentIdeal := hLatentIdeal)
    ∧ quiescent_LatentIdeal_pre_finite_latent (hLatentIdeal := hLatentIdeal) (hPre_finite_latent := hPre_finite_latent)
    ∧ quiescent_LatentRefIdeal (hLatentRefIdeal := hLatentRefIdeal)
    ∧ quiescent_LatentRefIdeal_pre_finite_latent (hLatentRefIdeal := hLatentRefIdeal) (hPre_finite_latent := hPre_finite_latent)
    ∧ quiescent_Small (hSmall := hSmall)
    ∧ quiescent_SmallIdeal (hSmallIdeal := hSmallIdeal)
    ∧ quiescent_SmallRefIdeal (hSmallRefIdeal := hSmallRefIdeal)
    ∧ quiescent_Window (hWindow := hWindow)
    ∧ quiescent_WindowIdeal (hWindowIdeal := hWindowIdeal)
    ∧ quiescent_WindowIdeal_pre_finite_window (hWindowIdeal := hWindowIdeal) (hPre_finite_window := hPre_finite_window)
    ∧ quiescent_WindowRefIdeal (hWindowRefIdeal := hWindowRefIdeal)
    ∧ quiescent_WindowRefIdeal_pre_finite_window (hWindowRefIdeal := hWindowRefIdeal) (hPre_finite_window := hPre_finite_window)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ preserves_Fox_FoxIdeal
    ∧ algebraic_FoxIdeal_FoxRefIdeal_pre_finite_fox (hFoxIdeal := hFoxIdeal) (hFoxRefIdeal := hFoxRefIdeal) (hPre_finite_fox := hPre_finite_fox)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_Latent_LatentIdeal
    ∧ algebraic_LatentIdeal_LatentRefIdeal_pre_finite_latent (hLatentIdeal := hLatentIdeal) (hLatentRefIdeal := hLatentRefIdeal) (hPre_finite_latent := hPre_finite_latent)
    ∧ preserves_Small_SmallIdeal
    ∧ algebraic_SmallIdeal_SmallRefIdeal (hSmallIdeal := hSmallIdeal) (hSmallRefIdeal := hSmallRefIdeal)
    ∧ preserves_Window_WindowIdeal
    ∧ algebraic_WindowIdeal_WindowRefIdeal_pre_finite_window (hWindowIdeal := hWindowIdeal) (hWindowRefIdeal := hWindowRefIdeal) (hPre_finite_window := hPre_finite_window)
    ∧ preserves_Prep_PrepIdeal
    ∧ algebraic_PrepIdeal_PrepRefIdeal_pre_finite_prep (hPrepIdeal := hPrepIdeal) (hPrepRefIdeal := hPrepRefIdeal) (hPre_finite_prep := hPre_finite_prep)
-- ==== Pre_finite_fox.lean ====
abbrev S16384x12288 : Shape := ⟨2, ![16384, 12288]⟩
abbrev S4x8x4096 : Shape := ⟨3, ![4, 8, 4096]⟩
abbrev S16384x2048 : Shape := ⟨2, ![16384, 2048]⟩
abbrev S64x2048 : Shape := ⟨2, ![64, 2048]⟩
abbrev S16448x2048 : Shape := ⟨2, ![16448, 2048]⟩
abbrev S_ : Shape := ⟨0, ![]⟩

class Facts : Prop where
  slices_S16384x12288_S16384x2048_0_4096 : S16384x12288.Slices ![0, 4096] S16384x2048
  bitsLt_bf16_f32 : FTy.bits .bf16 < FTy.bits .f32
  shapeCasts_S4x8x4096_S64x2048 : S4x8x4096.ShapeCasts S64x2048
  concatenates_S16384x2048_S64x2048_S16448x2048_d0 : Shape.Concatenates [S16384x2048, S64x2048] S16448x2048 0
  bcast_S_S16448x2048 : S_.BroadcastsInDim S16448x2048 (![] : Fin 0 → Fin S16448x2048.rank)

variable [Facts]

def fn {F : FTy → Type} [FloatOps F] (main_arg0 : FVec F S16384x12288 .bf16) (main_arg1 : FVec F S4x8x4096 .f32) : IVec S16448x2048 1 :=
  let main_v0 : FVec F S16384x2048 .bf16 := (extractStridedSlice S16384x2048 ![0, 4096] · slices_S16384x12288_S16384x2048_0_4096) main_arg0
  let main_v1 : FVec F S16384x2048 .f32 := (extf .f32 · bitsLt_bf16_f32) main_v0
  let main_v2 : FVec F S64x2048 .f32 := shapeCast S64x2048 main_arg1 shapeCasts_S4x8x4096_S64x2048
  let main_v3 : FVec F S16448x2048 .f32 := (fun a b => concatenate S16448x2048 0 [⟨S16384x2048, a⟩, ⟨S64x2048, b⟩] concatenates_S16384x2048_S64x2048_S16448x2048_d0) main_v1 main_v2
  let main_v4 : FVec F S16448x2048 .f32 := Host.absf main_v3
  let main_cst : FVec F S_ .f32 := constant S_ .f32 0x7F800000#32
  let main_v5 : FVec F S16448x2048 .f32 := broadcastInDim S16448x2048 ![] bcast_S_S16448x2048 main_cst
  let main_v6 : IVec S16448x2048 1 := cmpf .olt main_v4 main_v5
  main_v6
-- ==== Pre_finite_latent.lean ====
abbrev S16384x2048 : Shape := ⟨2, ![16384, 2048]⟩
abbrev S16384x1024 : Shape := ⟨2, ![16384, 1024]⟩
abbrev S16384x12288 : Shape := ⟨2, ![16384, 12288]⟩
abbrev S32768x2048 : Shape := ⟨2, ![32768, 2048]⟩
abbrev S_ : Shape := ⟨0, ![]⟩

class Facts : Prop where
  concatenates_S16384x2048_S16384x2048_S32768x2048_d0 : Shape.Concatenates [S16384x2048, S16384x2048] S32768x2048 0
  bitsLt_bf16_f32 : FTy.bits .bf16 < FTy.bits .f32
  bcast_S_S32768x2048 : S_.BroadcastsInDim S32768x2048 (![] : Fin 0 → Fin S32768x2048.rank)

variable [Facts]

def fn {F : FTy → Type} [FloatOps F] (main_arg0 : FVec F S16384x2048 .bf16) (main_arg1 : FVec F S16384x2048 .bf16) (main_arg2 : FVec F S16384x1024 .bf16) (main_arg3 : FVec F S16384x12288 .bf16) : IVec S32768x2048 1 :=
  let main_v0 : FVec F S32768x2048 .bf16 := (fun a b => concatenate S32768x2048 0 [⟨S16384x2048, a⟩, ⟨S16384x2048, b⟩] concatenates_S16384x2048_S16384x2048_S32768x2048_d0) main_arg0 main_arg1
  let main_v1 : FVec F S32768x2048 .f32 := (extf .f32 · bitsLt_bf16_f32) main_v0
  let main_v2 : FVec F S32768x2048 .f32 := Host.absf main_v1
  let main_cst : FVec F S_ .f32 := constant S_ .f32 0x7F800000#32
  let main_v3 : FVec F S32768x2048 .f32 := broadcastInDim S32768x2048 ![] bcast_S_S32768x2048 main_cst
  let main_v4 : IVec S32768x2048 1 := cmpf .olt main_v2 main_v3
  main_v4
-- ==== Pre_finite_prep.lean ====
abbrev S16384x12288 : Shape := ⟨2, ![16384, 12288]⟩
abbrev S4x4096 : Shape := ⟨2, ![4, 4096]⟩
abbrev S768 : Shape := ⟨1, ![768]⟩
abbrev S256 : Shape := ⟨1, ![256]⟩
abbrev S768x1536 : Shape := ⟨2, ![768, 1536]⟩
abbrev S256x2048 : Shape := ⟨2, ![256, 2048]⟩
abbrev S12288x16384 : Shape := ⟨2, ![12288, 16384]⟩
abbrev S768x16384 : Shape := ⟨2, ![768, 16384]⟩
abbrev S768x1 : Shape := ⟨2, ![768, 1]⟩
abbrev S768x17921 : Shape := ⟨2, ![768, 17921]⟩
abbrev S64x16384 : Shape := ⟨2, ![64, 16384]⟩
abbrev S32x16384 : Shape := ⟨2, ![32, 16384]⟩
abbrev S_ : Shape := ⟨0, ![]⟩
abbrev S704x16384 : Shape := ⟨2, ![704, 16384]⟩
abbrev S768x1537 : Shape := ⟨2, ![768, 1537]⟩

class Facts : Prop where
  bitsLt_bf16_f32 : FTy.bits .bf16 < FTy.bits .f32
  transposes_S16384x12288_S12288x16384_1_0 : S16384x12288.Transposes [1, 0] S12288x16384
  slices_S12288x16384_S768x16384_0_0 : S12288x16384.Slices ![0, 0] S768x16384
  bcast_S768_S768x1_0 : S768.BroadcastsInDim S768x1 (![0] : Fin 1 → Fin S768x1.rank)
  concatenates_S768x16384_S768x1_S768x1536_S768x17921_d1 : Shape.Concatenates [S768x16384, S768x1, S768x1536] S768x17921 1
  slices_S12288x16384_S64x16384_11968_0 : S12288x16384.Slices ![11968, 0] S64x16384
  slices_S12288x16384_S32x16384_11936_0 : S12288x16384.Slices ![11936, 0] S32x16384
  slices_S12288x16384_S32x16384_11904_0 : S12288x16384.Slices ![11904, 0] S32x16384
  concatenates_S32x16384_S32x16384_S64x16384_d0 : Shape.Concatenates [S32x16384, S32x16384] S64x16384 0
  bcast_S_S704x16384 : S_.BroadcastsInDim S704x16384 (![] : Fin 0 → Fin S704x16384.rank)
  concatenates_S64x16384_S704x16384_S768x16384_d0 : Shape.Concatenates [S64x16384, S704x16384] S768x16384 0
  bcast_S_S768x17921 : S_.BroadcastsInDim S768x17921 (![] : Fin 0 → Fin S768x17921.rank)
  bcast_S_S768x1537 : S_.BroadcastsInDim S768x1537 (![] : Fin 0 → Fin S768x1537.rank)
  concatenates_S768x16384_S768x1537_S768x17921_d1 : Shape.Concatenates [S768x16384, S768x1537] S768x17921 1

variable [Facts]

def fn {F : FTy → Type} [FloatOps F] (main_arg0 : FVec F S16384x12288 .bf16) (main_arg1 : IVec S4x4096 32) (main_arg2 : FVec F S768 .f32) (main_arg3 : FVec F S256 .f32) (main_arg4 : FVec F S768x1536 .f32) (main_arg5 : FVec F S256x2048 .f32) : IVec S768x17921 1 :=
  let main_v0 : FVec F S16384x12288 .f32 := (extf .f32 · bitsLt_bf16_f32) main_arg0
  let main_v1 : FVec F S12288x16384 .f32 := (transpose S12288x16384 [1, 0] · transposes_S16384x12288_S12288x16384_1_0) main_v0
  let main_v2 : FVec F S768x16384 .f32 := (extractStridedSlice S768x16384 ![0, 0] · slices_S12288x16384_S768x16384_0_0) main_v1
  let main_v3 : FVec F S768x1 .f32 := broadcastInDim S768x1 ![0] bcast_S768_S768x1_0 main_arg2
  let main_v4 : FVec F S768x17921 .f32 := concatenate S768x17921 1 [⟨S768x16384, main_v2⟩, ⟨S768x1, main_v3⟩, ⟨S768x1536, main_arg4⟩] concatenates_S768x16384_S768x1_S768x1536_S768x17921_d1
  let main_v5 : FVec F S64x16384 .f32 := (extractStridedSlice S64x16384 ![11968, 0] · slices_S12288x16384_S64x16384_11968_0) main_v1
  let main_v6 : FVec F S32x16384 .f32 := (extractStridedSlice S32x16384 ![11936, 0] · slices_S12288x16384_S32x16384_11936_0) main_v1
  let main_v7 : FVec F S32x16384 .f32 := Host.negf main_v6
  let main_v8 : FVec F S32x16384 .f32 := (extractStridedSlice S32x16384 ![11904, 0] · slices_S12288x16384_S32x16384_11904_0) main_v1
  let main_v9 : FVec F S64x16384 .f32 := (fun a b => concatenate S64x16384 0 [⟨S32x16384, a⟩, ⟨S32x16384, b⟩] concatenates_S32x16384_S32x16384_S64x16384_d0) main_v7 main_v8
  let main_v10 : IVec S64x16384 1 := cmpf .oeq main_v5 main_v9
  let main_c : IVec S_ 1 := constantI S_ 1 1#1
  let main_v11 : IVec S704x16384 1 := broadcastInDim S704x16384 ![] bcast_S_S704x16384 main_c
  let main_v12 : IVec S768x16384 1 := (fun a b => concatenate S768x16384 0 [⟨S64x16384, a⟩, ⟨S704x16384, b⟩] concatenates_S64x16384_S704x16384_S768x16384_d0) main_v10 main_v11
  let main_v13 : FVec F S768x17921 .f32 := Host.absf main_v4
  let main_cst : FVec F S_ .f32 := constant S_ .f32 0x7F800000#32
  let main_v14 : FVec F S768x17921 .f32 := broadcastInDim S768x17921 ![] bcast_S_S768x17921 main_cst
  let main_v15 : IVec S768x17921 1 := cmpf .olt main_v13 main_v14
  let main_c_0 : IVec S_ 1 := constantI S_ 1 1#1
  let main_v16 : IVec S768x1537 1 := broadcastInDim S768x1537 ![] bcast_S_S768x1537 main_c_0
  let main_v17 : IVec S768x17921 1 := (fun a b => concatenate S768x17921 1 [⟨S768x16384, a⟩, ⟨S768x1537, b⟩] concatenates_S768x16384_S768x1537_S768x17921_d1) main_v12 main_v16
  let main_v18 : IVec S768x17921 1 := andi main_v15 main_v17
  main_v18
-- ==== Pre_finite_window.lean ====
abbrev S16384x12288 : Shape := ⟨2, ![16384, 12288]⟩
abbrev S16 : Shape := ⟨1, ![16]⟩
abbrev S16384x1024 : Shape := ⟨2, ![16384, 1024]⟩
abbrev S16384x128 : Shape := ⟨2, ![16384, 128]⟩
abbrev S16384x16 : Shape := ⟨2, ![16384, 16]⟩
abbrev S16384x1168 : Shape := ⟨2, ![16384, 1168]⟩
abbrev S_ : Shape := ⟨0, ![]⟩

class Facts : Prop where
  slices_S16384x12288_S16384x1024_0_8192 : S16384x12288.Slices ![0, 8192] S16384x1024
  bitsLt_bf16_f32 : FTy.bits .bf16 < FTy.bits .f32
  slices_S16384x12288_S16384x128_0_12032 : S16384x12288.Slices ![0, 12032] S16384x128
  bcast_S16_S16384x16_1 : S16.BroadcastsInDim S16384x16 (![1] : Fin 1 → Fin S16384x16.rank)
  concatenates_S16384x1024_S16384x128_S16384x16_S16384x1168_d1 : Shape.Concatenates [S16384x1024, S16384x128, S16384x16] S16384x1168 1
  bcast_S_S16384x1168 : S_.BroadcastsInDim S16384x1168 (![] : Fin 0 → Fin S16384x1168.rank)

variable [Facts]

def fn {F : FTy → Type} [FloatOps F] (main_arg0 : FVec F S16384x12288 .bf16) (main_arg1 : FVec F S16 .f32) : IVec S16384x1168 1 :=
  let main_v0 : FVec F S16384x1024 .bf16 := (extractStridedSlice S16384x1024 ![0, 8192] · slices_S16384x12288_S16384x1024_0_8192) main_arg0
  let main_v1 : FVec F S16384x1024 .f32 := (extf .f32 · bitsLt_bf16_f32) main_v0
  let main_v2 : FVec F S16384x128 .bf16 := (extractStridedSlice S16384x128 ![0, 12032] · slices_S16384x12288_S16384x128_0_12032) main_arg0
  let main_v3 : FVec F S16384x128 .f32 := (extf .f32 · bitsLt_bf16_f32) main_v2
  let main_v4 : FVec F S16384x16 .f32 := broadcastInDim S16384x16 ![1] bcast_S16_S16384x16_1 main_arg1
  let main_v5 : FVec F S16384x1168 .f32 := concatenate S16384x1168 1 [⟨S16384x1024, main_v1⟩, ⟨S16384x128, main_v3⟩, ⟨S16384x16, main_v4⟩] concatenates_S16384x1024_S16384x128_S16384x16_S16384x1168_d1
  let main_v6 : FVec F S16384x1168 .f32 := Host.absf main_v5
  let main_cst : FVec F S_ .f32 := constant S_ .f32 0x7F800000#32
  let main_v7 : FVec F S16384x1168 .f32 := broadcastInDim S16384x1168 ![] bcast_S_S16384x1168 main_cst
  let main_v8 : IVec S16384x1168 1 := cmpf .olt main_v6 main_v7
  main_v8
-- ==== Fox.lean ====
abbrev S16384x12288 : Shape := ⟨2, ![16384, 12288]⟩
abbrev S4x8x4096 : Shape := ⟨3, ![4, 8, 4096]⟩
abbrev S4x8x4096x1 : Shape := ⟨4, ![4, 8, 4096, 1]⟩
abbrev S4x8x1x4096 : Shape := ⟨4, ![4, 8, 1, 4096]⟩
abbrev S16384x1024 : Shape := ⟨2, ![16384, 1024]⟩
abbrev S512x128 : Shape := ⟨2, ![512, 128]⟩
abbrev S1x1x512x1 : Shape := ⟨4, ![1, 1, 512, 1]⟩
abbrev S1x1x1x512 : Shape := ⟨4, ![1, 1, 1, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩

abbrev nBuf : Space → Nat
  | .hbm => 5
  | .vmem => 17
  | .smem => 0
  | _ => 0

abbrev bufTy : (tb : Table) → Fin (tcTables nBuf tb) → BufTy
  | .hbm, ⟨0, _⟩ => ⟨S16384x12288, .bf16⟩
  | .hbm, ⟨1, _⟩ => ⟨S4x8x4096, .f32⟩
  | .hbm, ⟨2, _⟩ => ⟨S4x8x4096x1, .f32⟩
  | .hbm, ⟨3, _⟩ => ⟨S4x8x1x4096, .f32⟩
  | .hbm, ⟨4, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x1x512x1, .f32⟩
  | .local _ .vmem, ⟨7, _⟩ => ⟨S1x1x512x1, .f32⟩
  | .local _ .vmem, ⟨8, _⟩ => ⟨S1x1x1x512, .f32⟩
  | .local _ .vmem, ⟨9, _⟩ => ⟨S1x1x1x512, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![4, 8, 8, 8], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c40_i32 : BitVec 32 := 40#32
  let v3 : BitVec 32 := Scalar.addi c40_i32 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c48_i32 : BitVec 32 := 48#32
  let v3 : BitVec 32 := Scalar.addi c48_i32 arg1
  let c0_i32 : BitVec 32 := 0#32
  ![v2.toNat, v3.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  let c0_i32_0 : BitVec 32 := 0#32
  ![arg0.toNat, arg1.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c56_i32 : BitVec 32 := 56#32
  let v2 : BitVec 32 := Scalar.addi c56_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]
-- ==== FoxIdeal.lean ====
variable {F : FTy → Type} [FloatOps F] [Named F]
def κ : String → Option EReal := fun
  | "mask" => some ⊥
  | _ => none
-- ==== FoxRefIdeal.lean ====
abbrev S16384x12288 : Shape := ⟨2, ![16384, 12288]⟩
abbrev S4x8x4096 : Shape := ⟨3, ![4, 8, 4096]⟩
abbrev S16384x1024 : Shape := ⟨2, ![16384, 1024]⟩
abbrev S4x4096x8x128 : Shape := ⟨4, ![4, 4096, 8, 128]⟩
abbrev S4x8x4096x4096 : Shape := ⟨4, ![4, 8, 4096, 4096]⟩
abbrev S_ : Shape := ⟨0, ![]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x128x4096 : Shape := ⟨4, ![4, 8, 128, 4096]⟩

abbrev nBuf : Space → Nat
  | .hbm => 64
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S4x8x4096, .f32⟩
  | .hbm, ⟨2, _⟩ => ⟨S16384x12288, .f32⟩
  | .hbm, ⟨3, _⟩ => ⟨S16384x1024, .f32⟩
  | .hbm, ⟨4, _⟩ => ⟨S4x4096x8x128, .f32⟩
  | .hbm, ⟨5, _⟩ => ⟨S16384x12288, .f32⟩
  | .hbm, ⟨6, _⟩ => ⟨S16384x1024, .f32⟩
  | .hbm, ⟨7, _⟩ => ⟨S4x4096x8x128, .f32⟩
  | .hbm, ⟨8, _⟩ => ⟨S16384x12288, .f32⟩
  | .hbm, ⟨9, _⟩ => ⟨S16384x1024, .f32⟩
  | .hbm, ⟨10, _⟩ => ⟨S4x4096x8x128, .f32⟩
  | .hbm, ⟨11, _⟩ => ⟨S16384x12288, .f32⟩
  | .hbm, ⟨12, _⟩ => ⟨S16384x1024, .f32⟩
  | .hbm, ⟨13, _⟩ => ⟨S4x4096x8x128, .f32⟩
  | .hbm, ⟨14, _⟩ => ⟨S4x8x4096x4096, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S4x8x4096x1, .f32⟩
  | .hbm, ⟨19, _⟩ => ⟨S4x8x1x4096, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S4096, .i32⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S1x1x4096x4096, .i1⟩
  | .hbm, ⟨31, _⟩ => ⟨S_, .f32⟩
  | .hbm, ⟨32, _⟩ => ⟨S_, .f32⟩
  | .hbm, ⟨33, _⟩ => ⟨S4x8x4096x4096, .i1⟩
  | .hbm, ⟨34, _⟩ => ⟨S4x8x4096x4096, .f32⟩
  | .hbm, ⟨35, _⟩ => ⟨S4x8x4096x4096, .f32⟩
  | .hbm, ⟨36, _⟩ => ⟨S_, .f32⟩
  | .hbm, ⟨37, _⟩ => ⟨S4x8x4096, .f32⟩
  | .hbm, ⟨38, _⟩ => ⟨S_, .f32⟩
  | .hbm, ⟨39, _⟩ => ⟨S4x8x4096, .f32⟩
  | .hbm, ⟨40, _⟩ => ⟨S4x8x4096, .f32⟩
  | .hbm, ⟨41, _⟩ => ⟨S4x8x4096x1, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S_, .f32⟩
  | .hbm, ⟨46, _⟩ => ⟨S4x8x4096, .f32⟩
  | .hbm, ⟨47, _⟩ => ⟨S4x8x4096x1, .f32⟩
  | .hbm, ⟨48, _⟩ => ⟨S4x8x4096x4096, .f32⟩
  | .hbm, ⟨49, _⟩ => ⟨S4x8x4096x4096, .f32⟩
  | .hbm, ⟨50, _⟩ => ⟨S4x8x128x4096, .f32⟩
  | .hbm, ⟨51, _⟩ => ⟨S4x4096x8x128, .f32⟩
  | .hbm, ⟨52, _⟩ => ⟨S4x4096x8x128, .f32⟩
  | .hbm, ⟨53, _⟩ => ⟨S4x4096x8x128, .f32⟩
  | .hbm, ⟨54, _⟩ => ⟨S_, .f32⟩
  | .hbm, ⟨55, _⟩ => ⟨S4x4096x8x128, .f32⟩
  | .hbm, ⟨56, _⟩ => ⟨S4x4096x8x128, .f32⟩
  | .hbm, ⟨57, _⟩ => ⟨S_, .f32⟩
  | .hbm, ⟨58, _⟩ => ⟨S4x4096x8x128, .f32⟩
  | .hbm, ⟨59, _⟩ => ⟨S4x4096x8x128, .f32⟩
  | .hbm, ⟨60, _⟩ => ⟨S4x4096x8x128, .f32⟩
  | .hbm, ⟨61, _⟩ => ⟨S4x4096x8x128, .f32⟩
  | .hbm, ⟨62, _⟩ => ⟨S16384x1024, .f32⟩
  | .hbm, ⟨63, _⟩ => ⟨S16384x1024, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Merge.lean ====
abbrev S16384x4096 : Shape := ⟨2, ![16384, 4096]⟩
abbrev S4x4096x4096 : Shape := ⟨3, ![4, 4096, 4096]⟩
abbrev S16384x1024 : Shape := ⟨2, ![16384, 1024]⟩
abbrev S4x1024x4096 : Shape := ⟨3, ![4, 1024, 4096]⟩
abbrev S1024x4096 : Shape := ⟨2, ![1024, 4096]⟩
abbrev S1x4096x512 : Shape := ⟨3, ![1, 4096, 512]⟩
abbrev S1024x1024 : Shape := ⟨2, ![1024, 1024]⟩
abbrev S1x1024x512 : Shape := ⟨3, ![1, 1024, 512]⟩
abbrev S1024x512 : Shape := ⟨2, ![1024, 512]⟩
abbrev S4096x512 : Shape := ⟨2, ![4096, 512]⟩

abbrev nBuf : Space → Nat
  | .hbm => 10
  | .vmem => 17
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S4x1024x4096, .f32⟩
  | .hbm, ⟨7, _⟩ => ⟨S4x4096x4096, .bf16⟩
  | .hbm, ⟨8, _⟩ => ⟨S4x1024x4096, .bf16⟩
  | .hbm, ⟨9, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024x512, .bf16⟩
  | .local _ .vmem, ⟨13, _⟩ => ⟨S1x1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 8, 4], ![false, false, false]⟩

def k0_cond5 (i : grid0.Coords) : BitVec 1 :=
  let arg2 : BitVec 32 := BitVec.ofNat 32 (i 2).val
  let c3_i32_8 : BitVec 32 := 3#32
  let v17 : BitVec 1 := Scalar.cmpi .eq arg2 c3_i32_8
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MergeRefIdeal.lean ====
abbrev S16384x4096 : Shape := ⟨2, ![16384, 4096]⟩
abbrev S4x4096x4096 : Shape := ⟨3, ![4, 4096, 4096]⟩
abbrev S16384x1024 : Shape := ⟨2, ![16384, 1024]⟩
abbrev S4x1024x4096 : Shape := ⟨3, ![4, 1024, 4096]⟩
abbrev S_ : Shape := ⟨0, ![]⟩
abbrev S1x4096x4096 : Shape := ⟨3, ![1, 4096, 4096]⟩
abbrev S4096x4096 : Shape := ⟨2, ![4096, 4096]⟩
abbrev S1x1024x4096 : Shape := ⟨3, ![1, 1024, 4096]⟩
abbrev S1024x4096 : Shape := ⟨2, ![1024, 4096]⟩

abbrev nBuf : Space → Nat
  | .hbm => 79
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S4x1024x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S1x4096x4096, .f32⟩
  | .hbm, ⟨11, _⟩ => ⟨S4096x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x1024, .f32⟩
  | .hbm, ⟨22, _⟩ => ⟨S1x1024x4096, .f32⟩
  | .hbm, ⟨23, _⟩ => ⟨S1024x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S1x4096x4096, .f32⟩
  | .hbm, ⟨28, _⟩ => ⟨S4096x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x1024, .f32⟩
  | .hbm, ⟨39, _⟩ => ⟨S1x1024x4096, .f32⟩
  | .hbm, ⟨40, _⟩ => ⟨S1024x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S1x4096x4096, .f32⟩
  | .hbm, ⟨45, _⟩ => ⟨S4096x4096, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S_, .f32⟩
  | .hbm, ⟨53, _⟩ => ⟨S16384x4096, .f32⟩
  | .hbm, ⟨54, _⟩ => ⟨S16384x4096, .f32⟩
  | .hbm, ⟨55, _⟩ => ⟨S16384x1024, .f32⟩
  | .hbm, ⟨56, _⟩ => ⟨S1x1024x4096, .f32⟩
  | .hbm, ⟨57, _⟩ => ⟨S1024x4096, .f32⟩
  | .hbm, ⟨58, _⟩ => ⟨S16384x4096, .f32⟩
  | .hbm, ⟨59, _⟩ => ⟨S16384x4096, .f32⟩
  | .hbm, ⟨60, _⟩ => ⟨S16384x4096, .f32⟩
  | .hbm, ⟨61, _⟩ => ⟨S1x4096x4096, .f32⟩
  | .hbm, ⟨62, _⟩ => ⟨S4096x4096, .f32⟩
  | .hbm, ⟨63, _⟩ => ⟨S16384x4096, .f32⟩
  | .hbm, ⟨64, _⟩ => ⟨S16384x4096, .f32⟩
  | .hbm, ⟨65, _⟩ => ⟨S16384x4096, .f32⟩
  | .hbm, ⟨66, _⟩ => ⟨S_, .f32⟩
  | .hbm, ⟨67, _⟩ => ⟨S16384x4096, .f32⟩
  | .hbm, ⟨68, _⟩ => ⟨S16384x4096, .f32⟩
  | .hbm, ⟨69, _⟩ => ⟨S_, .f32⟩
  | .hbm, ⟨70, _⟩ => ⟨S16384x4096, .f32⟩
  | .hbm, ⟨71, _⟩ => ⟨S16384x4096, .f32⟩
  | .hbm, ⟨72, _⟩ => ⟨S16384x1024, .f32⟩
  | .hbm, ⟨73, _⟩ => ⟨S1x1024x4096, .f32⟩
  | .hbm, ⟨74, _⟩ => ⟨S1024x4096, .f32⟩
  | .hbm, ⟨75, _⟩ => ⟨S16384x4096, .f32⟩
  | .hbm, ⟨76, _⟩ => ⟨S16384x4096, .f32⟩
  | .hbm, ⟨77, _⟩ => ⟨S16384x4096, .f32⟩
  | .hbm, ⟨78, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Proj.lean ====
abbrev S16384x4096 : Shape := ⟨2, ![16384, 4096]⟩
abbrev S4096x12288 : Shape := ⟨2, ![4096, 12288]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S4096x12288, .bf16⟩
  | .hbm, ⟨3, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x4096 : Shape := ⟨2, ![16384, 4096]⟩
abbrev S4096x12288 : Shape := ⟨2, ![4096, 12288]⟩
abbrev S16384x12288 : Shape := ⟨2, ![16384, 12288]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S16384x4096, .f32⟩
  | .hbm, ⟨3, _⟩ => ⟨S16384x12288, .f32⟩
  | .hbm, ⟨4, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S4096x4096, .bf16⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x4096, .f32⟩
  | .hbm, ⟨30, _⟩ => ⟨S16384x4096, .f32⟩
  | .hbm, ⟨31, _⟩ => ⟨S1x4096, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Latent.lean ====
abbrev S16384x2048 : Shape := ⟨2, ![16384, 2048]⟩
abbrev S16384x1024 : Shape := ⟨2, ![16384, 1024]⟩
abbrev S16384x12288 : Shape := ⟨2, ![16384, 12288]⟩
abbrev S512x256 : Shape := ⟨2, ![512, 256]⟩
abbrev S512x128 : Shape := ⟨2, ![512, 128]⟩
abbrev S512x512 : Shape := ⟨2, ![512, 512]⟩
abbrev S512x1 : Shape := ⟨2, ![512, 1]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x12288, .bf16⟩
  | .hbm, ⟨4, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 8, 8, 8], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c0_i32 : BitVec 32 := 0#32
  let v3 : BitVec 32 := Scalar.addi c0_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c0_i32 : BitVec 32 := 0#32
  let v3 : BitVec 32 := Scalar.addi c0_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c80_i32 : BitVec 32 := 80#32
  let v2 : BitVec 32 := Scalar.addi c80_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== LatentIdeal.lean ====
variable {F : FTy → Type} [FloatOps F] [Named F]
def κ : String → Option EReal := fun
  | "mask" => some ⊥
  | _ => none
-- ==== LatentRefIdeal.lean ====
abbrev S16384x2048 : Shape := ⟨2, ![16384, 2048]⟩
abbrev S16384x1024 : Shape := ⟨2, ![16384, 1024]⟩
abbrev S16384x12288 : Shape := ⟨2, ![16384, 12288]⟩
abbrev S4x4096x8x256 : Shape := ⟨4, ![4, 4096, 8, 256]⟩
abbrev S4x4096x8x128 : Shape := ⟨4, ![4, 4096, 8, 128]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x12288, .bf16⟩
  | .hbm, ⟨4, _⟩ => ⟨S16384x2048, .f32⟩
  | .hbm, ⟨5, _⟩ => ⟨S4x4096x8x256, .f32⟩
  | .hbm, ⟨6, _⟩ => ⟨S16384x2048, .f32⟩
  | .hbm, ⟨7, _⟩ => ⟨S4x4096x8x256, .f32⟩
  | .hbm, ⟨8, _⟩ => ⟨S16384x1024, .f32⟩
  | .hbm, ⟨9, _⟩ => ⟨S4x4096x8x128, .f32⟩
  | .hbm, ⟨10, _⟩ => ⟨S16384x1024, .bf16⟩
  | .hbm, ⟨11, _⟩ => ⟨S16384x1024, .f32⟩
  | .hbm, ⟨12, _⟩ => ⟨S4x4096x8x128, .f32⟩
  | .hbm, ⟨13, _⟩ => ⟨S4x8x4096x4096, .f32⟩
  | .hbm, ⟨14, _⟩ => ⟨S_, .f32⟩
  | .hbm, ⟨15, _⟩ => ⟨S4x8x4096x4096, .f32⟩
  | .hbm, ⟨16, _⟩ => ⟨S4x8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S1x1x4096x4096, .i1⟩
  | .hbm, ⟨24, _⟩ => ⟨S_, .f32⟩
  | .hbm, ⟨25, _⟩ => ⟨S_, .f32⟩
  | .hbm, ⟨26, _⟩ => ⟨S4x8x4096x4096, .i1⟩
  | .hbm, ⟨27, _⟩ => ⟨S4x8x4096x4096, .f32⟩
  | .hbm, ⟨28, _⟩ => ⟨S4x8x4096x4096, .f32⟩
  | .hbm, ⟨29, _⟩ => ⟨S_, .f32⟩
  | .hbm, ⟨30, _⟩ => ⟨S4x8x4096, .f32⟩
  | .hbm, ⟨31, _⟩ => ⟨S_, .f32⟩
  | .hbm, ⟨32, _⟩ => ⟨S4x8x4096, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S_, .f32⟩
  | .hbm, ⟨39, _⟩ => ⟨S4x8x4096, .f32⟩
  | .hbm, ⟨40, _⟩ => ⟨S4x8x4096x1, .f32⟩
  | .hbm, ⟨41, _⟩ => ⟨S4x8x4096x4096, .f32⟩
  | .hbm, ⟨42, _⟩ => ⟨S4x8x4096x4096, .f32⟩
  | .hbm, ⟨43, _⟩ => ⟨S4x8x128x4096, .f32⟩
  | .hbm, ⟨44, _⟩ => ⟨S4x4096x8x128, .f32⟩
  | .hbm, ⟨45, _⟩ => ⟨S4x4096x8x128, .f32⟩
  | .hbm, ⟨46, _⟩ => ⟨S4x4096x8x128, .f32⟩
  | .hbm, ⟨47, _⟩ => ⟨S_, .f32⟩
  | .hbm, ⟨48, _⟩ => ⟨S4x4096x8x128, .f32⟩
  | .hbm, ⟨49, _⟩ => ⟨S4x4096x8x128, .f32⟩
  | .hbm, ⟨50, _⟩ => ⟨S_, .f32⟩
  | .hbm, ⟨51, _⟩ => ⟨S4x4096x8x128, .f32⟩
  | .hbm, ⟨52, _⟩ => ⟨S4x4096x8x128, .f32⟩
  | .hbm, ⟨53, _⟩ => ⟨S4x4096x8x128, .f32⟩
  | .hbm, ⟨54, _⟩ => ⟨S4x4096x8x128, .f32⟩
  | .hbm, ⟨55, _⟩ => ⟨S16384x1024, .f32⟩
  | .hbm, ⟨56, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Small.lean ====
abbrev S16384x4096 : Shape := ⟨2, ![16384, 4096]⟩
abbrev S4096x128 : Shape := ⟨2, ![4096, 128]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x128, .f32⟩
  | .hbm, ⟨2, _⟩ => ⟨S4096x128, .bf16⟩
  | .hbm, ⟨3, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SmallRefIdeal.lean ====
abbrev S16384x4096 : Shape := ⟨2, ![16384, 4096]⟩
abbrev S4096x128 : Shape := ⟨2, ![4096, 128]⟩
abbrev S16384x128 : Shape := ⟨2, ![16384, 128]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x128, .f32⟩
  | .hbm, ⟨2, _⟩ => ⟨S16384x4096, .f32⟩
  | .hbm, ⟨3, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Window.lean ====
abbrev S16384x12288 : Shape := ⟨2, ![16384, 12288]⟩
abbrev S16 : Shape := ⟨1, ![16]⟩
abbrev S16384x1024 : Shape := ⟨2, ![16384, 1024]⟩
abbrev S128x1024 : Shape := ⟨2, ![128, 1024]⟩
abbrev S128x256 : Shape := ⟨2, ![128, 256]⟩
abbrev S256x256 : Shape := ⟨2, ![256, 256]⟩
abbrev S256x128 : Shape := ⟨2, ![256, 128]⟩
abbrev S128x128 : Shape := ⟨2, ![128, 128]⟩
abbrev S1 : Shape := ⟨1, ![1]⟩
abbrev S128 : Shape := ⟨1, ![128]⟩
abbrev S128x1 : Shape := ⟨2, ![128, 1]⟩

abbrev nBuf : Space → Nat
  | .hbm => 3
  | .vmem => 10
  | .smem => 1
  | _ => 0

abbrev bufTy : (tb : Table) → Fin (tcTables nBuf tb) → BufTy
  | .hbm, ⟨0, _⟩ => ⟨S16384x12288, .bf16⟩
  | .hbm, ⟨1, _⟩ => ⟨S16, .f32⟩
  | .hbm, ⟨2, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .smem, ⟨0, _⟩ => ⟨S16, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c47_i32 : BitVec 32 := 47#32
  let c0_i32 : BitVec 32 := 0#32
  ![v1.toNat, c47_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c47_i32 : BitVec 32 := 47#32
  let c0_i32_0 : BitVec 32 := 0#32
  ![v3.toNat, c47_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c9_i32 : BitVec 32 := 9#32
  let c0_i32 : BitVec 32 := 0#32
  ![v1.toNat, c9_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WindowIdeal.lean ====
variable {F : FTy → Type} [FloatOps F] [Named F]
def κ : String → Option EReal := fun
  | "mask" => some ⊥
  | _ => none
-- ==== WindowRefIdeal.lean ====
abbrev S16384x12288 : Shape := ⟨2, ![16384, 12288]⟩
abbrev S16 : Shape := ⟨1, ![16]⟩
abbrev S16384x1024 : Shape := ⟨2, ![16384, 1024]⟩
abbrev S4x4096x2x8x64 : Shape := ⟨5, ![4, 4096, 2, 8, 64]⟩
abbrev S16384x128 : Shape := ⟨2, ![16384, 128]⟩
abbrev S4x4096x2x64 : Shape := ⟨4, ![4, 4096, 2, 64]⟩
abbrev S_ : Shape := ⟨0, ![]⟩
abbrev S1 : Shape := ⟨1, ![1]⟩
abbrev S4x2x4096x4096x8 : Shape := ⟨5, ![4, 2, 4096, 4096, 8]⟩
abbrev S4x2x8x4096x4096 : Shape := ⟨5, ![4, 2, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x2x8x1x1 : Shape := ⟨5, ![1, 2, 8, 1, 1]⟩
abbrev S1x1x1x4096x4096 : Shape := ⟨5, ![1, 1, 1, 4096, 4096]⟩
abbrev S1x2x8x4096x4096 : Shape := ⟨5, ![1, 2, 8, 4096, 4096]⟩
abbrev S4x2x8x4096x1 : Shape := ⟨5, ![4, 2, 8, 4096, 1]⟩
abbrev S4x2x8x4096x4097 : Shape := ⟨5, ![4, 2, 8, 4096, 4097]⟩
abbrev S4x2x8x4096 : Shape := ⟨4, ![4, 2, 8, 4096]⟩
abbrev S4x2x64x8x4096 : Shape := ⟨5, ![4, 2, 64, 8, 4096]⟩

abbrev nBuf : Space → Nat
  | .hbm => 106
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S16, .f32⟩
  | .hbm, ⟨2, _⟩ => ⟨S16384x12288, .f32⟩
  | .hbm, ⟨3, _⟩ => ⟨S16384x1024, .f32⟩
  | .hbm, ⟨4, _⟩ => ⟨S4x4096x2x8x64, .f32⟩
  | .hbm, ⟨5, _⟩ => ⟨S16384x1024, .f32⟩
  | .hbm, ⟨6, _⟩ => ⟨S16384x128, .f32⟩
  | .hbm, ⟨7, _⟩ => ⟨S4x4096x2x64, .f32⟩
  | .hbm, ⟨8, _⟩ => ⟨S16384x128, .f32⟩
  | .hbm, ⟨9, _⟩ => ⟨S4x4096x2x64, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S16, .f32⟩
  | .hbm, ⟨43, _⟩ => ⟨S4x2x4096x4096x8, .f32⟩
  | .hbm, ⟨44, _⟩ => ⟨S4x2x8x4096x4096, .f32⟩
  | .hbm, ⟨45, _⟩ => ⟨S_, .f32⟩
  | .hbm, ⟨46, _⟩ => ⟨S4x2x8x4096x4096, .f32⟩
  | .hbm, ⟨47, _⟩ => ⟨S4x2x8x4096x4096, .f32⟩
  | .hbm, ⟨48, _⟩ => ⟨S4096, .i32⟩
  | .hbm, ⟨49, _⟩ => ⟨S4096x1, .i32⟩
  | .hbm, ⟨50, _⟩ => ⟨S1x4096, .i32⟩
  | .hbm, ⟨51, _⟩ => ⟨S4096x4096, .i32⟩
  | .hbm, ⟨52, _⟩ => ⟨S4096x4096, .i32⟩
  | .hbm, ⟨53, _⟩ => ⟨S4096x4096, .i32⟩
  | .hbm, ⟨54, _⟩ => ⟨S_, .i32⟩
  | .hbm, ⟨55, _⟩ => ⟨S4096x4096, .i32⟩
  | .hbm, ⟨56, _⟩ => ⟨S4096x4096, .i1⟩
  | .hbm, ⟨57, _⟩ => ⟨S_, .i32⟩
  | .hbm, ⟨58, _⟩ => ⟨S4096x4096, .i32⟩
  | .hbm, ⟨59, _⟩ => ⟨S4096x4096, .i1⟩
  | .hbm, ⟨60, _⟩ => ⟨S4096x4096, .i1⟩
  | .hbm, ⟨61, _⟩ => ⟨S1x2x8x1x1, .f32⟩
  | .hbm, ⟨62, _⟩ => ⟨S4096x4096, .f32⟩
  | .hbm, ⟨63, _⟩ => ⟨S1x1x1x4096x4096, .f32⟩
  | .hbm, ⟨64, _⟩ => ⟨S1x2x8x4096x4096, .f32⟩
  | .hbm, ⟨65, _⟩ => ⟨S1x2x8x4096x4096, .f32⟩
  | .hbm, ⟨66, _⟩ => ⟨S1x2x8x4096x4096, .f32⟩
  | .hbm, ⟨67, _⟩ => ⟨S4x2x8x4096x4096, .f32⟩
  | .hbm, ⟨68, _⟩ => ⟨S4x2x8x4096x4096, .f32⟩
  | .hbm, ⟨69, _⟩ => ⟨S_, .f32⟩
  | .hbm, ⟨70, _⟩ => ⟨S_, .f32⟩
  | .hbm, ⟨71, _⟩ => ⟨S4x2x8x4096x4096, .i1⟩
  | .hbm, ⟨72, _⟩ => ⟨S4x2x8x4096x4096, .f32⟩
  | .hbm, ⟨73, _⟩ => ⟨S4x2x8x4096x4096, .f32⟩
  | .hbm, ⟨74, _⟩ => ⟨S1x2x8x1x1, .f32⟩
  | .hbm, ⟨75, _⟩ => ⟨S4x2x8x4096x1, .f32⟩
  | .hbm, ⟨76, _⟩ => ⟨S4x2x8x4096x4097, .f32⟩
  | .hbm, ⟨77, _⟩ => ⟨S_, .f32⟩
  | .hbm, ⟨78, _⟩ => ⟨S4x2x8x4096, .f32⟩
  | .hbm, ⟨79, _⟩ => ⟨S_, .f32⟩
  | .hbm, ⟨80, _⟩ => ⟨S4x2x8x4096, .f32⟩
  | .hbm, ⟨81, _⟩ => ⟨S4x2x8x4096, .f32⟩
  | .hbm, ⟨82, _⟩ => ⟨S4x2x8x4096x1, .f32⟩
  | .hbm, ⟨83, _⟩ => ⟨S4x2x8x4096x4097, .f32⟩
  | .hbm, ⟨84, _⟩ => ⟨S4x2x8x4096x4097, .f32⟩
  | .hbm, ⟨85, _⟩ => ⟨S4x2x8x4096x4097, .f32⟩
  | .hbm, ⟨86, _⟩ => ⟨S_, .f32⟩
  | .hbm, ⟨87, _⟩ => ⟨S4x2x8x4096, .f32⟩
  | .hbm, ⟨88, _⟩ => ⟨S4x2x8x4096x1, .f32⟩
  | .hbm, ⟨89, _⟩ => ⟨S4x2x8x4096x4097, .f32⟩
  | .hbm, ⟨90, _⟩ => ⟨S4x2x8x4096x4097, .f32⟩
  | .hbm, ⟨91, _⟩ => ⟨S4x2x8x4096x4096, .f32⟩
  | .hbm, ⟨92, _⟩ => ⟨S4x2x64x8x4096, .f32⟩
  | .hbm, ⟨93, _⟩ => ⟨S4x4096x2x8x64, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_cst_8 : Ref sig .tc := ⟨.hbm, 28, rfl⟩
abbrev main_v17 : Ref sig .tc := ⟨.hbm, 29, rfl⟩
abbrev main_cst_9 : Ref sig .tc := ⟨.hbm, 30, rfl⟩
abbrev main_v18 : Ref sig .tc := ⟨.hbm, 31, rfl⟩
abbrev main_cst_10 : Ref sig .tc := ⟨.hbm, 32, rfl⟩
abbrev main_v19 : Ref sig .tc := ⟨.hbm, 33, rfl⟩
abbrev main_cst_11 : Ref sig .tc := ⟨.hbm, 34, rfl⟩
abbrev main_v20 : Ref sig .tc := ⟨.hbm, 35, rfl⟩
abbrev main_cst_12 : Ref sig .tc := ⟨.hbm, 36, rfl⟩
abbrev main_v21 : Ref sig .tc := ⟨.hbm, 37, rfl⟩
abbrev main_cst_13 : Ref sig .tc := ⟨.hbm, 38, rfl⟩
abbrev main_v22 : Ref sig .tc := ⟨.hbm, 39, rfl⟩
abbrev main_cst_14 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_15 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_c_16 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_17 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_18 : Ref sig .tc := ⟨.hbm, 77, rfl⟩
abbrev main_v52 : Ref sig .tc := ⟨.hbm, 78, rfl⟩
abbrev main_cst_19 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_20 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]
-- ==== Prep.lean ====
abbrev S16384x12288 : Shape := ⟨2, ![16384, 12288]⟩
abbrev S4x4096 : Shape := ⟨2, ![4, 4096]⟩
abbrev S768 : Shape := ⟨1, ![768]⟩
abbrev S256 : Shape := ⟨1, ![256]⟩
abbrev S768x1536 : Shape := ⟨2, ![768, 1536]⟩
abbrev S256x2048 : Shape := ⟨2, ![256, 2048]⟩
abbrev S768x8x192 : Shape := ⟨3, ![768, 8, 192]⟩
abbrev S768x8x64 : Shape := ⟨3, ![768, 8, 64]⟩
abbrev S768x8x128 : Shape := ⟨3, ![768, 8, 128]⟩
abbrev S768x8x32 : Shape := ⟨3, ![768, 8, 32]⟩
abbrev S768x8x256 : Shape := ⟨3, ![768, 8, 256]⟩
abbrev S256x8x256 : Shape := ⟨3, ![256, 8, 256]⟩
abbrev S768x2048 : Shape := ⟨2, ![768, 2048]⟩
abbrev S256x8x128 : Shape := ⟨3, ![256, 8, 128]⟩
abbrev S256x1024 : Shape := ⟨2, ![256, 1024]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x128 : Shape := ⟨3, ![4, 4096, 128]⟩
abbrev S16384x128 : Shape := ⟨2, ![16384, 128]⟩
abbrev S1x768 : Shape := ⟨2, ![1, 768]⟩
abbrev S1x256 : Shape := ⟨2, ![1, 256]⟩
abbrev S16384x2048 : Shape := ⟨2, ![16384, 2048]⟩
abbrev S16384x1024 : Shape := ⟨2, ![16384, 1024]⟩
abbrev S512x768 : Shape := ⟨2, ![512, 768]⟩
abbrev S512x256 : Shape := ⟨2, ![512, 256]⟩
abbrev S512x128 : Shape := ⟨2, ![512, 128]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 46
  | .vmem => 19
  | .smem => 0
  | _ => 0

abbrev bufTy : (tb : Table) → Fin (tcTables nBuf tb) → BufTy
  | .hbm, ⟨0, _⟩ => ⟨S16384x12288, .bf16⟩
  | .hbm, ⟨1, _⟩ => ⟨S4x4096, .i32⟩
  | .hbm, ⟨2, _⟩ => ⟨S768, .f32⟩
  | .hbm, ⟨3, _⟩ => ⟨S256, .f32⟩
  | .hbm, ⟨4, _⟩ => ⟨S768x1536, .f32⟩
  | .hbm, ⟨5, _⟩ => ⟨S256x2048, .f32⟩
  | .hbm, ⟨6, _⟩ => ⟨S768x8x192, .f32⟩
  | .hbm, ⟨7, _⟩ => ⟨S768x8x64, .f32⟩
  | .hbm, ⟨8, _⟩ => ⟨S768x8x128, .f32⟩
  | .hbm, ⟨9, _⟩ => ⟨S768x8x32, .f32⟩
  | .hbm, ⟨10, _⟩ => ⟨S768x8x32, .f32⟩
  | .hbm, ⟨11, _⟩ => ⟨S768x8x32, .f32⟩
  | .hbm, ⟨12, _⟩ => ⟨S768x8x64, .f32⟩
  | .hbm, ⟨13, _⟩ => ⟨S768x8x256, .f32⟩
  | .hbm, ⟨14, _⟩ => ⟨S256x8x256, .f32⟩
  | .hbm, ⟨15, _⟩ => ⟨S768x2048, .f32⟩
  | .hbm, ⟨16, _⟩ => ⟨S768x2048, .bf16⟩
  | .hbm, ⟨17, _⟩ => ⟨S256x8x128, .f32⟩
  | .hbm, ⟨18, _⟩ => ⟨S256x1024, .f32⟩
  | .hbm, ⟨19, _⟩ => ⟨S256x1024, .bf16⟩
  | .hbm, ⟨20, _⟩ => ⟨S256x8x128, .f32⟩
  | .hbm, ⟨21, _⟩ => ⟨S256x1024, .f32⟩
  | .hbm, ⟨22, _⟩ => ⟨S256x1024, .bf16⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S4x4096, .f32⟩
  | .hbm, ⟨32, _⟩ => ⟨S4x4096x1, .f32⟩
  | .hbm, ⟨33, _⟩ => ⟨S1x1x32, .f32⟩
  | .hbm, ⟨34, _⟩ => ⟨S4x4096x32, .f32⟩
  | .hbm, ⟨35, _⟩ => ⟨S4x4096x32, .f32⟩
  | .hbm, ⟨36, _⟩ => ⟨S4x4096x32, .f32⟩
  | .hbm, ⟨37, _⟩ => ⟨S4x4096x32, .f32⟩
  | .hbm, ⟨38, _⟩ => ⟨S4x4096x32, .f32⟩
  | .hbm, ⟨39, _⟩ => ⟨S4x4096x128, .f32⟩
  | .hbm, ⟨40, _⟩ => ⟨S16384x128, .f32⟩
  | .hbm, ⟨41, _⟩ => ⟨S1x768, .f32⟩
  | .hbm, ⟨42, _⟩ => ⟨S1x256, .f32⟩
  | .hbm, ⟨43, _⟩ => ⟨S16384x2048, .bf16⟩
  | .hbm, ⟨44, _⟩ => ⟨S16384x2048, .bf16⟩
  | .hbm, ⟨45, _⟩ => ⟨S16384x1024, .bf16⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S1x768, .f32⟩
  | .local _ .vmem, ⟨9, _⟩ => ⟨S1x256, .f32⟩
  | .local _ .vmem, ⟨10, _⟩ => ⟨S768x2048, .bf16⟩
  | .local _ .vmem, ⟨11, _⟩ => ⟨S256x1024, .bf16⟩
  | .local _ .vmem, ⟨12, _⟩ => ⟨S256x1024, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x1024, .bf16⟩
  | .local _ .vmem, ⟨18, _⟩ => ⟨S512x1024, .bf16⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c93_i32 : BitVec 32 := 93#32
  let c0_i32 : BitVec 32 := 0#32
  ![arg0.toNat, c93_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PrepRefIdeal.lean ====
abbrev S16384x12288 : Shape := ⟨2, ![16384, 12288]⟩
abbrev S4x4096 : Shape := ⟨2, ![4, 4096]⟩
abbrev S768 : Shape := ⟨1, ![768]⟩
abbrev S256 : Shape := ⟨1, ![256]⟩
abbrev S768x1536 : Shape := ⟨2, ![768, 1536]⟩
abbrev S256x2048 : Shape := ⟨2, ![256, 2048]⟩
abbrev S16384 : Shape := ⟨1, ![16384]⟩
abbrev S16384x1 : Shape := ⟨2, ![16384, 1]⟩
abbrev S32 : Shape := ⟨1, ![32]⟩
abbrev S_ : Shape := ⟨0, ![]⟩
abbrev S1x32 : Shape := ⟨2, ![1, 32]⟩
abbrev S16384x32 : Shape := ⟨2, ![16384, 32]⟩
abbrev S16384x1x32 : Shape := ⟨3, ![16384, 1, 32]⟩
abbrev S16384x768 : Shape := ⟨2, ![16384, 768]⟩
abbrev S1x768 : Shape := ⟨2, ![1, 768]⟩
abbrev S16384x1536 : Shape := ⟨2, ![16384, 1536]⟩
abbrev S16384x8x192 : Shape := ⟨3, ![16384, 8, 192]⟩
abbrev S16384x8x64 : Shape := ⟨3, ![16384, 8, 64]⟩
abbrev S16384x8x32 : Shape := ⟨3, ![16384, 8, 32]⟩
abbrev S16384x8x128 : Shape := ⟨3, ![16384, 8, 128]⟩
abbrev S16384x8x256 : Shape := ⟨3, ![16384, 8, 256]⟩
abbrev S16384x256 : Shape := ⟨2, ![16384, 256]⟩
abbrev S1x256 : Shape := ⟨2, ![1, 256]⟩
abbrev S16384x2048 : Shape := ⟨2, ![16384, 2048]⟩
abbrev S16384x64 : Shape := ⟨2, ![16384, 64]⟩
abbrev S16384x1x64 : Shape := ⟨3, ![16384, 1, 64]⟩
abbrev S16384x1024 : Shape := ⟨2, ![16384, 1024]⟩

abbrev nBuf : Space → Nat
  | .hbm => 104
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S4x4096, .i32⟩
  | .hbm, ⟨2, _⟩ => ⟨S768, .f32⟩
  | .hbm, ⟨3, _⟩ => ⟨S256, .f32⟩
  | .hbm, ⟨4, _⟩ => ⟨S768x1536, .f32⟩
  | .hbm, ⟨5, _⟩ => ⟨S256x2048, .f32⟩
  | .hbm, ⟨6, _⟩ => ⟨S16384x12288, .f32⟩
  | .hbm, ⟨7, _⟩ => ⟨S16384, .i32⟩
  | .hbm, ⟨8, _⟩ => ⟨S16384, .f32⟩
  | .hbm, ⟨9, _⟩ => ⟨S16384x1, .f32⟩
  | .hbm, ⟨10, _⟩ => ⟨S32, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x1x32, .f32⟩
  | .hbm, ⟨25, _⟩ => ⟨S16384x32, .f32⟩
  | .hbm, ⟨26, _⟩ => ⟨S16384x1x32, .f32⟩
  | .hbm, ⟨27, _⟩ => ⟨S16384x768, .f32⟩
  | .hbm, ⟨28, _⟩ => ⟨S16384x768, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x768, .f32⟩
  | .hbm, ⟨40, _⟩ => ⟨S16384x768, .f32⟩
  | .hbm, ⟨41, _⟩ => ⟨S1x768, .f32⟩
  | .hbm, ⟨42, _⟩ => ⟨S16384x768, .f32⟩
  | .hbm, ⟨43, _⟩ => ⟨S16384x768, .f32⟩
  | .hbm, ⟨44, _⟩ => ⟨S16384x1536, .f32⟩
  | .hbm, ⟨45, _⟩ => ⟨S16384x8x192, .f32⟩
  | .hbm, ⟨46, _⟩ => ⟨S16384x8x64, .f32⟩
  | .hbm, ⟨47, _⟩ => ⟨S16384x8x32, .f32⟩
  | .hbm, ⟨48, _⟩ => ⟨S16384x8x32, .f32⟩
  | .hbm, ⟨49, _⟩ => ⟨S16384x8x32, .f32⟩
  | .hbm, ⟨50, _⟩ => ⟨S16384x8x32, .f32⟩
  | .hbm, ⟨51, _⟩ => ⟨S16384x8x32, .f32⟩
  | .hbm, ⟨52, _⟩ => ⟨S16384x8x32, .f32⟩
  | .hbm, ⟨53, _⟩ => ⟨S16384x8x32, .f32⟩
  | .hbm, ⟨54, _⟩ => ⟨S16384x8x32, .f32⟩
  | .hbm, ⟨55, _⟩ => ⟨S16384x8x32, .f32⟩
  | .hbm, ⟨56, _⟩ => ⟨S16384x8x32, .f32⟩
  | .hbm, ⟨57, _⟩ => ⟨S16384x8x32, .f32⟩
  | .hbm, ⟨58, _⟩ => ⟨S16384x8x32, .f32⟩
  | .hbm, ⟨59, _⟩ => ⟨S16384x8x64, .f32⟩
  | .hbm, ⟨60, _⟩ => ⟨S16384x8x128, .f32⟩
  | .hbm, ⟨61, _⟩ => ⟨S16384x8x256, .f32⟩
  | .hbm, ⟨62, _⟩ => ⟨S16384x256, .f32⟩
  | .hbm, ⟨63, _⟩ => ⟨S16384x256, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x256, .f32⟩
  | .hbm, ⟨75, _⟩ => ⟨S16384x256, .f32⟩
  | .hbm, ⟨76, _⟩ => ⟨S1x256, .f32⟩
  | .hbm, ⟨77, _⟩ => ⟨S16384x256, .f32⟩
  | .hbm, ⟨78, _⟩ => ⟨S16384x256, .f32⟩
  | .hbm, ⟨79, _⟩ => ⟨S16384x2048, .f32⟩
  | .hbm, ⟨80, _⟩ => ⟨S16384x8x256, .f32⟩
  | .hbm, ⟨81, _⟩ => ⟨S16384x64, .f32⟩
  | .hbm, ⟨82, _⟩ => ⟨S16384x1x64, .f32⟩
  | .hbm, ⟨83, _⟩ => ⟨S16384x1x32, .f32⟩
  | .hbm, ⟨84, _⟩ => ⟨S16384x1x32, .f32⟩
  | .hbm, ⟨85, _⟩ => ⟨S16384x1x32, .f32⟩
  | .hbm, ⟨86, _⟩ => ⟨S16384x1x32, .f32⟩
  | .hbm, ⟨87, _⟩ => ⟨S16384x1x32, .f32⟩
  | .hbm, ⟨88, _⟩ => ⟨S16384x1x32, .f32⟩
  | .hbm, ⟨89, _⟩ => ⟨S16384x1x32, .f32⟩
  | .hbm, ⟨90, _⟩ => ⟨S16384x1x32, .f32⟩
  | .hbm, ⟨91, _⟩ => ⟨S16384x1x64, .f32⟩
  | .hbm, ⟨92, _⟩ => ⟨S16384x8x64, .f32⟩
  | .hbm, ⟨93, _⟩ => ⟨S16384x8x128, .f32⟩
  | .hbm, ⟨94, _⟩ => ⟨S_, .f32⟩
  | .hbm, ⟨95, _⟩ => ⟨S16384x8x64, .f32⟩
  | .hbm, ⟨96, _⟩ => ⟨S16384x8x256, .f32⟩
  | .hbm, ⟨97, _⟩ => ⟨S16384x2048, .f32⟩
  | .hbm, ⟨98, _⟩ => ⟨S16384x2048, .bf16⟩
  | .hbm, ⟨99, _⟩ => ⟨S16384x2048, .f32⟩
  | .hbm, ⟨100, _⟩ => ⟨S16384x2048, .bf16⟩
  | .hbm, ⟨101, _⟩ => ⟨S16384x8x128, .f32⟩
  | .hbm, ⟨102, _⟩ => ⟨S16384x1024, .f32⟩
  | .hbm, ⟨103, _⟩ => ⟨S16384x1024, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_7 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩

abbrev nD : Nat := 1
abbrev τ : Topo := Topo.v7x

variable {F : FTy → Type} [FloatOps F]
-- ==== Proof.FoxIdealRun.lean ====
/- The body of `FoxIdeal` at one point, case by case of its three conditions. -/
module
public import proofs.«01_k».proof.Defs
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import Idealize.ShloMosaic.Lib.Pipeline.ValueKit
public import Idealize.ShloMosaic.Lib.Pipeline.ReadBack
public import Idealize.ShloMosaic.Lib.Pipeline.FrameBody
public import Idealize.ShloMosaic.Lib.Pipeline.TableIdle
public import Idealize.ShloMosaic.Lib.WordCmp
public import Idealize.ShloMosaic.Lib.VecWindow
@[expose] public section
set_option maxRecDepth 16384
noncomputable section
namespace Cert.FoxIdeal.Hand
open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

/-! ## The three conditions of the body -/

/-- The scratch is reset: the first block of keys. -/
abbrev cR (i : grid0.Coords) : Prop := (Scalar.cmpi .ne (Scalar.extui (Scalar.cmpi .eq (BitVec.ofNat 32 (i 3).val) 0#32)) 0#32) = 1#1
/-- The block of keys is not past the block of queries: it is taken in. -/
abbrev cU (i : grid0.Coords) : Prop := (Scalar.cmpi .ne (Scalar.extui (Scalar.cmpi .sle (BitVec.ofNat 32 (i 3).val) (BitVec.ofNat 32 (i 2).val))) 0#32) = 1#1
/-- The last block of keys taken in: the output is written. -/
abbrev cO (i : grid0.Coords) : Prop := k0_cond3 i = 1#1

theorem hcR : ∀ t : Fin cfg0.N, cR (grid0.coords t) ↔ t.val % 8 = 0 :=
  (by decide +kernel : ∀ t : Fin grid0.N, cR (grid0.coords t) ↔ t.val % 8 = 0)
theorem hcU : ∀ t : Fin cfg0.N, cU (grid0.coords t) ↔ t.val % 8 ≤ t.val / 8 % 8 :=
  (by decide +kernel : ∀ t : Fin grid0.N, cU (grid0.coords t) ↔ t.val % 8 ≤ t.val / 8 % 8)
theorem hcO : ∀ t : Fin cfg0.N, cO (grid0.coords t) ↔ t.val / 8 % 8 = t.val % 8 :=
  (by decide +kernel : ∀ t : Fin grid0.N, cO (grid0.coords t) ↔ t.val / 8 % 8 = t.val % 8)

/-! ## What the body computes -/

/-- The first lane of a scratch buffer, as the body loads it. -/
def col (a : Vec F S512x128 .f32) : Vec F S512x1 .f32 := View.ld a (Rect.unit (s := S512x128) ![0, 0] ![512, 1] inb_S512x128_S512x1_0_0)

theorem readCov_col (v : View sig .tc .vmem S512x128 .f32) (w : Vec F S512x128 .f32) (L : List (View.Piece (Elt F) S512x128 .f32)) (inb) (inb') :
    v.readCov (⟨Rect.unit (s := S512x128) ![0, 0] (no_index ![512, 128]) inb, w⟩ :: L) (Rect.unit (s := S512x128) ![0, 0] (no_index ![512, 1]) inb').toLoadRect
      = View.ld w (Rect.unit (s := S512x128) ![0, 0] ![512, 1] inb') :=
  congrArg (fun X => View.ld X (Rect.unit (s := S512x128) ![0, 0] ![512, 1] inb')) (View.read_writes_full v v.junk inb w L)

/-- The running maximum after one block of keys, spread over the lanes. -/
def mN (i : grid0.Coords) (x0 : Vec F S512x128 .bf16) (x1 : Vec F S512x128 .bf16) (x3 : Vec F S1x1x512x1 .f32) (x4 : Vec F S1x1x1x512 .f32) (a : Vec F S512x128 .f32) : Vec F S512x128 .f32 := k0_pay6 (k0_pay9 (BitVec.ofNat 32 (i 2).val) (BitVec.ofNat 32 (i 3).val) x0 x1 x3 x4 (col a))
/-- The running sum of the weights after one block of keys, spread over the lanes. -/
def lN (i : grid0.Coords) (x0 : Vec F S512x128 .bf16) (x1 : Vec F S512x128 .bf16) (x3 : Vec F S1x1x512x1 .f32) (x4 : Vec F S1x1x1x512 .f32) (a l : Vec F S512x128 .f32) : Vec F S512x128 .f32 :=
  k0_pay4 (k0_pay12 (BitVec.ofNat 32 (i 2).val) (BitVec.ofNat 32 (i 3).val) x0 x1 x3 x4 (col a) (col l))
    (k0_pay13 (BitVec.ofNat 32 (i 2).val) (BitVec.ofNat 32 (i 3).val) x0 x1 x3 x4 (col a))
/-- The running weighted sum of the values after one block of keys. -/
def sN (i : grid0.Coords) (x0 : Vec F S512x128 .bf16) (x1 : Vec F S512x128 .bf16) (x3 : Vec F S1x1x512x1 .f32) (x4 : Vec F S1x1x1x512 .f32) (x2 : Vec F S512x128 .bf16) (a s : Vec F S512x128 .f32) : Vec F S512x128 .f32 :=
  k0_pay5 (k0_pay10 (BitVec.ofNat 32 (i 2).val) (BitVec.ofNat 32 (i 3).val) x0 x1 x3 x4 (col a))
    (k0_pay11 (BitVec.ofNat 32 (i 2).val) (BitVec.ofNat 32 (i 3).val) x0 x1 x3 x4 (col a)) s x2
/-- The output block: the weighted sum over the weights' sum, gated. -/
def oN (x5 : Vec F S512x128 .bf16) (l s : Vec F S512x128 .f32) : Vec F S512x128 .bf16 := k0_pay7 x5 s (col l)

/-! ## The body's five cases -/

set_option maxHeartbeats 2000000 in
theorem run_A (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x1x512x1 .f32) (harg7 : arg7.IsWhole) (arg8 : Memref sig .tc .vmem S1x1x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : cR i) (hc1 : cU i) (hc2 : cO i) (x0 : Vec F S512x128 .bf16) (x1 : Vec F S512x128 .bf16) (x2 : Vec F S512x128 .bf16) (x3 : Vec F S1x1x512x1 .f32) (x4 : Vec F S1x1x1x512 .f32) (x5 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare y ∗ owns (c : Thread nD τ) arg11 fullShare a ∗ owns (c : Thread nD τ) arg12 fullShare l ∗ owns (c : Thread nD τ) arg13 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (oN x5 (lN i x0 x1 x3 x4 k0_pay1 k0_pay2) (sN i x0 x1 x3 x4 x2 k0_pay1 k0_pay3)) ∗ owns (c : Thread nD τ) arg11 fullShare (mN i x0 x1 x3 x4 k0_pay1) ∗ owns (c : Thread nD τ) arg12 fullShare (lN i x0 x1 x3 x4 k0_pay1 k0_pay2) ∗ owns (c : Thread nD τ) arg13 fullShare (sN i x0 x1 x3 x4 x2 k0_pay1 k0_pay3)) -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12 arg13 harg13) K := by
  simp only [cc0_flash_fox_eq_skeleton]; unfold cc0_flash_fox_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; exact harg8.read_unread _
  isplitl [H5]
  · iexists _; isplitr; swap; · iexact H5
    ipureintro; exact harg9.read_unread _
  isplitl [H6]
  · iexists _; isplitr; swap; · iexact H6
    ipureintro; refine (View.read_writes_full _ _ _ _ _).trans ?_; (try frame_out); (try simp only [readCov_col]); rfl
  isplitl [H7]
  · iexists _; isplitr; swap; · iexact H7
    ipureintro; refine (View.read_writes_full _ _ _ _ _).trans ?_; (try frame_out); (try simp only [readCov_col]); rfl
  isplitl [H8]
  · iexists _; isplitr; swap; · iexact H8
    ipureintro; refine (View.read_writes_full _ _ _ _ _).trans ?_; (try frame_out); (try simp only [readCov_col]); rfl
  iexists _; isplitr; swap; · iexact H9
  ipureintro; refine (View.read_writes_full _ _ _ _ _).trans ?_; (try frame_out); (try simp only [readCov_col]); rfl

set_option maxHeartbeats 2000000 in
theorem run_C (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x1x512x1 .f32) (harg7 : arg7.IsWhole) (arg8 : Memref sig .tc .vmem S1x1x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : cR i) (hc1 : cU i) (hc2 : ¬cO i) (x0 : Vec F S512x128 .bf16) (x1 : Vec F S512x128 .bf16) (x2 : Vec F S512x128 .bf16) (x3 : Vec F S1x1x512x1 .f32) (x4 : Vec F S1x1x1x512 .f32) (x5 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare y ∗ owns (c : Thread nD τ) arg11 fullShare a ∗ owns (c : Thread nD τ) arg12 fullShare l ∗ owns (c : Thread nD τ) arg13 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare y ∗ owns (c : Thread nD τ) arg11 fullShare (mN i x0 x1 x3 x4 k0_pay1) ∗ owns (c : Thread nD τ) arg12 fullShare (lN i x0 x1 x3 x4 k0_pay1 k0_pay2) ∗ owns (c : Thread nD τ) arg13 fullShare (sN i x0 x1 x3 x4 x2 k0_pay1 k0_pay3)) -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12 arg13 harg13) K := by
  simp only [cc0_flash_fox_eq_skeleton]; unfold cc0_flash_fox_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; exact harg8.read_unread _
  isplitl [H5]
  · iexists _; isplitr; swap; · iexact H5
    ipureintro; exact harg9.read_unread _
  isplitl [H6]
  · iexists _; isplitr; swap; · iexact H6
    ipureintro; exact harg10.read_unread _
  isplitl [H7]
  · iexists _; isplitr; swap; · iexact H7
    ipureintro; refine (View.read_writes_full _ _ _ _ _).trans ?_; (try frame_out); (try simp only [readCov_col]); rfl
  isplitl [H8]
  · iexists _; isplitr; swap; · iexact H8
    ipureintro; refine (View.read_writes_full _ _ _ _ _).trans ?_; (try frame_out); (try simp only [readCov_col]); rfl
  iexists _; isplitr; swap; · iexact H9
  ipureintro; refine (View.read_writes_full _ _ _ _ _).trans ?_; (try frame_out); (try simp only [readCov_col]); rfl

set_option maxHeartbeats 2000000 in
theorem run_D (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x1x512x1 .f32) (harg7 : arg7.IsWhole) (arg8 : Memref sig .tc .vmem S1x1x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cR i) (hc1 : cU i) (hc2 : cO i) (x0 : Vec F S512x128 .bf16) (x1 : Vec F S512x128 .bf16) (x2 : Vec F S512x128 .bf16) (x3 : Vec F S1x1x512x1 .f32) (x4 : Vec F S1x1x1x512 .f32) (x5 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare y ∗ owns (c : Thread nD τ) arg11 fullShare a ∗ owns (c : Thread nD τ) arg12 fullShare l ∗ owns (c : Thread nD τ) arg13 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (oN x5 (lN i x0 x1 x3 x4 a l) (sN i x0 x1 x3 x4 x2 a s)) ∗ owns (c : Thread nD τ) arg11 fullShare (mN i x0 x1 x3 x4 a) ∗ owns (c : Thread nD τ) arg12 fullShare (lN i x0 x1 x3 x4 a l) ∗ owns (c : Thread nD τ) arg13 fullShare (sN i x0 x1 x3 x4 x2 a s)) -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12 arg13 harg13) K := by
  simp only [cc0_flash_fox_eq_skeleton]; unfold cc0_flash_fox_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; exact harg8.read_unread _
  isplitl [H5]
  · iexists _; isplitr; swap; · iexact H5
    ipureintro; exact harg9.read_unread _
  isplitl [H6]
  · iexists _; isplitr; swap; · iexact H6
    ipureintro; refine (View.read_writes_full _ _ _ _ _).trans ?_; (try frame_out); (try simp only [readCov_col]); rfl
  isplitl [H7]
  · iexists _; isplitr; swap; · iexact H7
    ipureintro; refine (View.read_writes_full _ _ _ _ _).trans ?_; (try frame_out); (try simp only [readCov_col]); rfl
  isplitl [H8]
  · iexists _; isplitr; swap; · iexact H8
    ipureintro; refine (View.read_writes_full _ _ _ _ _).trans ?_; (try frame_out); (try simp only [readCov_col]); rfl
  iexists _; isplitr; swap; · iexact H9
  ipureintro; refine (View.read_writes_full _ _ _ _ _).trans ?_; (try frame_out); (try simp only [readCov_col]); rfl

set_option maxHeartbeats 2000000 in
theorem run_E (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x1x512x1 .f32) (harg7 : arg7.IsWhole) (arg8 : Memref sig .tc .vmem S1x1x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cR i) (hc1 : cU i) (hc2 : ¬cO i) (x0 : Vec F S512x128 .bf16) (x1 : Vec F S512x128 .bf16) (x2 : Vec F S512x128 .bf16) (x3 : Vec F S1x1x512x1 .f32) (x4 : Vec F S1x1x1x512 .f32) (x5 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare y ∗ owns (c : Thread nD τ) arg11 fullShare a ∗ owns (c : Thread nD τ) arg12 fullShare l ∗ owns (c : Thread nD τ) arg13 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare y ∗ owns (c : Thread nD τ) arg11 fullShare (mN i x0 x1 x3 x4 a) ∗ owns (c : Thread nD τ) arg12 fullShare (lN i x0 x1 x3 x4 a l) ∗ owns (c : Thread nD τ) arg13 fullShare (sN i x0 x1 x3 x4 x2 a s)) -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12 arg13 harg13) K := by
  simp only [cc0_flash_fox_eq_skeleton]; unfold cc0_flash_fox_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; exact harg8.read_unread _
  isplitl [H5]
  · iexists _; isplitr; swap; · iexact H5
    ipureintro; exact harg9.read_unread _
  isplitl [H6]
  · iexists _; isplitr; swap; · iexact H6
    ipureintro; exact harg10.read_unread _
  isplitl [H7]
  · iexists _; isplitr; swap; · iexact H7
    ipureintro; refine (View.read_writes_full _ _ _ _ _).trans ?_; (try frame_out); (try simp only [readCov_col]); rfl
  isplitl [H8]
  · iexists _; isplitr; swap; · iexact H8
    ipureintro; refine (View.read_writes_full _ _ _ _ _).trans ?_; (try frame_out); (try simp only [readCov_col]); rfl
  iexists _; isplitr; swap; · iexact H9
  ipureintro; refine (View.read_writes_full _ _ _ _ _).trans ?_; (try frame_out); (try simp only [readCov_col]); rfl

set_option maxHeartbeats 2000000 in
theorem run_B (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x1x512x1 .f32) (harg7 : arg7.IsWhole) (arg8 : Memref sig .tc .vmem S1x1x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc0 : ¬cR i) (hc1 : ¬cU i) (hc2 : ¬cO i) (x0 : Vec F S512x128 .bf16) (x1 : Vec F S512x128 .bf16) (x2 : Vec F S512x128 .bf16) (x3 : Vec F S1x1x512x1 .f32) (x4 : Vec F S1x1x1x512 .f32) (x5 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare y ∗ owns (c : Thread nD τ) arg11 fullShare a ∗ owns (c : Thread nD τ) arg12 fullShare l ∗ owns (c : Thread nD τ) arg13 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare y ∗ owns (c : Thread nD τ) arg11 fullShare a ∗ owns (c : Thread nD τ) arg12 fullShare l ∗ owns (c : Thread nD τ) arg13 fullShare s) -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12 arg13 harg13) K := by
  simp only [cc0_flash_fox_eq_skeleton]; unfold cc0_flash_fox_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; exact harg8.read_unread _
  isplitl [H5]
  · iexists _; isplitr; swap; · iexact H5
    ipureintro; exact harg9.read_unread _
  isplitl [H6]
  · iexists _; isplitr; swap; · iexact H6
    ipureintro; exact harg10.read_unread _
  isplitl [H7]
  · iexists _; isplitr; swap; · iexact H7
    ipureintro; exact harg11.read_unread _
  isplitl [H8]
  · iexists _; isplitr; swap; · iexact H8
    ipureintro; exact harg12.read_unread _
  iexists _; isplitr; swap; · iexact H9
  ipureintro; exact harg13.read_unread _

end Cert.FoxIdeal.Hand
end
-- ==== Proof.FoxIdealFrame.lean ====
/- The frame of `FoxIdeal`, written with everything the kernel leaves named: the point recursion over the running maximum,
   the running sum and the running weighted sum in scratch, and the output block. -/
module
public import proofs.«01_k».proof.Defs
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import Idealize.ShloMosaic.Lib.Pipeline.ValueKit
public import Idealize.ShloMosaic.Lib.Pipeline.ReadBack
public import Idealize.ShloMosaic.Lib.Pipeline.FrameBody
public import Idealize.ShloMosaic.Lib.Pipeline.TableIdle
public import Idealize.ShloMosaic.Lib.WordCmp
public import proofs.«01_k».proof.Proof.FoxIdealRun
public import Idealize.ShloMosaic.Lib.VecWindow
@[expose] public section
set_option maxRecDepth 16384
noncomputable section
namespace Cert.FoxIdeal.Hand
open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

/-! ## One point, and the run over the points -/

/-- What one point does to the scratch (maximum, sum, weighted sum) and to the output block. -/
def stp (i : grid0.Coords) (x0 : Vec F S512x128 .bf16) (x1 : Vec F S512x128 .bf16) (x2 : Vec F S512x128 .bf16) (x3 : Vec F S1x1x512x1 .f32) (x4 : Vec F S1x1x1x512 .f32) (x5 : Vec F S512x128 .bf16) (σ : Vec F S512x128 .f32 × Vec F S512x128 .f32 × Vec F S512x128 .f32 × Vec F S512x128 .bf16) : Vec F S512x128 .f32 × Vec F S512x128 .f32 × Vec F S512x128 .f32 × Vec F S512x128 .bf16 :=
  let a := if cR i then k0_pay1 else σ.1
  let l := if cR i then k0_pay2 else σ.2.1
  let s := if cR i then k0_pay3 else σ.2.2.1
  let a' := if cU i then mN i x0 x1 x3 x4 a else a
  let l' := if cU i then lN i x0 x1 x3 x4 a l else l
  let s' := if cU i then sN i x0 x1 x3 x4 x2 a s else s
  (a', l', s', if cO i then oN x5 l' s' else σ.2.2.2)

theorem run (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x1x512x1 .f32) (harg7 : arg7.IsWhole) (arg8 : Memref sig .tc .vmem S1x1x1x512 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h01 : cR i → cU i) (h21 : cO i → cU i) (x0 : Vec F S512x128 .bf16) (x1 : Vec F S512x128 .bf16) (x2 : Vec F S512x128 .bf16) (x3 : Vec F S1x1x512x1 .f32) (x4 : Vec F S1x1x1x512 .f32) (x5 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare y ∗ owns (c : Thread nD τ) arg11 fullShare a ∗ owns (c : Thread nD τ) arg12 fullShare l ∗ owns (c : Thread nD τ) arg13 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (stp i x0 x1 x2 x3 x4 x5 (a, l, s, y)).2.2.2 ∗ owns (c : Thread nD τ) arg11 fullShare (stp i x0 x1 x2 x3 x4 x5 (a, l, s, y)).1 ∗ owns (c : Thread nD τ) arg12 fullShare (stp i x0 x1 x2 x3 x4 x5 (a, l, s, y)).2.1 ∗ owns (c : Thread nD τ) arg13 fullShare (stp i x0 x1 x2 x3 x4 x5 (a, l, s, y)).2.2.1) -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12 arg13 harg13) K := by
  by_cases h1 : cU i
  · by_cases h0 : cR i
    · by_cases h2 : cO i
      · simp only [stp, if_pos h1, if_pos h0, if_pos h2]
        exact run_A c i arg4 harg4 arg5 harg5 arg6 harg6 arg7 harg7 arg8 harg8 arg9 harg9 arg10 harg10 arg11 harg11 arg12 harg12 arg13 harg13 h0 h1 h2 x0 x1 x2 x3 x4 x5 y a l s E K
      · simp only [stp, if_pos h1, if_pos h0, if_neg h2]
        exact run_C c i arg4 harg4 arg5 harg5 arg6 harg6 arg7 harg7 arg8 harg8 arg9 harg9 arg10 harg10 arg11 harg11 arg12 harg12 arg13 harg13 h0 h1 h2 x0 x1 x2 x3 x4 x5 y a l s E K
    · by_cases h2 : cO i
      · simp only [stp, if_pos h1, if_neg h0, if_pos h2]
        exact run_D c i arg4 harg4 arg5 harg5 arg6 harg6 arg7 harg7 arg8 harg8 arg9 harg9 arg10 harg10 arg11 harg11 arg12 harg12 arg13 harg13 h0 h1 h2 x0 x1 x2 x3 x4 x5 y a l s E K
      · simp only [stp, if_pos h1, if_neg h0, if_neg h2]
        exact run_E c i arg4 harg4 arg5 harg5 arg6 harg6 arg7 harg7 arg8 harg8 arg9 harg9 arg10 harg10 arg11 harg11 arg12 harg12 arg13 harg13 h0 h1 h2 x0 x1 x2 x3 x4 x5 y a l s E K
  · have h0 : ¬cR i := fun h => h1 (h01 h)
    have h2 : ¬cO i := fun h => h1 (h21 h)
    simp only [stp, if_neg h1, if_neg h0, if_neg h2]
    exact run_B c i arg4 harg4 arg5 harg5 arg6 harg6 arg7 harg7 arg8 harg8 arg9 harg9 arg10 harg10 arg11 harg11 arg12 harg12 arg13 harg13 h0 h1 h2 x0 x1 x2 x3 x4 x5 y a l s E K

/-- At a point that resets and writes, nothing of the state before matters. -/
theorem stp_reset (i : grid0.Coords) (x0 : Vec F S512x128 .bf16) (x1 : Vec F S512x128 .bf16) (x2 : Vec F S512x128 .bf16) (x3 : Vec F S1x1x512x1 .f32) (x4 : Vec F S1x1x1x512 .f32) (x5 : Vec F S512x128 .bf16) (σ σ' : Vec F S512x128 .f32 × Vec F S512x128 .f32 × Vec F S512x128 .f32 × Vec F S512x128 .bf16) (h0 : cR i) (h2 : cO i) : stp i x0 x1 x2 x3 x4 x5 σ = stp i x0 x1 x2 x3 x4 x5 σ' := by
  simp only [stp, if_pos h0, if_pos h2]

variable (m : (ℓ : Loc nD τ sig) → Buf (Elt F) ℓ) (ρ : Dev nD → PrngReg)

/-- The state after the point at position `n`. -/
def aft (c : Dev nD) : (n : ℕ) → n < cfg0.N → Vec F S512x128 .f32 × Vec F S512x128 .f32 × Vec F S512x128 .f32 × Vec F S512x128 .bf16
  | 0, h => stp (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay1, k0_pay1, k0_pay1, oN (iblk m c 5 ⟨0, h⟩) k0_pay1 k0_pay1)
  | n + 1, h => stp (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (aft c n (Nat.lt_of_succ_lt h))

theorem aft_pos (c : Dev nD) (t : Fin cfg0.N) (hz : t.val ≠ 0) :
    aft m c t.val t.isLt = stp (grid0.coords t) (iblk m c 0 t) (iblk m c 1 t) (iblk m c 2 t) (iblk m c 3 t) (iblk m c 4 t) (iblk m c 5 t) (aft m c (t.val - 1) (Nat.lt_of_le_of_lt (Nat.sub_le _ _) t.isLt)) := by
  obtain ⟨k, hk⟩ := t
  cases k with
  | zero => exact absurd rfl hz
  | succ k => rfl

/-! ## The windows' memrefs and the region invariant -/

theorem live_0 : ∀ t : Fin cfg0.N, cfg0.idle 0 (grid0.coords t) = false := fun _ => rfl
abbrev ms_0 (t : Fin cfg0.N) : Memref sig .tc .vmem S512x128 .bf16 := win0_0.stage (cfg0.slots t 0)
abbrev hs_0 (t : Fin cfg0.N) : (ms_0 t).IsWhole := hstage0_0 ((cfg0.slots t 0).cast nbuf0_0)
theorem live_1 : ∀ t : Fin cfg0.N, cfg0.idle 1 (grid0.coords t) = false := fun _ => rfl
abbrev ms_1 (t : Fin cfg0.N) : Memref sig .tc .vmem S512x128 .bf16 := win0_1.stage (cfg0.slots t 1)
abbrev hs_1 (t : Fin cfg0.N) : (ms_1 t).IsWhole := hstage0_1 ((cfg0.slots t 1).cast nbuf0_1)
theorem live_2 : ∀ t : Fin cfg0.N, cfg0.idle 2 (grid0.coords t) = false := fun _ => rfl
abbrev ms_2 (t : Fin cfg0.N) : Memref sig .tc .vmem S512x128 .bf16 := win0_2.stage (cfg0.slots t 2)
abbrev hs_2 (t : Fin cfg0.N) : (ms_2 t).IsWhole := hstage0_2 ((cfg0.slots t 2).cast nbuf0_2)
theorem live_3 : ∀ t : Fin cfg0.N, cfg0.idle 3 (grid0.coords t) = false := fun _ => rfl
abbrev ms_3 (t : Fin cfg0.N) : Memref sig .tc .vmem S1x1x512x1 .f32 := win0_3.stage (cfg0.slots t 3)
abbrev hs_3 (t : Fin cfg0.N) : (ms_3 t).IsWhole := hstage0_3 ((cfg0.slots t 3).cast nbuf0_3)
theorem live_4 : ∀ t : Fin cfg0.N, cfg0.idle 4 (grid0.coords t) = false := fun _ => rfl
abbrev ms_4 (t : Fin cfg0.N) : Memref sig .tc .vmem S1x1x1x512 .f32 := win0_4.stage (cfg0.slots t 4)
abbrev hs_4 (t : Fin cfg0.N) : (ms_4 t).IsWhole := hstage0_4 ((cfg0.slots t 4).cast nbuf0_4)
theorem live_5 : ∀ t : Fin cfg0.N, cfg0.idle 5 (grid0.coords t) = false := fun _ => rfl
abbrev ms_5 (t : Fin cfg0.N) : Memref sig .tc .vmem S512x128 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x128 .bf16 := win0_6.stage (cfg0.slots t 6)
abbrev hs_6 (t : Fin cfg0.N) : (ms_6 t).IsWhole := hstage0_6 ((cfg0.slots t 6).cast nbuf0_6)
abbrev sc_0 : Memref sig .tc .vmem S512x128 .f32 := Memref.whole cc0_scratch0
abbrev sc_1 : Memref sig .tc .vmem S512x128 .f32 := Memref.whole cc0_scratch1
abbrev sc_2 : Memref sig .tc .vmem S512x128 .f32 := Memref.whole cc0_scratch2

theorem PhiA_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

/-- The region invariant before position `n`: the scratch at anything before the first point, afterwards at what the point
    before left. -/
def PhiS (c : Dev nD) : (n : ℕ) → n ≤ cfg0.N → sProp 𝕄
  | 0, _ => Pipeline.ΦA spec0 c
  | n + 1, hn => iprop(iprop(owns (c : Thread nD τ) sc_0 fullShare (aft m c n hn).1 ∗ owns (c : Thread nD τ) sc_1 fullShare (aft m c n hn).2.1 ∗ owns (c : Thread nD τ) sc_2 fullShare (aft m c n hn).2.2.1) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc_0 fullShare (aft m c n hn).1 ∗ owns (c : Thread nD τ) sc_1 fullShare (aft m c n hn).2.1 ∗ owns (c : Thread nD τ) sc_2 fullShare (aft m c n hn).2.2.1) ∗ (∃ r, prngReg c r)) := rfl
theorem PhiS_pos (c : Dev nD) (n : ℕ) (h : n ≤ cfg0.N) (hz : n ≠ 0) :
    PhiS m c n h = iprop(iprop(owns (c : Thread nD τ) sc_0 fullShare (aft m c (n - 1) (by omega)).1 ∗ owns (c : Thread nD τ) sc_1 fullShare (aft m c (n - 1) (by omega)).2.1 ∗ owns (c : Thread nD τ) sc_2 fullShare (aft m c (n - 1) (by omega)).2.2.1) ∗ (∃ r, prngReg c r)) := by
  cases n with
  | zero => exact absurd rfl hz
  | succ n => rfl

/-- The pipeline's proof data: every input's buffer at its block, the output's at what the points have left in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (aft m c t.val t.isLt).2.2.2
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (aft m c t.val t.isLt).2.2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The output's buffer at the points that do not write it -/

theorem idle_out : ∀ t : Fin cfg0.N, cfg0.idle 6 (grid0.coords t) = true ↔ ¬t.val / 8 % 8 = t.val % 8 :=
  (by decide +kernel : ∀ t : Fin grid0.N, cfg0.idle 6 (grid0.coords t) = true ↔ ¬t.val / 8 % 8 = t.val % 8)

theorem aft_zero (c : Dev nD) (t : Fin cfg0.N) (hz : t.val = 0) (σ) :
    aft m c t.val t.isLt = stp (grid0.coords t) (iblk m c 0 t) (iblk m c 1 t) (iblk m c 2 t) (iblk m c 3 t) (iblk m c 4 t) (iblk m c 5 t) σ := by
  have h0 := (hcR t).mpr (by rw [hz])
  have h2 := (hcO t).mpr (by rw [hz])
  obtain ⟨k, hk⟩ := t
  cases k with
  | zero => exact stp_reset _ _ _ _ _ _ _ _ _ h0 h2
  | succ k => exact absurd hz (Nat.succ_ne_zero k)

/-- A point that does not write leaves the output component as the point before left it. -/
theorem aft_out_idle (c : Dev nD) (t : Fin cfg0.N) (h : ¬t.val / 8 % 8 = t.val % 8) :
    (aft m c t.val t.isLt).2.2.2 = (aft m c (t.val - 1) (Nat.lt_of_le_of_lt (Nat.sub_le _ _) t.isLt)).2.2.2 := by
  have hz : t.val ≠ 0 := fun hz => h (by rw [hz])
  rw [aft_pos m c t hz]
  have hO : ¬cO (grid0.coords t) := fun hh => h ((hcO t).mp hh)
  simp only [stp, if_neg hO]

/-- Whether the output's buffer holds nothing the body stored, when the body runs at position `n`: from the first block of
    keys to the diagonal one. -/
theorem fresh_out : ∀ n, n ≤ cfg0.N → cfg0.fresh 6 n = decide (n % 8 ≤ n / 8 % 8) :=
  Pipeline.Cfg.fresh_tab cfg0 6 (fun n => decide (n % 8 ≤ n / 8 % 8)) (by decide) (fun t => by
    have hf : (cfg0.win 6).flush t = decide (t.val % 8 = 7) := by
      rw [Bool.eq_iff_iff, flush0_6 t, decide_eq_true_iff]
    have hi : cfg0.idle 6 (cfg0.grid.coords t) = decide (¬t.val / 8 % 8 = t.val % 8) := by
      rw [Bool.eq_iff_iff]; exact (idle_out t).trans (by rw [decide_eq_true_iff])
    show decide ((t.val + 1) % 8 ≤ (t.val + 1) / 8 % 8) = _
    rw [hf, hi, Bool.eq_iff_iff]
    simp only [Bool.or_eq_true, Bool.and_eq_true, decide_eq_true_iff]
    by_cases h7 : t.val % 8 = 7
    · omega
    · have e : (t.val + 1) / 8 = t.val / 8 := by omega
      rw [e]; omega)

/-- What the body finds in the output's buffer: anything up to the diagonal, afterwards what the point before left. -/
theorem before_out (c : Dev nD) (t : Fin cfg0.N) (d) : (dats m 0 c).before 6 t d
    = if cfg0.fresh 6 t.val then d else (aft m c (t.val - 1) (Nat.lt_of_le_of_lt (Nat.sub_le _ _) t.isLt)).2.2.2 :=
  (dats m 0 c).before_out_traj 6 rfl (fun _ _ => rfl) (fun t _ hi _ => by
    rw [after_6, after_6]
    exact aft_out_idle m c t ((idle_out t).mp hi)) t.val t rfl d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What the body leaves in the output's buffer is what the proof data say of it. -/
theorem leaves_out (c : Dev nD) (t : Fin cfg0.N) (d) (σ : Vec F S512x128 .f32 × Vec F S512x128 .f32 × Vec F S512x128 .f32 × Vec F S512x128 .bf16) (hσ : σ.2.2.2 = (dats m 0 c).before 6 t d)
    (ha : t.val ≠ 0 → (σ.1, σ.2.1, σ.2.2.1) = ((aft m c (t.val - 1) (Nat.lt_of_le_of_lt (Nat.sub_le _ _) t.isLt)).1, (aft m c (t.val - 1) (Nat.lt_of_le_of_lt (Nat.sub_le _ _) t.isLt)).2.1, (aft m c (t.val - 1) (Nat.lt_of_le_of_lt (Nat.sub_le _ _) t.isLt)).2.2.1)) :
    owns (c : Thread nD τ) (ms_6 t) fullShare (stp (grid0.coords t) (iblk m c 0 t) (iblk m c 1 t) (iblk m c 2 t) (iblk m c 3 t) (iblk m c 4 t) (iblk m c 5 t) σ).2.2.2
      ⊢ (dats m 0 c).leavesExact 6 t := by
  by_cases hO : t.val / 8 % 8 = t.val % 8
  · have hi : cfg0.idle 6 (cfg0.grid.coords t) = false := by
      rw [← Bool.not_eq_true]; exact fun h => (idle_out t).mp h hO
    have e : (dats m 0 c).leavesExact 6 t = owns (c : Thread nD τ) (ms_6 t) fullShare ((dats m 0 c).after 6 t) := by
      unfold Dat.leavesExact; rw [hi]
    rw [e, after_6]
    have e2 : (stp (grid0.coords t) (iblk m c 0 t) (iblk m c 1 t) (iblk m c 2 t) (iblk m c 3 t) (iblk m c 4 t) (iblk m c 5 t) σ).2.2.2 = (aft m c t.val t.isLt).2.2.2 := by
      by_cases hz : t.val = 0
      · exact congrArg (fun p => p.2.2.2) (aft_zero m c t hz σ).symm
      · rw [aft_pos m c t hz]
        have h' := ha hz
        simp only [Prod.mk.injEq] at h'
        simp only [stp, if_pos ((hcO t).mpr hO), h'.1, h'.2.1, h'.2.2]
    rw [e2]
  · have hi : cfg0.idle 6 (cfg0.grid.coords t) = true := (idle_out t).mpr hO
    have e2 : (stp (grid0.coords t) (iblk m c 0 t) (iblk m c 1 t) (iblk m c 2 t) (iblk m c 3 t) (iblk m c 4 t) (iblk m c 5 t) σ).2.2.2 = (dats m 0 c).before 6 t d := by
      simp only [stp, if_neg (fun h => hO ((hcO t).mp h)), hσ]
    rw [e2]
    by_cases hf : (cfg0.win 6).flush t = true
    · have e : (dats m 0 c).leavesExact 6 t = owns (c : Thread nD τ) (ms_6 t) fullShare ((dats m 0 c).after 6 t) := by
        unfold Dat.leavesExact; rw [hi, hf]
      have hfr : cfg0.fresh 6 t.val = false := by
        rw [fresh_out t.val t.isLt.le]
        have := (flush0_6 t).mp hf
        exact decide_eq_false (by omega)
      rw [e, after_6, before_out m c t d, hfr, aft_out_idle m c t hO]
      try exact .rfl
    · rw [(dats m 0 c).leavesExact_idle 6 t hi (by simpa using hf)]
      iintro H; iexists d; iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  rw [show (dats m 0 c).leavesExact 4 t = owns (c : Thread nD τ) (ms_4 t) fullShare ((dats m 0 c).after 4 t) from by
    unfold Dat.leavesExact; rw [live_4 t], after_4]
  rw [show (dats m 0 c).leavesExact 5 t = owns (c : Thread nD τ) (ms_5 t) fullShare ((dats m 0 c).after 5 t) from by
    unfold Dat.leavesExact; rw [live_5 t], after_5]
  have h01 : cR (grid0.coords t) → cU (grid0.coords t) := fun h => (hcU t).mpr (by have := (hcR t).mp h; omega)
  have h21 : cO (grid0.coords t) → cU (grid0.coords t) := fun h => (hcU t).mpr (by have := (hcO t).mp h; omega)
  by_cases hz : t.val = 0
  · rw [PhiS_castSucc m c t, PhiS_zero m c _ _ hz, PhiA_eq]
    iintro ⟨⟨⟨⟨%a, HS0⟩, ⟨%l, HS1⟩, ⟨%s, HS2⟩⟩, Hg⟩, Ho, ⟨%d0, H0⟩, ⟨%d1, H1⟩, ⟨%d2, H2⟩, ⟨%d3, H3⟩, ⟨%d4, H4⟩, ⟨%d5, H5⟩, ⟨%d6, H6⟩⟩
    iapply (run c (grid0.coords t) _ _ _ _ _ _ _ _ _ _ _ _ _ _ _ _ _ _ _ _ h01 h21 (iblk m c 0 t) (iblk m c 1 t) (iblk m c 2 t) (iblk m c 3 t) (iblk m c 4 t) (iblk m c 5 t) _ a l s Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    rw [aft_zero m c t hz (a, l, s, (dats m 0 c).before 6 t d6)]
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_out m c t d6 (a, l, s, (dats m 0 c).before 6 t d6) rfl (fun h => absurd hz h))
    iexact H6
  · rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (run c (grid0.coords t) _ _ _ _ _ _ _ _ _ _ _ _ _ _ _ _ _ _ _ _ h01 h21 (iblk m c 0 t) (iblk m c 1 t) (iblk m c 2 t) (iblk m c 3 t) (iblk m c 4 t) (iblk m c 5 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    rw [aft_pos m c t hz]
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_out m c t d6 (_, _, _, (dats m 0 c).before 6 t d6) rfl (fun _ => rfl))
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 2048 := N_0; omega), PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every weakly fair run terminates, the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.FoxIdeal.Hand
end
-- ==== Proof.Softmax.lean ====
/- The softmax of one row of scores, taken in block by block.

   A row has scores `s 0, s 1, …` and values `v 0, v 1, …` (extended reals). After the first `n` keys the running state is
   the greatest score, the sum of the weights `exp (s k - greatest)`, and the sum of the values under these weights.
   `L_add` and `A_add`: taking in a further block rescales the old sums by `exp (old greatest - new greatest)` and adds the
   block's own. `normal`: the quotient of the two sums is the sum of the values under the normalised weights, over all the
   keys, where the keys not taken in are masked (their score is `⊥`). -/
module
public import Idealize.ShloMosaic.PureOps.Ideal
public import Idealize.ShloMosaic.Lib.WordCmp
@[expose] public section
noncomputable section
namespace Cert.Softmax
open Idealize.ShloMosaic

theorem ofBits_neg_inf : Ideal.ofBits .f32 0xFF800000#32 = ⊥ := by
  simp [Ideal.ofBits, Ideal.ieee]

theorem fold_max {ι : Type*} (S : Finset ι) (f : ι → EReal) :
    S.fold max (Ideal.ofBits .f32 0xFF800000#32) f = S.sup f := by
  rw [ofBits_neg_inf]; rfl

/-- The comparison of two positions, each a block of 512 and a place in it, as a condition on numbers. -/
theorem mask_select {α : Type} (a b r k : ℕ) (ha : a < 8) (hb : b < 8) (hr : r < 512) (hk : k < 512) (x y : α) :
    Scalar.select (IntOp.cmpi .sge (IntOp.addi (Scalar.muli (BitVec.ofNat 32 a) 512#32) (BitVec.ofNat 32 r))
      (IntOp.addi (Scalar.muli (BitVec.ofNat 32 b) 512#32) (BitVec.ofNat 32 k))) x y
      = if 512 * b + k ≤ 512 * a + r then x else y := by
  have e (c n : ℕ) : IntOp.addi (Scalar.muli (BitVec.ofNat 32 c) 512#32) (BitVec.ofNat 32 n) = BitVec.ofNat 32 (512 * c + n) := by
    rw [show Scalar.muli (BitVec.ofNat 32 c) 512#32 = BitVec.ofNat 32 (c * 512) from WordCmp.muli_ofNat c 512, WordCmp.addi_ofNat,
      Nat.mul_comm]
  rw [e, e]
  by_cases h : 512 * b + k ≤ 512 * a + r
  · rw [if_pos h, WordCmp.select_of_eq_one ((WordCmp.cmpi_sge_ofNat_eq_one_iff (by omega) (by omega)).2 h)]
  · rw [if_neg h, WordCmp.select_of_eq_zero ((WordCmp.cmpi_sge_ofNat_eq_zero_iff (by omega) (by omega)).2 (by omega))]

theorem le_select {α : Type} (r k : ℕ) (hr : r < 4096) (hk : k < 4096) (x y : α) :
    Scalar.select (IntOp.cmpi .sle (BitVec.ofNat 32 k) (BitVec.ofNat 32 r)) x y = if k ≤ r then x else y := by
  by_cases h : k ≤ r
  · rw [if_pos h, WordCmp.select_of_eq_one ((WordCmp.cmpi_sle_ofNat_eq_one_iff (by omega) (by omega)).2 h)]
  · rw [if_neg h, WordCmp.select_of_eq_zero ((WordCmp.cmpi_sle_ofNat_eq_zero_iff (by omega) (by omega)).2 (by omega))]

theorem subi_toInt (a b : ℕ) (ha : a < 2 ^ 20) (hb : b < 2 ^ 20) :
    (IntOp.subi (BitVec.ofNat 32 a) (BitVec.ofNat 32 b)).toInt = (a : ℤ) - b := by
  show (BitVec.ofNat 32 a - BitVec.ofNat 32 b).toInt = _
  rw [BitVec.toInt_sub, BitVec.toInt_ofNat', BitVec.toInt_ofNat', Int.bmod_def, Int.bmod_def, Int.bmod_def]
  omega

/-- The two comparisons of a distance, as a condition on the positions: the key is not later, and less than 128 earlier. -/
theorem band_eq (a b : ℕ) (ha : a < 2 ^ 20) (hb : b < 2 ^ 20) :
    IntOp.andi (IntOp.cmpi .sge (IntOp.subi (BitVec.ofNat 32 a) (BitVec.ofNat 32 b)) 0#32)
      (IntOp.cmpi .slt (IntOp.subi (BitVec.ofNat 32 a) (BitVec.ofNat 32 b)) 128#32)
      = BitVec.ofBool (decide (b ≤ a ∧ a < b + 128)) := by
  rw [WordCmp.cmpi_sge_eq, WordCmp.cmpi_slt_eq, subi_toInt a b ha hb, show (0#32).toInt = 0 from rfl, show (128#32).toInt = 128 from rfl]
  by_cases h : b ≤ a <;> by_cases h' : a < b + 128
  · rw [decide_eq_true (by omega), decide_eq_true (by omega), decide_eq_true (by omega)]; rfl
  · rw [decide_eq_true (by omega), decide_eq_false (by omega), decide_eq_false (by omega)]; rfl
  · rw [decide_eq_false (by omega), decide_eq_true (by omega), decide_eq_false (by omega)]; rfl
  · rw [decide_eq_false (by omega), decide_eq_false (by omega), decide_eq_false (by omega)]; rfl

theorem sup_fin (b : ℕ) (f : ℕ → EReal) : (Finset.univ.sup fun k : Fin b => f k.val) = (Finset.range b).sup f :=
  le_antisymm (Finset.sup_le fun k _ => Finset.le_sup (f := f) (Finset.mem_range.2 k.isLt))
    (Finset.sup_le fun k hk => Finset.le_sup (f := fun k : Fin b => f k.val) (Finset.mem_univ ⟨k, Finset.mem_range.1 hk⟩))

/-! ## Numbers that are not infinite -/

/-- An extended real that is a real number. -/
def Real' (x : EReal) : Prop := ∃ r : ℝ, x = r

theorem Real'.ne_top {x : EReal} (h : Real' x) : x ≠ ⊤ := by obtain ⟨r, rfl⟩ := h; exact EReal.coe_ne_top r
theorem Real'.ne_bot {x : EReal} (h : Real' x) : x ≠ ⊥ := by obtain ⟨r, rfl⟩ := h; exact EReal.coe_ne_bot r
theorem Real'.mul {x y : EReal} (hx : Real' x) (hy : Real' y) : Real' (x * y) := by
  obtain ⟨r, rfl⟩ := hx; obtain ⟨t, rfl⟩ := hy; exact ⟨r * t, (EReal.coe_mul r t).symm⟩
theorem Real'.add {x y : EReal} (hx : Real' x) (hy : Real' y) : Real' (x + y) := by
  obtain ⟨r, rfl⟩ := hx; obtain ⟨t, rfl⟩ := hy; exact ⟨r + t, (EReal.coe_add r t).symm⟩
theorem Real'.sub {x y : EReal} (hx : Real' x) (hy : Real' y) : Real' (x - y) := by
  obtain ⟨r, rfl⟩ := hx; obtain ⟨t, rfl⟩ := hy; exact ⟨r - t, (EReal.coe_sub r t).symm⟩
theorem Real'.sum {ι : Type*} (S : Finset ι) (f : ι → EReal) (h : ∀ k ∈ S, Real' (f k)) : Real' (∑ k ∈ S, f k) := by
  classical
  induction S using Finset.induction_on with
  | empty => exact ⟨0, by simp⟩
  | insert a S ha ih =>
    rw [Finset.sum_insert ha]
    exact (h a (Finset.mem_insert_self a S)).add (ih fun k hk => h k (Finset.mem_insert_of_mem hk))

/-- A number whose absolute value compares below infinity is a real number. -/
theorem Real'.of_cmp {x : EReal} (h : Ideal.cmp .olt (max x (-x)) (Ideal.ofBits .f32 0x7F800000#32) = 1#1) : Real' x := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

variable (s v : ℕ → EReal)

/-- The greatest of the first `n` scores. -/
def M (n : ℕ) : EReal := (Finset.range n).sup s
/-- The sum of the first `n` weights. -/
def L (n : ℕ) : EReal := ∑ k ∈ Finset.range n, Ideal.exp (s k - M s n)
/-- The sum of the first `n` values under their weights. -/
def A (n : ℕ) : EReal := ∑ k ∈ Finset.range n, Ideal.exp (s k - M s n) * v k

theorem exp_nonneg (x : EReal) : 0 ≤ Ideal.exp x := by
  induction x with
  | bot => simp
  | top => simp
  | coe r => rw [Ideal.exp_coe]; exact_mod_cast (Real.exp_pos r).le

/-- A real factor that is not negative goes into a finite sum. -/
theorem mul_sum {ι : Type*} (S : Finset ι) (f : ι → EReal) {c : EReal} (h0 : 0 ≤ c) (h1 : c ≠ ⊤) :
    c * ∑ k ∈ S, f k = ∑ k ∈ S, c * f k := by
  classical
  induction S using Finset.induction_on with
  | empty => simp
  | insert a S ha ih => rw [Finset.sum_insert ha, Finset.sum_insert ha, EReal.left_distrib_of_nonneg_of_ne_top h0 h1, ih]

theorem M_add (a b : ℕ) : M s (a + b) = max (M s a) ((Finset.range b).sup fun k => s (a + k)) := by
  unfold M
  refine le_antisymm (Finset.sup_le fun k hk => ?_) (max_le (Finset.sup_mono ?_) (Finset.sup_le fun k hk => ?_))
  · rw [Finset.mem_range] at hk
    rcases Nat.lt_or_ge k a with h | h
    · exact le_max_of_le_left (Finset.le_sup (f := s) (Finset.mem_range.2 h))
    · refine le_max_of_le_right ?_
      have := Finset.le_sup (f := fun k => s (a + k)) (Finset.mem_range.2 (show k - a < b by omega))
      simpa [Nat.add_sub_cancel' h] using this
  · exact fun k hk => Finset.mem_range.2 (by rw [Finset.mem_range] at hk; omega)
  · exact Finset.le_sup (f := s) (Finset.mem_range.2 (by rw [Finset.mem_range] at hk; omega))

variable {s}

theorem M_ne_top (n : ℕ) (ht : ∀ k < n, s k ≠ ⊤) : M s n ≠ ⊤ :=
  ((Finset.sup_lt_iff (show (⊥ : EReal) < ⊤ from bot_lt_top)).2 fun k hk => lt_top_iff_ne_top.2 (ht k (Finset.mem_range.1 hk))).ne

theorem M_ne_bot {n : ℕ} (hn : 0 < n) (h0 : s 0 ≠ ⊥) : M s n ≠ ⊥ := fun h =>
  h0 (le_bot_iff.1 (h ▸ Finset.le_sup (f := s) (Finset.mem_range.2 hn)))

/-- Rescaling a weight from one real greatest score to another. -/
theorem exp_rescale {m m' x : EReal} (hb : m ≠ ⊥) (ht : m ≠ ⊤) (hb' : m' ≠ ⊥) (ht' : m' ≠ ⊤) (hx : x ≠ ⊤) :
    Ideal.exp (m - m') * Ideal.exp (x - m) = Ideal.exp (x - m') := by
  lift m to ℝ using ⟨ht, hb⟩
  lift m' to ℝ using ⟨ht', hb'⟩
  induction x with
  | bot => rw [EReal.bot_sub, EReal.bot_sub, Ideal.exp_bot, mul_zero]
  | top => exact absurd rfl hx
  | coe r =>
    rw [← EReal.coe_sub, ← EReal.coe_sub, ← EReal.coe_sub, Ideal.exp_coe, Ideal.exp_coe, Ideal.exp_coe, ← EReal.coe_mul,
      ← Real.exp_add]
    congr 2; ring

theorem exp_ne_top {m m' : EReal} (hb : m ≠ ⊥) (ht : m ≠ ⊤) (hb' : m' ≠ ⊥) (ht' : m' ≠ ⊤) : Ideal.exp (m - m') ≠ ⊤ := by
  lift m to ℝ using ⟨ht, hb⟩
  lift m' to ℝ using ⟨ht', hb'⟩
  rw [← EReal.coe_sub, Ideal.exp_coe]
  exact EReal.coe_ne_top _

/-- Taking in `b` further keys: the sum of the weights. -/
theorem L_add (a b : ℕ) (h0 : s 0 ≠ ⊥) (ht : ∀ k < a + b, s k ≠ ⊤) :
    Ideal.exp (M s a - M s (a + b)) * L s a + ∑ k ∈ Finset.range b, Ideal.exp (s (a + k) - M s (a + b)) = L s (a + b) := by
  unfold L
  rw [Finset.sum_range_add]
  congr 1
  rcases Nat.eq_zero_or_pos a with rfl | ha
  · simp
  have hb := M_ne_bot ha h0; have hb' := M_ne_bot (show 0 < a + b by omega) h0
  have hm := M_ne_top a fun k hk => ht k (by omega); have hm' := M_ne_top (a + b) ht
  rw [mul_sum _ _ (exp_nonneg _) (exp_ne_top hb hm hb' hm')]
  exact Finset.sum_congr rfl fun k hk => exp_rescale hb hm hb' hm' (ht k (by rw [Finset.mem_range] at hk; omega))

/-- Taking in `b` further keys: the sum of the values under their weights. -/
theorem A_add (a b : ℕ) (h0 : s 0 ≠ ⊥) (ht : ∀ k < a + b, s k ≠ ⊤) :
    Ideal.exp (M s a - M s (a + b)) * A s v a + ∑ k ∈ Finset.range b, Ideal.exp (s (a + k) - M s (a + b)) * v (a + k)
      = A s v (a + b) := by
  unfold A
  rw [Finset.sum_range_add]
  congr 1
  rcases Nat.eq_zero_or_pos a with rfl | ha
  · simp
  have hb := M_ne_bot ha h0; have hb' := M_ne_bot (show 0 < a + b by omega) h0
  have hm := M_ne_top a fun k hk => ht k (by omega); have hm' := M_ne_top (a + b) ht
  rw [mul_sum _ _ (exp_nonneg _) (exp_ne_top hb hm hb' hm')]
  refine Finset.sum_congr rfl fun k hk => ?_
  rw [← mul_assoc, exp_rescale hb hm hb' hm' (ht k (by rw [Finset.mem_range] at hk; omega))]

theorem L_pos {n : ℕ} (hn : 0 < n) (h0 : s 0 ≠ ⊥) (ht : ∀ k < n, s k ≠ ⊤) : 0 < L s n := by
  refine lt_of_lt_of_le ?_ (Finset.single_le_sum (f := fun k => Ideal.exp (s k - M s n)) (fun k _ => exp_nonneg _) (Finset.mem_range.2 hn))
  have hb := M_ne_bot hn h0; have hm := M_ne_top n ht; have h0t := ht 0 hn
  show 0 < Ideal.exp (s 0 - M s n)
  generalize M s n = m at *
  generalize s 0 = x at *
  lift m to ℝ using ⟨hm, hb⟩
  lift x to ℝ using ⟨h0t, h0⟩
  rw [← EReal.coe_sub, Ideal.exp_coe]
  exact_mod_cast Real.exp_pos _

/-- Masked keys change nothing: the greatest score. -/
theorem M_masked {n N : ℕ} (hN : n ≤ N) (hmask : ∀ k, n ≤ k → k < N → s k = ⊥) : M s N = M s n := by
  obtain ⟨b, rfl⟩ := Nat.exists_eq_add_of_le hN
  rw [M_add]
  refine max_eq_left (Finset.sup_le fun k hk => ?_)
  rw [Finset.mem_range] at hk
  rw [hmask (n + k) (by omega) (by omega)]
  exact bot_le

/-- Masked keys change nothing: the sum of the weights. -/
theorem L_masked {n N : ℕ} (hN : n ≤ N) (hmask : ∀ k, n ≤ k → k < N → s k = ⊥) : L s N = L s n := by
  unfold L
  rw [M_masked hN hmask]
  refine (Finset.sum_subset (Finset.range_subset_range.2 hN) fun k hk hk' => ?_).symm
  rw [Finset.mem_range] at hk hk'
  rw [hmask k (by omega) hk, EReal.bot_sub, Ideal.exp_bot]

/-- The quotient of the two sums is the sum of the values under the normalised weights. -/
theorem normal {n N : ℕ} (hn : 0 < n) (hN : n ≤ N) (h0 : s 0 ≠ ⊥) (ht : ∀ k < n, s k ≠ ⊤)
    (hmask : ∀ k, n ≤ k → k < N → s k = ⊥) :
    Ideal.div (A s v n) (L s n) = ∑ k ∈ Finset.range N, v k * Ideal.div (Ideal.exp (s k - M s N)) (L s N) := by
  have hL := (L_pos hn h0 ht).ne'
  have hi : (L s n)⁻¹ ≠ ⊤ := by
    generalize L s n = l at *
    induction l with
    | bot => simp
    | top => simp
    | coe r => exact EReal.coe_ne_top _
  rw [M_masked hN hmask, L_masked hN hmask]
  simp only [Ideal.div, if_neg hL]
  unfold A
  rw [mul_comm, mul_sum _ _ (EReal.inv_nonneg_of_nonneg (L_pos hn h0 ht).le) hi]
  rw [← Finset.sum_subset (Finset.range_subset_range.2 hN) (f := fun k => v k * (Ideal.exp (s k - M s n) * (L s n)⁻¹))]
  · refine Finset.sum_congr rfl fun k _ => ?_
    rw [mul_comm, mul_comm (Ideal.exp _) (v k), mul_assoc]
  · intro k hk hk'
    rw [Finset.mem_range] at hk hk'
    rw [hmask k (by omega) hk, EReal.bot_sub, Ideal.exp_bot, zero_mul, mul_zero]

end Cert.Softmax
-- ==== Proof.FoxPay.lean ====
/- The forgetting attention's body at one point, read entry by entry. -/
module
public import proofs.«01_k».proof.Proof.Gen.FoxIdeal
public import proofs.«01_k».proof.Proof.Gen.FoxIdeal.Skeleton
public import proofs.«01_k».proof.Proof.Softmax
public import Idealize.ShloMosaic.Lib.Pipeline.ValueKit
public import Idealize.ShloMosaic.Lib.Pointwise
@[expose] public section
set_option maxRecDepth 16384
noncomputable section
namespace Cert.FoxIdeal.Hand
open Cert.FoxIdeal Cert.FoxIdeal.Gen Idealize.ShloMosaic Idealize.ShloMosaic.TcCoe Idealize.SL.Sem

theorem mask_bot : (Named.named κ "mask" 0xF149F2CA#32 : Ideal .f32) = (⊥ : EReal) :=
  IdealRules.named_const.ideal_named_scalar _ _ _ _ rfl

/-- The score of row `r` and key `k` of one pair of blocks, the blocks' first rows at `512 a` and `512 b`. -/
def sc (a b : ℕ) (x0 x1 : Vec Ideal S512x128 .bf16) (x3 : Vec Ideal S1x1x512x1 .f32) (x4 : Vec Ideal S1x1x1x512 .f32)
    (r k : Fin 512) : EReal :=
  if 512 * b + k.val ≤ 512 * a + r.val then
    (∑ d : Fin 128, x0 (ix2 r d) * x1 (ix2 k d)) * Ideal.ofBits .f32 0x3DB504F3#32 + (x3 (ix4 0 0 r 0) - x4 (ix4 0 0 0 k))
  else ⊥

theorem pay8 (a b : ℕ) (ha : a < 8) (hb : b < 8) (x0 x1 : Vec Ideal S512x128 .bf16) (x3 : Vec Ideal S1x1x512x1 .f32)
    (x4 : Vec Ideal S1x1x1x512 .f32) (y : S512x512.Idx) :
    k0_pay8 (BitVec.ofNat 32 a) (BitVec.ofNat 32 b) x0 x1 x3 x4 y = sc a b x0 x1 x3 x4 (y 0) (y 1) := by
  pointwise [k0_pay8, sc]
  rw [Softmax.mask_select a b _ _ ha hb (y 0).isLt (y 1).isLt, mask_bot]

theorem pay13 (w w' : BitVec 32) (x0 x1 : Vec Ideal S512x128 .bf16) (x3 : Vec Ideal S1x1x512x1 .f32)
    (x4 : Vec Ideal S1x1x1x512 .f32) (a : Vec Ideal S512x1 .f32) (y : S512x1.Idx) :
    k0_pay13 w w' x0 x1 x3 x4 a y = ∑ k : Fin 512, k0_pay11 w w' x0 x1 x3 x4 a (ix2 (y 0) k) := by
  pointwise [k0_pay13]

theorem pay11 (w w' : BitVec 32) (x0 x1 : Vec Ideal S512x128 .bf16) (x3 : Vec Ideal S1x1x512x1 .f32)
    (x4 : Vec Ideal S1x1x1x512 .f32) (a : Vec Ideal S512x1 .f32) (y : S512x512.Idx) :
    k0_pay11 w w' x0 x1 x3 x4 a y = Ideal.exp (k0_pay8 w w' x0 x1 x3 x4 y - k0_pay9 w w' x0 x1 x3 x4 a (ix2 (y 0) 0)) := by
  pointwise [k0_pay11]

theorem pay10 (w w' : BitVec 32) (x0 x1 : Vec Ideal S512x128 .bf16) (x3 : Vec Ideal S1x1x512x1 .f32)
    (x4 : Vec Ideal S1x1x1x512 .f32) (a : Vec Ideal S512x1 .f32) (y : S512x1.Idx) :
    k0_pay10 w w' x0 x1 x3 x4 a y = Ideal.exp (a y - k0_pay9 w w' x0 x1 x3 x4 a y) := by
  pointwise [k0_pay10]

theorem pay9 (w w' : BitVec 32) (x0 x1 : Vec Ideal S512x128 .bf16) (x3 : Vec Ideal S1x1x512x1 .f32)
    (x4 : Vec Ideal S1x1x1x512 .f32) (a : Vec Ideal S512x1 .f32) (y : S512x1.Idx) :
    k0_pay9 w w' x0 x1 x3 x4 a y = max (a y) (Finset.univ.sup fun k : Fin 512 => k0_pay8 w w' x0 x1 x3 x4 (ix2 (y 0) k)) := by
  pointwise [k0_pay9]
  rw [Softmax.fold_max]

theorem pay12 (w w' : BitVec 32) (x0 x1 : Vec Ideal S512x128 .bf16) (x3 : Vec Ideal S1x1x512x1 .f32)
    (x4 : Vec Ideal S1x1x1x512 .f32) (a l : Vec Ideal S512x1 .f32) (y : S512x1.Idx) :
    k0_pay12 w w' x0 x1 x3 x4 a l y = k0_pay10 w w' x0 x1 x3 x4 a y * l y := by
  pointwise [k0_pay12]

theorem pay4 (u u' : Vec Ideal S512x1 .f32) (y : S512x128.Idx) :
    k0_pay4 (F := Ideal) u u' y = u (ix2 (y 0) 0) + u' (ix2 (y 0) 0) := by
  pointwise [k0_pay4]

theorem pay5 (e : Vec Ideal S512x1 .f32) (p : Vec Ideal S512x512 .f32) (s : Vec Ideal S512x128 .f32) (x2 : Vec Ideal S512x128 .bf16)
    (y : S512x128.Idx) :
    k0_pay5 e p s x2 y = e (ix2 (y 0) 0) * s y + ∑ k : Fin 512, p (ix2 (y 0) k) * x2 (ix2 k (y 1)) := by
  pointwise [k0_pay5]

theorem pay6 (u : Vec Ideal S512x1 .f32) (y : S512x128.Idx) : k0_pay6 (F := Ideal) u y = u (ix2 (y 0) 0) := by
  pointwise [k0_pay6]

theorem pay7 (z : Vec Ideal S512x128 .bf16) (s : Vec Ideal S512x128 .f32) (l : Vec Ideal S512x1 .f32) (y : S512x128.Idx) :
    k0_pay7 z s l y = Ideal.div (s y) (l (ix2 (y 0) 0)) * (z y * Ideal.logistic (z y)) := by
  pointwise [k0_pay7]

theorem pay1 (y : S512x128.Idx) : k0_pay1 (F := Ideal) y = (⊥ : EReal) := by
  pointwise [k0_pay1]
  exact mask_bot
theorem pay2 (y : S512x128.Idx) : k0_pay2 (F := Ideal) y = 0 := by
  pointwise [k0_pay2]
theorem pay3 (y : S512x128.Idx) : k0_pay3 (F := Ideal) y = 0 := by
  pointwise [k0_pay3]

end Cert.FoxIdeal.Hand
-- ==== Proof.FoxScore.lean ====
/- The forgetting attention, written for one row of queries: its scores, its values, its result. -/
module
public import proofs.«01_k».proof.Proof.Softmax
public import Idealize.ShloMosaic.Lib.Pointwise
@[expose] public section
noncomputable section
namespace Cert.FoxMath
open Idealize.ShloMosaic Cert.Softmax

abbrev Proj := (⟨2, ![16384, 12288]⟩ : Shape).Idx → EReal
abbrev Cum := (⟨3, ![4, 8, 4096]⟩ : Shape).Idx → EReal

/-- The row of position `n` of batch entry `b`. -/
def row (b : Fin 4) (n : ℕ) : Fin 16384 := ⟨4096 * b.val + n % 4096, by have := b.isLt; have := Nat.mod_lt n (show 0 < 4096 by decide); omega⟩
/-- The column of feature `d` of head `h` in the part of the projection that begins at `1024 a`. -/
def colm (a : Fin 12) (h : Fin 8) (d : Fin 128) : Fin 12288 :=
  ⟨1024 * a.val + 128 * h.val + d.val, by have := a.isLt; have := h.isLt; have := d.isLt; omega⟩
def pos (n : ℕ) : Fin 4096 := ⟨n % 4096, Nat.mod_lt n (by decide)⟩

/-- The score of query `q` and key `n`: the scaled product and the difference of the cumulative gates, `⊥` where the key
    is later than the query. -/
def score (x : Proj) (g : Cum) (b : Fin 4) (h : Fin 8) (q : Fin 4096) (n : ℕ) : EReal :=
  if n ≤ q.val then
    (∑ d : Fin 128, x (ix2 (row b q.val) (colm 4 h d)) * x (ix2 (row b n) (colm 5 h d))) * Ideal.ofBits .f32 0x3DB504F3#32
      + (g (ix3 b h q) - g (ix3 b h (pos n)))
  else ⊥
/-- The value of feature `d` at key `n`. -/
def value (x : Proj) (b : Fin 4) (h : Fin 8) (d : Fin 128) (n : ℕ) : EReal := x (ix2 (row b n) (colm 6 h d))
/-- The gate of query `q` at feature `d`. -/
def gate (x : Proj) (b : Fin 4) (h : Fin 8) (q : Fin 4096) (d : Fin 128) : EReal :=
  x (ix2 (row b q.val) (colm 7 h d)) * Ideal.logistic (x (ix2 (row b q.val) (colm 7 h d)))

/-- One entry of the result: the values under the softmax of the scores, gated. -/
def out (x : Proj) (g : Cum) (b : Fin 4) (h : Fin 8) (q : Fin 4096) (d : Fin 128) : EReal :=
  (∑ n ∈ Finset.range 4096, value x b h d n
    * Ideal.div (Ideal.exp (score x g b h q n - M (score x g b h q) 4096)) (L (score x g b h q) 4096)) * gate x b h q d

/-- The whole result. -/
def res (x : Proj) (g : Cum) : (⟨2, ![16384, 1024]⟩ : Shape).Idx → EReal := fun i =>
  out x g ⟨(i 0).val / 4096, by have : (i 0).val < 16384 := (i 0).isLt; omega⟩ ⟨(i 1).val / 128, by have : (i 1).val < 1024 := (i 1).isLt; omega⟩
    ⟨(i 0).val % 4096, by omega⟩ ⟨(i 1).val % 128, by omega⟩

theorem res_at (x : Proj) (g : Cum) (i : (⟨2, ![16384, 1024]⟩ : Shape).Idx) (b : Fin 4) (h : Fin 8) (q : Fin 4096) (d : Fin 128)
    (h0 : (i 0).val = 4096 * b.val + q.val) (h1 : (i 1).val = 128 * h.val + d.val) : res x g i = out x g b h q d := by
  have := b.isLt; have := h.isLt; have := q.isLt; have := d.isLt
  unfold res
  congr 1 <;> apply Fin.ext <;> dsimp only <;> omega

theorem at_eq (x : Proj) {a a' : Fin 16384} {e e' : Fin 12288} (ha : a.val = a'.val) (he : e.val = e'.val) :
    x (ix2 a e) = x (ix2 a' e') := by rw [Fin.ext ha, Fin.ext he]

theorem cum_at_eq (g : Cum) {b b' : Fin 4} {h h' : Fin 8} {n n' : Fin 4096} (hb : b.val = b'.val) (hh : h.val = h'.val)
    (hn : n.val = n'.val) : g (ix3 b h n) = g (ix3 b' h' n') := by rw [Fin.ext hb, Fin.ext hh, Fin.ext hn]

/-- The queries and keys and the cumulative gates are real numbers. -/
structure Finite (x : Proj) (g : Cum) : Prop where
  qk : ∀ (b : Fin 4) (n : ℕ) (h : Fin 8) (d : Fin 128), Real' (x (ix2 (row b n) (colm 4 h d))) ∧ Real' (x (ix2 (row b n) (colm 5 h d)))
  cum : ∀ (b : Fin 4) (h : Fin 8) (n : Fin 4096), Real' (g (ix3 b h n))

theorem scale_real : Real' (Ideal.ofBits .f32 0x3DB504F3#32) := by
  simp only [Ideal.ofBits, Ideal.ieee]
  norm_num
  exact ⟨_, rfl⟩

variable {x : Proj} {g : Cum} (hf : Finite x g)
include hf

theorem score_real (b : Fin 4) (h : Fin 8) (q : Fin 4096) (n : ℕ) (hn : n ≤ q.val) : Real' (score x g b h q n) := by
  rw [score, if_pos hn]
  exact (((Real'.sum _ _ fun d _ => (hf.qk b q.val h d).1.mul (hf.qk b n h d).2).mul scale_real)).add ((hf.cum b h q).sub (hf.cum b h (pos n)))

theorem score_ne_top (b : Fin 4) (h : Fin 8) (q : Fin 4096) (n : ℕ) : score x g b h q n ≠ ⊤ := by
  by_cases hn : n ≤ q.val
  · exact (score_real hf b h q n hn).ne_top
  · rw [score, if_neg hn]; exact bot_ne_top

theorem score_zero (b : Fin 4) (h : Fin 8) (q : Fin 4096) : score x g b h q 0 ≠ ⊥ :=
  (score_real hf b h q 0 (Nat.zero_le _)).ne_bot

omit hf in
theorem score_masked (b : Fin 4) (h : Fin 8) (q : Fin 4096) (n : ℕ) (hn : q.val < n) : score x g b h q n = ⊥ :=
  if_neg (Nat.not_le.2 hn)

/-- The entry from the sums over the keys up to the query's block. -/
theorem out_eq (b : Fin 4) (h : Fin 8) (q : Fin 4096) (d : Fin 128) (n : ℕ) (hn : q.val < n) (hN : n ≤ 4096) :
    Ideal.div (A (score x g b h q) (value x b h d) n) (L (score x g b h q) n) * gate x b h q d = out x g b h q d := by
  rw [normal _ (by omega) hN (score_zero hf b h q) (fun k _ => score_ne_top hf b h q k) (fun k hk _ => score_masked b h q k (by omega))]
  rfl

end Cert.FoxMath
-- ==== Proof.FoxRefValue.lean ====
/- The reference's forgetting attention, read at an index: the result is `FoxMath.out`. -/
module
public import proofs.«01_k».proof.Defs
public import proofs.«01_k».proof.Proof.FoxScore
public import proofs.«01_k».proof.Proof.Gen.FoxRefIdeal.Read
public import Idealize.ShloMosaic.Lib.Pointwise
@[expose] public section
set_option maxRecDepth 16384
noncomputable section
namespace Cert.FoxRefIdeal.Hand
open Cert.FoxRefIdeal Cert.FoxRefIdeal.Gen Idealize.ShloMosaic Idealize.ShloMosaic.TcCoe Idealize.SL.Sem
open Cert.FoxMath Cert.Softmax Cert.FoxRefIdeal.Read

variable (x : Vec Ideal S16384x12288 .bf16) (g : Vec Ideal S4x8x4096 .f32)

theorem q_at (b : Fin 4) (q : Fin 4096) (h : Fin 8) (d : Fin 128) :
    val_main_v2 (F := Ideal) x (ix4 b q h d) = x (ix2 (row b q.val) (colm 4 h d)) := by
  pointwise [val_main_v2, val_main_v1, val_main_v0]
  have := q.isLt
  exact at_eq x (by simp only [row]; omega) (by simp only [colm]; omega)

theorem k_at (b : Fin 4) (q : Fin 4096) (h : Fin 8) (d : Fin 128) :
    val_main_v5 (F := Ideal) x (ix4 b q h d) = x (ix2 (row b q.val) (colm 5 h d)) := by
  pointwise [val_main_v5, val_main_v4, val_main_v3]
  have := q.isLt
  exact at_eq x (by simp only [row]; omega) (by simp only [colm]; omega)

theorem v_at (b : Fin 4) (q : Fin 4096) (h : Fin 8) (d : Fin 128) :
    val_main_v8 (F := Ideal) x (ix4 b q h d) = x (ix2 (row b q.val) (colm 6 h d)) := by
  pointwise [val_main_v8, val_main_v7, val_main_v6]
  have := q.isLt
  exact at_eq x (by simp only [row]; omega) (by simp only [colm]; omega)

theorem z_at (b : Fin 4) (q : Fin 4096) (h : Fin 8) (d : Fin 128) :
    val_main_v11 (F := Ideal) x (ix4 b q h d) = x (ix2 (row b q.val) (colm 7 h d)) := by
  pointwise [val_main_v11, val_main_v10, val_main_v9]
  have := q.isLt
  exact at_eq x (by simp only [row]; omega) (by simp only [colm]; omega)

theorem dot_at (b : Fin 4) (h : Fin 8) (q k : Fin 4096) :
    val_main_v12 (F := Ideal) x (ix4 b h q k)
      = ∑ d : Fin 128, x (ix2 (row b q.val) (colm 4 h d)) * x (ix2 (row b k.val) (colm 5 h d)) := by
  rw [val_main_v12_apply]
  refine Finset.sum_congr rfl fun d _ => ?_
  rw [← q_at x, ← k_at x]
  congr 2 <;> funext a <;> fin_cases a <;> rfl

theorem gates_at (b : Fin 4) (h : Fin 8) (q k : Fin 4096) :
    val_main_v19 (F := Ideal) g (ix4 b h q k) = g (ix3 b h q) - g (ix3 b h k) := by
  pointwise [val_main_v19, val_main_v18, val_main_v17, val_main_v16, val_main_v15]

theorem score_at (b : Fin 4) (h : Fin 8) (q k : Fin 4096) :
    val_main_v28 (F := Ideal) x g (ix4 b h q k) = score x g b h q k.val := by
  rw [val_main_v28_apply, val_main_v20_apply, val_main_v14_apply, dot_at, gates_at, val_main_v13_apply]
  simp only [val_main_call0_v1_apply, val_main_call0_v2_apply, val_main_call0_v0_apply, val_main_v27_apply, val_main_v26_apply,
    val_main_v25_apply, val_main_v24_apply, val_main_v23_apply, val_main_v22_apply, val_main_v21_apply]
  exact (le_select q.val k.val q.isLt k.isLt _ _).trans (by rw [score]; rw [show pos k.val = k from Fin.ext (Nat.mod_eq_of_lt k.isLt)]; rw [show val_main_cst_0 (F := Ideal) (idx_main_call0_v2 (ix4 b h q k)) = (⊥ : EReal) from Softmax.ofBits_neg_inf]; rfl)

theorem max_at (b : Fin 4) (h : Fin 8) (q : Fin 4096) :
    val_main_v31 (F := Ideal) x g (ix3 b h q) = Softmax.M (score x g b h q) 4096 := by
  rw [val_main_v31_apply]
  pointwise [val_main_v29, val_main_v30]
  rw [Softmax.M, ← sup_fin]
  simp only [score_at]
  refine Eq.trans (congrArg₂ max (Softmax.ofBits_neg_inf) (fold_max _ _)) ?_
  exact max_eq_right bot_le

theorem weight_at (b : Fin 4) (h : Fin 8) (q k : Fin 4096) :
    val_main_v35 (F := Ideal) x g (ix4 b h q k) = Ideal.exp (score x g b h q k.val - Softmax.M (score x g b h q) 4096) := by
  rw [val_main_v35_apply, val_main_v34_apply, score_at, val_main_v33_apply, val_main_v32_apply,
    show idx_main_v32 (idx_main_v33 (ix4 b h q k)) = ix3 b h q from by funext a; fin_cases a <;> rfl, max_at]
  generalize score x g b h q k.val = e
  generalize Softmax.M (score x g b h q) 4096 = f
  rfl

theorem sum_at (b : Fin 4) (h : Fin 8) (q : Fin 4096) :
    val_main_v36 (F := Ideal) x g (ix3 b h q) = L (score x g b h q) 4096 := by
  rw [val_main_v36_apply, L, Finset.sum_range]
  refine Eq.trans (congrArg₂ (· + ·) (show val_main_cst_3 (F := Ideal) _ = 0 by pointwise [val_main_cst_3]) (Finset.sum_congr rfl fun k _ =>
    (congrArg (val_main_v35 (F := Ideal) x g) (show idx_main_v36 (ix3 b h q) k = ix4 b h q k from by funext a; fin_cases a <;> rfl)).trans
      (weight_at x g b h q k))) ?_
  exact zero_add _

theorem prob_at (b : Fin 4) (h : Fin 8) (q k : Fin 4096) :
    val_main_v39 (F := Ideal) x g (ix4 b h q k)
      = Ideal.div (Ideal.exp (score x g b h q k.val - Softmax.M (score x g b h q) 4096)) (L (score x g b h q) 4096) := by
  rw [val_main_v39_apply, weight_at, val_main_v38_apply, val_main_v37_apply,
    show idx_main_v37 (idx_main_v38 (ix4 b h q k)) = ix3 b h q from by funext a; fin_cases a <;> rfl, sum_at]
  generalize Ideal.exp _ = e
  generalize L (score x g b h q) 4096 = f
  rfl

theorem att_at (b : Fin 4) (h : Fin 8) (q : Fin 4096) (d : Fin 128) :
    val_main_v40 (F := Ideal) x g (ix4 b h d q) = ∑ n ∈ Finset.range 4096, value x b h d n
      * Ideal.div (Ideal.exp (score x g b h q n - Softmax.M (score x g b h q) 4096)) (L (score x g b h q) 4096) := by
  rw [val_main_v40_apply, Finset.sum_range]
  refine Finset.sum_congr rfl fun k _ => ?_
  rw [← prob_at, value, ← v_at x]
  congr 2 <;> funext a <;> fin_cases a <;> rfl

theorem gate_at (b : Fin 4) (h : Fin 8) (q : Fin 4096) (d : Fin 128) :
    val_main_v42 (F := Ideal) x (ix4 b q h d) = gate x b h q d := by
  rw [gate, ← z_at x]
  pointwise [val_main_v42, val_main_call1_v5, val_main_call1_v4, val_main_call1_v3, val_main_call1_v2, val_main_call1_v1, val_main_call1_v0,
    val_main_call1_cst, val_main_call1_cst_0, Ideal.logistic]

theorem res_eq : val_main_v45 (F := Ideal) x g = res x g := by
  funext i
  have h0 : (i 0).val < 16384 := (i 0).isLt
  have h1 : (i 1).val < 1024 := (i 1).isLt
  rw [val_main_v45_apply, val_main_v44_apply, res, out, ← att_at, ← gate_at]
  refine (val_main_v43_apply (F := Ideal) x g _).trans ?_
  rw [val_main_v41_apply]
  refine congrArg₂ (· * ·) (congrArg _ ?_) (congrArg _ ?_)
  all_goals
    funext a
    fin_cases a <;> apply Fin.ext <;> dsimp [ix4] <;> omega

end Cert.FoxRefIdeal.Hand
end
-- ==== Proof.FoxValue.lean ====
/- The forgetting attention of `FoxIdeal`: the result array is `FoxMath.res`. -/
module
public import proofs.«01_k».proof.Defs
public import proofs.«01_k».proof.Proof.FoxIdealFrame
public import proofs.«01_k».proof.Proof.FoxPay
public import proofs.«01_k».proof.Proof.FoxScore
public import proofs.«01_k».proof.Proof.FoxRefValue
public import proofs.«01_k».proof.Proof.Gen.FoxRefIdeal.Run
public import Idealize.ShloMosaic.Lib.Pipeline.ValueKit
public import Idealize.ShloMosaic.Lib.Pipeline.ReadBack
public import Idealize.ShloMosaic.Lib.Pointwise
@[expose] public section
set_option maxRecDepth 16384
noncomputable section
namespace Cert.FoxIdeal.Hand
open Cert.FoxIdeal Cert.FoxIdeal.Gen Idealize.ShloMosaic Idealize.ShloMosaic.TcCoe Idealize.SL.Sem
open Cert.FoxMath Cert.Softmax

/-! ## One block of keys -/

theorem col_at (a : Vec Ideal S512x128 .f32) (r : Fin 512) (e : Fin 1) : col a (ix2 r e) = a (ix2 r 0) := by
  obtain rfl : e = 0 := Subsingleton.elim _ _
  unfold col
  pointwise []

/-- One block of keys taken in, at row `r`: the greatest score, the weights' sum and the weighted sums go from the keys
    before the block to the keys up to its end. -/
theorem step (i : grid0.Coords) (x0 x1 x2 : Vec Ideal S512x128 .bf16) (x3 : Vec Ideal S1x1x512x1 .f32)
    (x4 : Vec Ideal S1x1x1x512 .f32) (a l w : Vec Ideal S512x128 .f32) (r : Fin 512) (s : ℕ → EReal) (v : Fin 128 → ℕ → EReal)
    (n : ℕ) (hs : ∀ k : Fin 512, sc (i 2).val (i 3).val x0 x1 x3 x4 r k = s (n + k.val))
    (hv : ∀ (k : Fin 512) (d : Fin 128), x2 (ix2 k d) = v d (n + k.val)) (h0 : s 0 ≠ ⊥) (ht : ∀ k < n + 512, s k ≠ ⊤)
    (ha : ∀ d, a (ix2 r d) = Softmax.M s n) (hl : ∀ d, l (ix2 r d) = L s n) (hw : ∀ d, w (ix2 r d) = A s (v d) n) (d : Fin 128) :
    mN i x0 x1 x3 x4 a (ix2 r d) = Softmax.M s (n + 512) ∧ lN i x0 x1 x3 x4 a l (ix2 r d) = L s (n + 512)
      ∧ sN i x0 x1 x3 x4 x2 a w (ix2 r d) = A s (v d) (n + 512) := by
  have hi2 : (i 2).val < 8 := (i 2).isLt
  have hi3 : (i 3).val < 8 := (i 3).isLt
  have h8 (k : Fin 512) : k0_pay8 (BitVec.ofNat 32 (i 2).val) (BitVec.ofNat 32 (i 3).val) x0 x1 x3 x4 (ix2 r k) = s (n + k.val) := by
    rw [pay8 _ _ hi2 hi3]; exact hs k
  have h9 (e : Fin 1) : k0_pay9 (BitVec.ofNat 32 (i 2).val) (BitVec.ofNat 32 (i 3).val) x0 x1 x3 x4 (col a) (ix2 r e) = Softmax.M s (n + 512) := by
    rw [pay9, M_add, ← sup_fin, col_at, ha]
    exact congrArg (max _) (Finset.sup_congr rfl fun k _ => h8 k)
  have h11 (k : Fin 512) : k0_pay11 (BitVec.ofNat 32 (i 2).val) (BitVec.ofNat 32 (i 3).val) x0 x1 x3 x4 (col a) (ix2 r k)
      = Ideal.exp (s (n + k.val) - Softmax.M s (n + 512)) := by
    rw [pay11, h8]; exact congrArg (fun z => Ideal.exp (_ - z)) (h9 0)
  have h10 (e : Fin 1) : k0_pay10 (BitVec.ofNat 32 (i 2).val) (BitVec.ofNat 32 (i 3).val) x0 x1 x3 x4 (col a) (ix2 r e)
      = Ideal.exp (Softmax.M s n - Softmax.M s (n + 512)) := by
    rw [pay10, h9, col_at, ha]
  refine ⟨?_, ?_, ?_⟩
  · rw [mN, pay6]; exact h9 0
  · rw [lN, pay4, ← L_add n 512 h0 ht, Finset.sum_range]
    refine congrArg₂ (· + ·) ?_ ?_
    · refine (pay12 _ _ _ _ _ _ _ _ _).trans ?_
      exact congrArg₂ (· * ·) (h10 0) ((col_at l r 0).trans (hl 0))
    · refine (pay13 _ _ _ _ _ _ _ _).trans ?_
      exact Finset.sum_congr rfl fun k _ => h11 k
  · rw [sN, pay5, ← A_add _ n 512 h0 ht, Finset.sum_range]
    refine congrArg₂ (· + ·) (congrArg₂ (· * ·) (h10 0) (hw d)) ?_
    exact Finset.sum_congr rfl fun k _ => congrArg₂ (· * ·) (h11 k) (hv k d)

/-! ## The blocks of a point -/

variable (m : (ℓ : Loc nD τ sig) → Buf (Elt Ideal) ℓ) (ρ : Dev nD → PrngReg)

theorem idx : ∀ t : Fin cfg0.N, win0_0.index t (0 : Fin 2) = 8 * (t.val / 512) + t.val / 8 % 8 ∧ win0_0.index t (1 : Fin 2) = 32 + t.val / 64 % 8
    ∧ win0_1.index t (0 : Fin 2) = 8 * (t.val / 512) + min (t.val % 8) (t.val / 8 % 8) ∧ win0_1.index t (1 : Fin 2) = 40 + t.val / 64 % 8
    ∧ win0_2.index t (0 : Fin 2) = 8 * (t.val / 512) + min (t.val % 8) (t.val / 8 % 8) ∧ win0_2.index t (1 : Fin 2) = 48 + t.val / 64 % 8 :=
  (by decide +kernel : ∀ t : Fin grid0.N, _)
theorem idx' : ∀ t : Fin cfg0.N, win0_3.index t (0 : Fin 4) = t.val / 512 ∧ win0_3.index t (1 : Fin 4) = t.val / 64 % 8
    ∧ win0_3.index t (2 : Fin 4) = t.val / 8 % 8 ∧ win0_3.index t (3 : Fin 4) = 0
    ∧ win0_4.index t (0 : Fin 4) = t.val / 512 ∧ win0_4.index t (1 : Fin 4) = t.val / 64 % 8
    ∧ win0_4.index t (2 : Fin 4) = 0 ∧ win0_4.index t (3 : Fin 4) = min (t.val % 8) (t.val / 8 % 8)
    ∧ win0_5.index t (0 : Fin 2) = 8 * (t.val / 512) + t.val / 8 % 8 ∧ win0_5.index t (1 : Fin 2) = 56 + t.val / 64 % 8
    ∧ win0_6.index t (0 : Fin 2) = 8 * (t.val / 512) + t.val / 8 % 8 ∧ win0_6.index t (1 : Fin 2) = t.val / 64 % 8 :=
  (by decide +kernel : ∀ t : Fin grid0.N, _)
theorem co2 : ∀ t : Fin cfg0.N, ((grid0.coords t) 2).val = t.val / 8 % 8 ∧ ((grid0.coords t) 3).val = t.val % 8 :=
  (by decide +kernel : ∀ t : Fin grid0.N, _)

/-- The arguments. -/
abbrev X (c : Dev nD) : Proj := m ((c : Thread nD τ).loc main_arg0)
abbrev Gt (c : Dev nD) : Cum := m ((c : Thread nD τ).loc main_arg1)

theorem rd0 (c : Dev nD) (t : Fin cfg0.N) (r : Fin 512) (d : Fin 128) (i : Fin 16384) (j : Fin 12288)
    (hi : i.val = (8 * (t.val / 512) + t.val / 8 % 8) * 512 + r.val) (hj : j.val = (32 + t.val / 64 % 8) * 128 + d.val) :
    iblk m c 0 t (ix2 r d) = X m c (ix2 i j) := by
  obtain ⟨e0, e1, -⟩ := idx t
  blk_point [iblk, V, e0, e1, hi, hj]

theorem rd1 (c : Dev nD) (t : Fin cfg0.N) (r : Fin 512) (d : Fin 128) (i : Fin 16384) (j : Fin 12288)
    (hi : i.val = (8 * (t.val / 512) + min (t.val % 8) (t.val / 8 % 8)) * 512 + r.val) (hj : j.val = (40 + t.val / 64 % 8) * 128 + d.val) :
    iblk m c 1 t (ix2 r d) = X m c (ix2 i j) := by
  obtain ⟨-, -, e0, e1, -⟩ := idx t
  blk_point [iblk, V, e0, e1, hi, hj]

theorem rd2 (c : Dev nD) (t : Fin cfg0.N) (r : Fin 512) (d : Fin 128) (i : Fin 16384) (j : Fin 12288)
    (hi : i.val = (8 * (t.val / 512) + min (t.val % 8) (t.val / 8 % 8)) * 512 + r.val) (hj : j.val = (48 + t.val / 64 % 8) * 128 + d.val) :
    iblk m c 2 t (ix2 r d) = X m c (ix2 i j) := by
  obtain ⟨-, -, -, -, e0, e1⟩ := idx t
  blk_point [iblk, V, e0, e1, hi, hj]

theorem rd5 (c : Dev nD) (t : Fin cfg0.N) (r : Fin 512) (d : Fin 128) (i : Fin 16384) (j : Fin 12288)
    (hi : i.val = (8 * (t.val / 512) + t.val / 8 % 8) * 512 + r.val) (hj : j.val = (56 + t.val / 64 % 8) * 128 + d.val) :
    iblk m c 5 t (ix2 r d) = X m c (ix2 i j) := by
  obtain ⟨-, -, -, -, -, -, -, -, e0, e1, -⟩ := idx' t
  blk_point [iblk, V, e0, e1, hi, hj]

theorem rd3 (c : Dev nD) (t : Fin cfg0.N) (r : Fin 512) (b : Fin 4) (h : Fin 8) (q : Fin 4096)
    (hb : b.val = t.val / 512) (hh : h.val = t.val / 64 % 8) (hq : q.val = t.val / 8 % 8 * 512 + r.val) :
    iblk m c 3 t (ix4 0 0 r 0) = Gt m c (ix3 b h q) := by
  obtain ⟨e0, e1, e2, e3, -⟩ := idx' t
  blk_point [iblk, V, e0, e1, e2, e3, hb, hh, hq]

theorem rd4 (c : Dev nD) (t : Fin cfg0.N) (r : Fin 512) (b : Fin 4) (h : Fin 8) (q : Fin 4096)
    (hb : b.val = t.val / 512) (hh : h.val = t.val / 64 % 8) (hq : q.val = min (t.val % 8) (t.val / 8 % 8) * 512 + r.val) :
    iblk m c 4 t (ix4 0 0 0 r) = Gt m c (ix3 b h q) := by
  obtain ⟨-, -, -, -, e0, e1, e2, e3, -⟩ := idx' t
  blk_point [iblk, V, e0, e1, e2, e3, hb, hh, hq]

end Cert.FoxIdeal.Hand
end
-- ==== Proof.FoxResult.lean ====
/- The forgetting attention of `FoxIdeal` over its grid, and its agreement with the reference. -/
module
public import proofs.«01_k».proof.Defs
public import proofs.«01_k».proof.Proof.FoxValue
@[expose] public section
set_option maxRecDepth 16384
noncomputable section
namespace Cert.FoxIdeal.Hand
open Cert.FoxIdeal Cert.FoxIdeal.Gen Idealize.ShloMosaic Idealize.ShloMosaic.TcCoe Idealize.SL.Sem
open Cert.FoxMath Cert.Softmax

variable (m : (ℓ : Loc nD τ sig) → Buf (Elt Ideal) ℓ) (ρ : Dev nD → PrngReg)

/-! ## The blocks of a point, in the terms of the row -/

theorem sc_point (c : Dev nD) (t : Fin cfg0.N) (hU : t.val % 8 ≤ t.val / 8 % 8) (b : Fin 4) (h : Fin 8) (q : Fin 4096) (r k : Fin 512)
    (hb : b.val = t.val / 512) (hh : h.val = t.val / 64 % 8) (hq : q.val = 512 * (t.val / 8 % 8) + r.val) :
    sc ((grid0.coords t) 2).val ((grid0.coords t) 3).val (iblk m c 0 t) (iblk m c 1 t) (iblk m c 3 t) (iblk m c 4 t) r k
      = score (X m c) (Gt m c) b h q (512 * (t.val % 8) + k.val) := by
  have hk := k.isLt
  have hr := r.isLt
  have hq' := q.isLt
  have hmin : min (t.val % 8) (t.val / 8 % 8) = t.val % 8 := Nat.min_eq_left hU
  rw [(co2 t).1, (co2 t).2, sc, score, ← hq]
  congr 1
  refine congrArg₂ (· + ·) (congrArg (· * _) (Finset.sum_congr rfl fun d _ => ?_)) (congrArg₂ (· - ·) ?_ ?_)
  · exact congrArg₂ (· * ·) (rd0 m c t r d (row b q.val) (colm 4 h d) (by simp only [row]; omega) (by simp only [colm]; omega))
      (rd1 m c t k d (row b (512 * (t.val % 8) + k.val)) (colm 5 h d) (by rw [hmin]; simp only [row]; omega) (by simp only [colm]; omega))
  · exact rd3 m c t r b h q hb hh (by omega)
  · exact rd4 m c t k b h (pos (512 * (t.val % 8) + k.val)) hb hh (by rw [hmin]; simp only [pos]; omega)

theorem v_point (c : Dev nD) (t : Fin cfg0.N) (hU : t.val % 8 ≤ t.val / 8 % 8) (b : Fin 4) (h : Fin 8) (k : Fin 512) (d : Fin 128)
    (hb : b.val = t.val / 512) (hh : h.val = t.val / 64 % 8) :
    iblk m c 2 t (ix2 k d) = value (X m c) b h d (512 * (t.val % 8) + k.val) := by
  have hk := k.isLt
  have hmin : min (t.val % 8) (t.val / 8 % 8) = t.val % 8 := Nat.min_eq_left hU
  exact rd2 m c t k d (row b (512 * (t.val % 8) + k.val)) (colm 6 h d) (by rw [hmin]; simp only [row]; omega) (by simp only [colm]; omega)

theorem gate_point (c : Dev nD) (t : Fin cfg0.N) (b : Fin 4) (h : Fin 8) (q : Fin 4096) (r : Fin 512) (d : Fin 128)
    (hb : b.val = t.val / 512) (hh : h.val = t.val / 64 % 8) (hq : q.val = 512 * (t.val / 8 % 8) + r.val) :
    iblk m c 5 t (ix2 r d) = X m c (ix2 (row b q.val) (colm 7 h d)) := by
  have hr := r.isLt
  have hq' := q.isLt
  exact rd5 m c t r d (row b q.val) (colm 7 h d) (by simp only [row]; omega) (by simp only [colm]; omega)

/-! ## The state after each block of keys -/

theorem aft_some (c : Dev nD) (t : Fin cfg0.N) : ∃ σ, aft m c t.val t.isLt
    = stp (grid0.coords t) (iblk m c 0 t) (iblk m c 1 t) (iblk m c 2 t) (iblk m c 3 t) (iblk m c 4 t) (iblk m c 5 t) σ := by
  by_cases hz : t.val = 0
  · exact ⟨_, aft_zero m c t hz (k0_pay1 (F := Ideal), k0_pay1 (F := Ideal), k0_pay1 (F := Ideal), iblk m c 5 t)⟩
  · exact ⟨_, aft_pos m c t hz⟩

theorem state (c : Dev nD) (hf : FoxMath.Finite (X m c) (Gt m c)) : ∀ (j : ℕ) (t : Fin cfg0.N), t.val % 8 = j → j ≤ t.val / 8 % 8 →
    ∀ (b : Fin 4) (h : Fin 8) (q : Fin 4096) (r : Fin 512), b.val = t.val / 512 → h.val = t.val / 64 % 8 →
      q.val = 512 * (t.val / 8 % 8) + r.val → ∀ d : Fin 128,
      (aft m c t.val t.isLt).1 (ix2 r d) = Softmax.M (score (X m c) (Gt m c) b h q) (512 * j + 512)
      ∧ (aft m c t.val t.isLt).2.1 (ix2 r d) = L (score (X m c) (Gt m c) b h q) (512 * j + 512)
      ∧ (aft m c t.val t.isLt).2.2.1 (ix2 r d) = A (score (X m c) (Gt m c) b h q) (value (X m c) b h d) (512 * j + 512) := by
  intro j
  induction j with
  | zero =>
    intro t ht hU b h q r hb hh hq d
    obtain ⟨σ, hσ⟩ := aft_some m c t
    have cr := (hcR t).2 ht
    have cu := (hcU t).2 (by omega)
    rw [hσ]
    simp only [stp, if_pos cr, if_pos cu]
    refine step _ _ _ _ _ _ _ _ _ r (score (X m c) (Gt m c) b h q) (fun d => value (X m c) b h d) (512 * 0) (fun k => ?_) (fun k d => ?_)
      (score_zero hf b h q) (fun k _ => score_ne_top hf b h q k) (fun d => ?_) (fun d => ?_) (fun d => ?_) d
    · rw [sc_point m c t (by omega) b h q r k hb hh hq, ht]
    · rw [v_point m c t (by omega) b h k d hb hh, ht]
    · exact (pay1 _).trans (by simp [Softmax.M])
    · exact (pay2 _).trans (by simp [L])
    · exact (pay3 _).trans (by simp [A])
  | succ j ih =>
    intro t ht hU b h q r hb hh hq d
    have hz : t.val ≠ 0 := by omega
    have cr : ¬cR (grid0.coords t) := fun e => by have := (hcR t).1 e; omega
    have cu := (hcU t).2 (by omega)
    have IH := ih ⟨t.val - 1, Nat.lt_of_le_of_lt (Nat.sub_le _ _) t.isLt⟩ (by dsimp only; omega) (by dsimp only; omega) b h q r
      (by dsimp only; omega) (by dsimp only; omega) (by dsimp only; omega)
    rw [aft_pos m c t hz]
    simp only [stp, if_neg cr, if_pos cu]
    refine step _ _ _ _ _ _ _ _ _ r (score (X m c) (Gt m c) b h q) (fun d => value (X m c) b h d) (512 * (j + 1)) (fun k => ?_) (fun k d => ?_)
      (score_zero hf b h q) (fun k _ => score_ne_top hf b h q k) (fun d => ?_) (fun d => ?_) (fun d => ?_) d
    · rw [sc_point m c t (by omega) b h q r k hb hh hq, ht]
    · rw [v_point m c t (by omega) b h k d hb hh, ht]
    · exact (IH d).1
    · exact (IH d).2.1
    · exact (IH d).2.2

/-- The output block from the last block of keys taken in to the row's end. -/
theorem out_state (c : Dev nD) (hf : FoxMath.Finite (X m c) (Gt m c)) : ∀ (e : ℕ) (t : Fin cfg0.N), t.val % 8 = t.val / 8 % 8 + e →
    ∀ (b : Fin 4) (h : Fin 8) (q : Fin 4096) (r : Fin 512), b.val = t.val / 512 → h.val = t.val / 64 % 8 →
      q.val = 512 * (t.val / 8 % 8) + r.val → ∀ d : Fin 128,
      (aft m c t.val t.isLt).2.2.2 (ix2 r d) = out (X m c) (Gt m c) b h q d := by
  intro e
  induction e with
  | zero =>
    intro t ht b h q r hb hh hq d
    obtain ⟨-, h2, h3⟩ := state m c hf (t.val % 8) t rfl (by omega) b h q r hb hh hq d
    obtain ⟨-, h2', -⟩ := state m c hf (t.val % 8) t rfl (by omega) b h q r hb hh hq 0
    obtain ⟨σ, hσ⟩ := aft_some m c t
    have co := (hcO t).2 (by omega)
    have e : (aft m c t.val t.isLt).2.2.2 = oN (iblk m c 5 t) (aft m c t.val t.isLt).2.1 (aft m c t.val t.isLt).2.2.1 := by
      rw [hσ]; simp only [stp, if_pos co]
    rw [e, oN, pay7, h3]
    refine Eq.trans ?_ (out_eq hf b h q d (512 * (t.val % 8) + 512) (by have := r.isLt; omega) (by omega))
    exact congrArg₂ (· * ·) (congrArg (Ideal.div _) ((col_at _ r 0).trans h2'))
      (congrArg (fun z : EReal => z * Ideal.logistic z) (gate_point m c t b h q r d hb hh hq))
  | succ e ih =>
    intro t ht b h q r hb hh hq d
    rw [aft_out_idle m c t (by omega)]
    have e8 : (t.val - 1) / 8 = t.val / 8 := by omega
    exact ih ⟨t.val - 1, Nat.lt_of_le_of_lt (Nat.sub_le _ _) t.isLt⟩ (by dsimp only; rw [e8]; omega) b h q r
      (by dsimp only; omega) (by dsimp only; omega) (by dsimp only; rw [e8]; exact hq) d

/-! ## The result array -/

theorem final (c : Dev nD) (hf : FoxMath.Finite (X m c) (Gt m c)) : (dats m 0 c).arrAt 6 cfg0.N = res (X m c) (Gt m c) := by
  refine (dats m 0 c).arrAt_eq_of_covers 6 _ (by decide +kernel) fun t hf' y => ?_
  have h7 : t.val % 8 = 7 := (flush0_6 t).1 hf'
  obtain ⟨-, -, -, -, -, -, -, -, -, -, f0, f1⟩ := idx' t
  have ht : t.val < 2048 := t.isLt
  blk_simp
  rw [after_6]
  have hi : (((View.whole main_v2).slice (win0_6.rect t)).emb y 0).val = (8 * (t.val / 512) + t.val / 8 % 8) * 512 + (y 0).val := by
    blk_point [f0]
  have hj : (((View.whole main_v2).slice (win0_6.rect t)).emb y 1).val = t.val / 64 % 8 * 128 + (y 1).val := by
    blk_point [f1]
  have y0 : (y 0).val < 512 := (y 0).isLt
  have y1 : (y 1).val < 128 := (y 1).isLt
  have ey : y = ix2 (y 0) (y 1) := by funext a; fin_cases a <;> rfl
  have key := out_state m c hf (7 - t.val / 8 % 8) t (by omega) ⟨t.val / 512, by omega⟩ ⟨t.val / 64 % 8, by omega⟩
    ⟨512 * (t.val / 8 % 8) + (y 0).val, by omega⟩ (y 0) rfl rfl rfl (y 1)
  refine Eq.trans (congrArg _ ey) (key.trans (res_at _ _ _ _ _ _ _ ?_ ?_).symm)
  · rw [hi]; dsimp only; omega
  · rw [hj]; dsimp only; omega

/-! ## The precondition, read -/

theorem real_of {x : EReal} (h : BitVec.ofBool (decide (FloatOps.absf (F := Ideal) (φ := .f32) x < Ideal.ofBits .f32 0x7F800000#32)) = 1#1) :
    Real' x := Real'.of_cmp h

theorem finite_of_pre [Cert.Pre_finite_fox.Facts] (x : Vec Ideal S16384x12288 .bf16) (g : Vec Ideal S4x8x4096 .f32)
    (h : Cert.Pre_finite_fox.fn (F := Ideal) x g = fun _ => 1#1) : FoxMath.Finite x g where
  qk := by
    intro b n hh d
    have := b.isLt; have := hh.isLt; have := d.isLt; have := Nat.mod_lt n (show 0 < 4096 by decide)
    constructor
    · have e := congrFun h (ix2 ⟨4096 * b.val + n % 4096, by omega⟩ ⟨128 * hh.val + d.val, by omega⟩)
      revert e
      pointwise [Cert.Pre_finite_fox.fn]
      rw [dif_pos (by omega)]
      intro e
      refine Eq.mp (congrArg Real' (at_eq x rfl ?_)) (real_of e)
      simp only [colm]; omega
    · have e := congrFun h (ix2 ⟨4096 * b.val + n % 4096, by omega⟩ ⟨1024 + (128 * hh.val + d.val), by omega⟩)
      revert e
      pointwise [Cert.Pre_finite_fox.fn]
      rw [dif_pos (by omega)]
      intro e
      refine Eq.mp (congrArg Real' (at_eq x rfl ?_)) (real_of e)
      simp only [colm]; omega
  cum := by
    intro b hh n
    have := b.isLt; have := hh.isLt; have := n.isLt
    obtain ⟨i, hi⟩ : ∃ i : Fin 16448, i.val = 16384 + (16 * b.val + 2 * hh.val + n.val / 2048) := ⟨⟨_, by omega⟩, rfl⟩
    obtain ⟨j, hj⟩ : ∃ j : Fin 2048, j.val = n.val % 2048 := ⟨⟨_, by omega⟩, rfl⟩
    have e := congrFun h (ix2 i j)
    revert e
    pointwise [Cert.Pre_finite_fox.fn]
    rw [dif_neg (by omega)]
    intro e
    have k := real_of e
    refine Eq.mp (congrArg Real' (cum_at_eq g ?_ ?_ ?_)) k
    all_goals dsimp only; omega

theorem algebraic [Cert.Pre_finite_fox.Facts] : Cert.algebraic_FoxIdeal_FoxRefIdeal_pre_finite_fox (hFoxIdeal := Cert.FoxIdeal.Gen.facts)
    (hFoxRefIdeal := Cert.FoxRefIdeal.Gen.facts) := by
  intro m ρ m' ρ' hpre hm
  have hf (c : Dev nD) : FoxMath.Finite (X m c) (Gt m c) := finite_of_pre _ _ (hpre c)
  refine ⟨fun c => res (X m c) (Gt m c), ?_, ?_⟩
  · exact (θ_run defs _ _).mono (fun r h c => ⟨((h.1 c).1 6).trans (final m c (hf c)), h.2 c⟩)
      (θ_run_and (run_main m ρ) (frame_of m ρ (dats m) (A_eq m) (run_main m ρ)))
  · refine (θ_run Cert.FoxRefIdeal.defs _ _).mono (fun r h c => ⟨(h c).1.trans ?_, (h c).2⟩) (Cert.FoxRefIdeal.Value.run m' ρ')
    rw [Cert.FoxRefIdeal.Read.val_main_v45_eq, (hm c).1, (hm c).2]
    exact Cert.FoxRefIdeal.Hand.res_eq _ _

end Cert.FoxIdeal.Hand
end
-- ==== Proof.MergeValue.lean ====
/- The gated merge: the result array is the sum over the four branches of gate times branch product, the kernel's
   accumulator taking one branch per grid point. -/
module

public import proofs.«01_k».proof.Defs
public import proofs.«01_k».proof.Proof.Gen.MergeIdeal.Value
public import proofs.«01_k».proof.Proof.Gen.MergeRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Branch `n`'s addend: the sigmoid of the gate product times the branch product. -/
def term (x : Vec Ideal S16384x4096 .bf16) (wg : Vec Ideal S4x4096x4096 .f32) (b : Vec Ideal S16384x1024 .bf16)
    (wb : Vec Ideal S4x1024x4096 .f32) (n : Fin 4) (i : Fin 16384) (j : Fin 4096) : EReal :=
  Ideal.logistic (∑ k : Fin 4096, x (ix2 i k) * wg (ix3 n k j)) * ∑ k : Fin 1024, b (ix2 i k) * wb (ix3 n k j)

/-- The merged array. -/
def G (x : Vec Ideal S16384x4096 .bf16) (wg : Vec Ideal S4x4096x4096 .f32) (b0 b1 b2 b3 : Vec Ideal S16384x1024 .bf16)
    (wb : Vec Ideal S4x1024x4096 .f32) : Vec Ideal S16384x4096 .bf16 :=
  fun i => term x wg b0 wb 0 (i 0) (i 1) + term x wg b1 wb 1 (i 0) (i 1) + term x wg b2 wb 2 (i 0) (i 1)
    + term x wg b3 wb 3 (i 0) (i 1)

/-! ## What the accumulator holds after each of a tile's four points -/

theorem sc_A (c : Dev nD) (t : Fin cfg0.N) (h : t.val % 4 = 0) :
    (outsAt0 m c t.val t.isLt).2 = k0_pay2 (iblk m c 0 t) (iblk m c 1 t) (iblk m c 2 t) (iblk m c 6 t) := by
  rw [outsAt0_A m c t h (by omega) (by omega) (by omega) (by omega)]; frame_out

theorem sc_B (c : Dev nD) (t : Fin cfg0.N) (h : t.val % 4 = 1) :
    (outsAt0 m c t.val t.isLt).2 = k0_pay3 (iblk m c 0 t) (iblk m c 1 t)
      (outsAt0 m c (t.val - 1) (Nat.lt_of_le_of_lt (Nat.sub_le _ _) t.isLt)).2 (iblk m c 3 t) (iblk m c 6 t) := by
  rw [outsAt0_B m c t (by omega) h (by omega) (by omega) (by omega)]; frame_out
  rw [read_unread_whole]

theorem sc_C (c : Dev nD) (t : Fin cfg0.N) (h : t.val % 4 = 2) :
    (outsAt0 m c t.val t.isLt).2 = k0_pay4 (iblk m c 0 t) (iblk m c 1 t)
      (outsAt0 m c (t.val - 1) (Nat.lt_of_le_of_lt (Nat.sub_le _ _) t.isLt)).2 (iblk m c 4 t) (iblk m c 6 t) := by
  rw [outsAt0_C m c t (by omega) (by omega) h (by omega) (by omega)]; frame_out
  rw [read_unread_whole]

theorem out_D (c : Dev nD) (t : Fin cfg0.N) (h : t.val % 4 = 3) :
    (outsAt0 m c t.val t.isLt).1 = k0_pay6 (k0_pay5 (iblk m c 0 t) (iblk m c 1 t)
      (outsAt0 m c (t.val - 1) (Nat.lt_of_le_of_lt (Nat.sub_le _ _) t.isLt)).2 (iblk m c 5 t) (iblk m c 6 t)) := by
  rw [outsAt0_D m c t (by omega) (by omega) (by omega) h h]; frame_out
  rw [read_unread_whole]

/-! ## One point's addend, at an index of the tile -/

/-- The addend of one point from the point's blocks. -/
def blk (x : Vec Ideal S1024x4096 .bf16) (wg : Vec Ideal S1x4096x512 .bf16) (b : Vec Ideal S1024x1024 .bf16)
    (wb : Vec Ideal S1x1024x512 .bf16) (y : S1024x512.Idx) : EReal :=
  Ideal.logistic (∑ k : Fin 4096, x (ix2 (y 0) k) * wg (ix3 0 k (y 1))) * ∑ k : Fin 1024, b (ix2 (y 0) k) * wb (ix3 0 k (y 1))

theorem pay2 (x : Vec Ideal S1024x4096 .bf16) (wg : Vec Ideal S1x4096x512 .bf16) (b : Vec Ideal S1024x1024 .bf16)
    (wb : Vec Ideal S1x1024x512 .bf16) (y : S1024x512.Idx) : k0_pay2 x wg b wb y = blk x wg b wb y := by
  pointwise [k0_pay2, k0_pay1, blk]

theorem pay3 (x : Vec Ideal S1024x4096 .bf16) (wg : Vec Ideal S1x4096x512 .bf16) (a : Vec Ideal S1024x512 .f32)
    (b : Vec Ideal S1024x1024 .bf16)
    (wb : Vec Ideal S1x1024x512 .bf16) (y : S1024x512.Idx) : k0_pay3 x wg a b wb y = a y + blk x wg b wb y := by
  pointwise [k0_pay3, k0_pay1, blk]

theorem pay4 (x : Vec Ideal S1024x4096 .bf16) (wg : Vec Ideal S1x4096x512 .bf16) (a : Vec Ideal S1024x512 .f32)
    (b : Vec Ideal S1024x1024 .bf16)
    (wb : Vec Ideal S1x1024x512 .bf16) (y : S1024x512.Idx) : k0_pay4 x wg a b wb y = a y + blk x wg b wb y := by
  pointwise [k0_pay4, k0_pay1, blk]

theorem pay65 (x : Vec Ideal S1024x4096 .bf16) (wg : Vec Ideal S1x4096x512 .bf16) (a : Vec Ideal S1024x512 .f32)
    (b : Vec Ideal S1024x1024 .bf16)
    (wb : Vec Ideal S1x1024x512 .bf16) (y : S1024x512.Idx) :
    k0_pay6 (k0_pay5 x wg a b wb) y = a y + blk x wg b wb y := by
  pointwise [k0_pay6, k0_pay5, k0_pay1, blk]

/-! ## The blocks of the four points of a tile -/

theorem idx : ∀ t : Fin cfg0.N, win0_0.index t (0 : Fin 2) = t.val / 32 ∧ win0_0.index t (1 : Fin 2) = 0
    ∧ win0_1.index t (0 : Fin 3) = t.val % 4 ∧ win0_1.index t (1 : Fin 3) = 0 ∧ win0_1.index t (2 : Fin 3) = t.val / 4 % 8
    ∧ win0_2.index t (0 : Fin 2) = t.val / 32 ∧ win0_2.index t (1 : Fin 2) = 0
    ∧ win0_3.index t (0 : Fin 2) = t.val / 32 ∧ win0_3.index t (1 : Fin 2) = 0
    ∧ win0_4.index t (0 : Fin 2) = t.val / 32 ∧ win0_4.index t (1 : Fin 2) = 0
    ∧ win0_5.index t (0 : Fin 2) = t.val / 32 ∧ win0_5.index t (1 : Fin 2) = 0
    ∧ win0_6.index t (0 : Fin 3) = t.val % 4 ∧ win0_6.index t (1 : Fin 3) = 0 ∧ win0_6.index t (2 : Fin 3) = t.val / 4 % 8
    ∧ win0_7.index t (0 : Fin 2) = t.val / 32 ∧ win0_7.index t (1 : Fin 2) = t.val / 4 % 8 :=
  (by decide +kernel : ∀ t : Fin grid0.N, _)

theorem blk0 (c : Dev nD) (s : Fin cfg0.N) (y : S1024x512.Idx) (i : Fin 16384) (j : Fin 4096)
    (hs : s.val % 4 = 0) (hi : i.val = s.val / 32 * 1024 + (y 0).val) (hj : j.val = s.val / 4 % 8 * 512 + (y 1).val) :
    blk (iblk m c 0 s) (iblk m c 1 s) (iblk m c 2 s) (iblk m c 6 s) y
      = term (m ((c : Thread nD τ).loc main_arg0)) (m ((c : Thread nD τ).loc main_arg1)) (m ((c : Thread nD τ).loc main_arg2))
          (m ((c : Thread nD τ).loc main_arg6)) 0 i j := by
  obtain ⟨e0, e1, e2, e3, e4, e5, e6, e7, e8, e9, e10, e11, e12, e13, e14, e15, -, -⟩ := idx s
  rw [hs] at e2 e13
  unfold blk term
  blk_point [iblk, V, e0, e1, e2, e3, e4, e5, e6, e7, e8, e9, e10, e11, e12, e13, e14, e15, hi, hj]

theorem blk1 (c : Dev nD) (s : Fin cfg0.N) (y : S1024x512.Idx) (i : Fin 16384) (j : Fin 4096)
    (hs : s.val % 4 = 1) (hi : i.val = s.val / 32 * 1024 + (y 0).val) (hj : j.val = s.val / 4 % 8 * 512 + (y 1).val) :
    blk (iblk m c 0 s) (iblk m c 1 s) (iblk m c 3 s) (iblk m c 6 s) y
      = term (m ((c : Thread nD τ).loc main_arg0)) (m ((c : Thread nD τ).loc main_arg1)) (m ((c : Thread nD τ).loc main_arg3))
          (m ((c : Thread nD τ).loc main_arg6)) 1 i j := by
  obtain ⟨e0, e1, e2, e3, e4, e5, e6, e7, e8, e9, e10, e11, e12, e13, e14, e15, -, -⟩ := idx s
  rw [hs] at e2 e13
  unfold blk term
  blk_point [iblk, V, e0, e1, e2, e3, e4, e5, e6, e7, e8, e9, e10, e11, e12, e13, e14, e15, hi, hj]

theorem blk2 (c : Dev nD) (s : Fin cfg0.N) (y : S1024x512.Idx) (i : Fin 16384) (j : Fin 4096)
    (hs : s.val % 4 = 2) (hi : i.val = s.val / 32 * 1024 + (y 0).val) (hj : j.val = s.val / 4 % 8 * 512 + (y 1).val) :
    blk (iblk m c 0 s) (iblk m c 1 s) (iblk m c 4 s) (iblk m c 6 s) y
      = term (m ((c : Thread nD τ).loc main_arg0)) (m ((c : Thread nD τ).loc main_arg1)) (m ((c : Thread nD τ).loc main_arg4))
          (m ((c : Thread nD τ).loc main_arg6)) 2 i j := by
  obtain ⟨e0, e1, e2, e3, e4, e5, e6, e7, e8, e9, e10, e11, e12, e13, e14, e15, -, -⟩ := idx s
  rw [hs] at e2 e13
  unfold blk term
  blk_point [iblk, V, e0, e1, e2, e3, e4, e5, e6, e7, e8, e9, e10, e11, e12, e13, e14, e15, hi, hj]

theorem blk3 (c : Dev nD) (s : Fin cfg0.N) (y : S1024x512.Idx) (i : Fin 16384) (j : Fin 4096)
    (hs : s.val % 4 = 3) (hi : i.val = s.val / 32 * 1024 + (y 0).val) (hj : j.val = s.val / 4 % 8 * 512 + (y 1).val) :
    blk (iblk m c 0 s) (iblk m c 1 s) (iblk m c 5 s) (iblk m c 6 s) y
      = term (m ((c : Thread nD τ).loc main_arg0)) (m ((c : Thread nD τ).loc main_arg1)) (m ((c : Thread nD τ).loc main_arg5))
          (m ((c : Thread nD τ).loc main_arg6)) 3 i j := by
  obtain ⟨e0, e1, e2, e3, e4, e5, e6, e7, e8, e9, e10, e11, e12, e13, e14, e15, -, -⟩ := idx s
  rw [hs] at e2 e13
  unfold blk term
  blk_point [iblk, V, e0, e1, e2, e3, e4, e5, e6, e7, e8, e9, e10, e11, e12, e13, e14, e15, hi, hj]

/-! ## The result array -/

theorem final (c : Dev nD) : (dats m 0 c).arrAt 7 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  have h3 : t.val % 4 = 3 := (flush0_7 t).1 hf
  obtain ⟨-, -, -, -, -, -, -, -, -, -, -, -, -, -, -, -, f0, f1⟩ := idx t
  have p1 : t.val - 1 < cfg0.N := Nat.lt_of_le_of_lt (Nat.sub_le _ _) t.isLt
  have p2 : t.val - 1 - 1 < cfg0.N := Nat.lt_of_le_of_lt (Nat.sub_le _ _) p1
  have p3 : t.val - 1 - 1 - 1 < cfg0.N := Nat.lt_of_le_of_lt (Nat.sub_le _ _) p2
  have hC := sc_C m c ⟨t.val - 1, p1⟩ (by show (t.val - 1) % 4 = 2; omega)
  have hB := sc_B m c ⟨t.val - 1 - 1, p2⟩ (by show (t.val - 1 - 1) % 4 = 1; omega)
  have hA := sc_A m c ⟨t.val - 1 - 1 - 1, p3⟩ (by show (t.val - 1 - 1 - 1) % 4 = 0; omega)
  dsimp only at hA hB hC
  blk_simp
  rw [after0_7, out_D m c t h3, pay65, hC, pay4, hB, pay3, hA, pay2]
  have hi : (((View.whole main_v2).slice (win0_7.rect t)).emb y 0).val = t.val / 32 * 1024 + (y 0).val := by
    blk_point [f0]
  have hj : (((View.whole main_v2).slice (win0_7.rect t)).emb y 1).val = t.val / 4 % 8 * 512 + (y 1).val := by
    blk_point [f1]
  rw [blk0 m c ⟨t.val - 1 - 1 - 1, p3⟩ y _ _ (by show (t.val - 1 - 1 - 1) % 4 = 0; omega) (hi.trans (by dsimp only; omega)) (hj.trans (by dsimp only; omega))]
  rw [blk1 m c ⟨t.val - 1 - 1, p2⟩ y _ _ (by show (t.val - 1 - 1) % 4 = 1; omega) (hi.trans (by dsimp only; omega)) (hj.trans (by dsimp only; omega))]
  rw [blk2 m c ⟨t.val - 1, p1⟩ y _ _ (by show (t.val - 1) % 4 = 2; omega) (hi.trans (by dsimp only; omega)) (hj.trans (by dsimp only; omega))]
  rw [blk3 m c t y _ _ h3 hi hj]
  rfl

theorem algebraic : Cert.algebraic_MergeIdeal_MergeRefIdeal (hMergeIdeal := Cert.MergeIdeal.Gen.facts)
    (hMergeRefIdeal := Cert.MergeRefIdeal.Gen.facts) := by
  intro m ρ m' ρ' _ hm
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)), ?_, ?_⟩
  · exact (θ_run defs _ _).mono (fun r h c => ⟨(h c).1.trans (final m c), (h c).2⟩) (Value.run_blocks m ρ)
  · refine (θ_run Cert.MergeRefIdeal.defs _ _).mono (fun r h c => ⟨(h c).1.trans ?_, (h c).2⟩) (Cert.MergeRefIdeal.Value.run m' ρ')
    rw [(hm c).1, (hm c).2.1, (hm c).2.2.1, (hm c).2.2.2.1, (hm c).2.2.2.2.1, (hm c).2.2.2.2.2.1, (hm c).2.2.2.2.2.2]
    funext i
    pointwise [G, term, Ideal.logistic]

end Cert.MergeIdeal.Hand

end
-- ==== Proof.ProjValue.lean ====
/- The input projection: the result array is the product of the argument arrays, as the reference has it. -/
module

public import proofs.«01_k».proof.Defs
public import proofs.«01_k».proof.Proof.Gen.ProjIdeal.Value
public import proofs.«01_k».proof.Proof.Gen.ProjRefIdeal.Read
public import Idealize.ShloMosaic.Lib.Pipeline.ValueKit
public import Idealize.ShloMosaic.Lib.Pointwise

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of the argument arrays. -/
def G (x : Vec Ideal S16384x4096 .bf16) (w : Vec Ideal S4096x12288 .f32) : Vec Ideal S16384x12288 .bf16 :=
  fun i => ∑ k : Fin 4096, x (ix2 (i 0) k) * w (ix2 k (i 1))

theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3⟩ := idx t
  pointwise [k0_pay1, G]
  blk_point [iblk, V, e0, e1, e2, e3]

/-- The algebraic claim of the input projection. -/
theorem algebraic : Cert.algebraic_ProjIdeal_ProjRefIdeal (hProjIdeal := Cert.ProjIdeal.Gen.facts) (hProjRefIdeal := Cert.ProjRefIdeal.Gen.facts) := by
  intro m ρ m' ρ' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (Value.run_blocks m ρ)
  · refine (θ_run Cert.ProjRefIdeal.defs _ _).mono (fun r h c => ⟨(h c).1.trans ?_, (h c).2⟩) (Cert.ProjRefIdeal.Value.run m' ρ')
    rw [(hm c).1, (hm c).2]
    funext i
    pointwise [G]

end Cert.ProjIdeal.Hand

end
-- ==== Proof.OutValue.lean ====
/- The output projection: the result array is the product of the argument arrays, as the reference has it. -/
module

public import proofs.«01_k».proof.Defs
public import proofs.«01_k».proof.Proof.Gen.OutIdeal.Value
public import proofs.«01_k».proof.Proof.Gen.OutRefIdeal.Read
public import Idealize.ShloMosaic.Lib.Pipeline.ValueKit
public import Idealize.ShloMosaic.Lib.Pointwise

@[expose] public section

set_option maxRecDepth 16384

noncomputable section

namespace Cert.OutIdeal.Hand

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of the argument arrays. -/
def G (x : Vec Ideal S16384x4096 .bf16) (w : Vec Ideal S4096x4096 .f32) : Vec Ideal S16384x4096 .f32 :=
  fun i => ∑ k : Fin 4096, x (ix2 (i 0) k) * w (ix2 k (i 1))

theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3⟩ := idx t
  pointwise [k0_pay1, G]
  blk_point [iblk, V, e0, e1, e2, e3]

/-- The algebraic claim of the output projection. -/
theorem algebraic : Cert.algebraic_OutIdeal_OutRefIdeal (hOutIdeal := Cert.OutIdeal.Gen.facts) (hOutRefIdeal := Cert.OutRefIdeal.Gen.facts) := by
  intro m ρ m' ρ' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (Value.run_blocks m ρ)
  · refine (θ_run Cert.OutRefIdeal.defs _ _).mono (fun r h c => ⟨(h c).1.trans ?_, (h c).2⟩) (Cert.OutRefIdeal.Value.run m' ρ')
    rw [(hm c).1, (hm c).2]
    funext i
    pointwise [G]

end Cert.OutIdeal.Hand

end
-- ==== Proof.NormValue.lean ====
/- The residual layer norm: both result arrays are the normalised rows of the scaled residual sum. -/
module

public import proofs.«01_k».proof.Defs
public import proofs.«01_k».proof.Proof.Gen.NormIdeal.Value
public import proofs.«01_k».proof.Proof.Gen.NormRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.NormIdeal.Hand

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The mean of a row of 4096 entries. -/
def mean (r : Fin 4096 → EReal) : EReal := Ideal.div (∑ k, r k) (Ideal.ofBits .f32 1166016512#32)

/-- Entry `j` of the normalised row, with gain `g` and bias `b` there. -/
def norm (r : Fin 4096 → EReal) (g b : EReal) (j : Fin 4096) : EReal :=
  (r j - mean r) * Ideal.rsqrt (mean (fun k => (r k - mean r) * (r k - mean r)) + Ideal.ofBits .f32 925353388#32) * g + b

/-- The result array: the norm of `√2 · x + y`, row by row. -/
def G (x y : Vec Ideal S16384x4096 .f32) (g b : Vec Ideal S4096 .f32) : S16384x4096.Idx → EReal :=
  fun i => norm (fun k => Ideal.ofBits .f32 1068827891#32 * x (ix2 (i 0) k) + y (ix2 (i 0) k)) (g (ix1 (i 1))) (b (ix1 (i 1))) (i 1)

/-- A block's entry. -/
theorem pay (x y : Vec Ideal S256x4096 .f32) (g b : Vec Ideal S1x4096 .f32) (i : S256x4096.Idx) :
    k0_pay1 x y g b i
      = norm (fun k => Ideal.ofBits .f32 1068827891#32 * x (ix2 (i 0) k) + y (ix2 (i 0) k)) (g (ix2 0 (i 1))) (b (ix2 0 (i 1))) (i 1) := by
  pointwise [k0_pay1, norm, mean]

theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A block's entry, from the arrays. -/
theorem block (c : Dev nD) (t : Fin cfg0.N) (y : S256x4096.Idx) (i : Fin 16384) (j : Fin 4096)
    (hi : i.val = t.val * 256 + (y 0).val) (hj : j.val = (y 1).val) :
    k0_pay1 (iblk m c 0 t) (iblk m c 1 t) (iblk m c 2 t) (iblk m c 3 t) y
      = G (m ((c : Thread nD τ).loc main_arg0)) (m ((c : Thread nD τ).loc main_arg1)) (m ((c : Thread nD τ).loc main_arg2))
          (m ((c : Thread nD τ).loc main_arg3)) (ix2 i j) := by
  obtain ⟨e0, e1, e2, e3, e4, e5, e6, e7, -, -, -, -⟩ := idx t
  rw [pay]
  unfold G
  have h2 : iblk m c 2 t (ix2 0 (y 1)) = m ((c : Thread nD τ).loc main_arg2) (ix1 j) := by
    blk_point [iblk, e4, e5]
  have h3 : iblk m c 3 t (ix2 0 (y 1)) = m ((c : Thread nD τ).loc main_arg3) (ix1 j) := by
    blk_point [iblk, e6, e7]
  have hy : y 1 = j := Fin.ext hj.symm
  rw [h2, h3]
  have hr : (fun k : Fin 4096 => Ideal.ofBits .f32 1068827891#32 * iblk m c 0 t (ix2 (y 0) k) + iblk m c 1 t (ix2 (y 0) k))
      = fun k : Fin 4096 => Ideal.ofBits .f32 1068827891#32 * m ((c : Thread nD τ).loc main_arg0) (ix2 i k) + m ((c : Thread nD τ).loc main_arg1) (ix2 i k) := by
    funext k
    blk_point [iblk, V, e0, e1, e2, e3, hi]
  rw [hr, hy]
  rfl

theorem final4 (c : Dev nD) : (dats m 0 c).arrAt 4 cfg0.N
    = G (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  obtain ⟨-, -, -, -, -, -, -, -, e8, e9, e10, e11⟩ := idx t
  blk_simp
  rw [after0_4]
  frame_out
  exact block m c t y _ _
    (show (((View.whole main_v2_0).slice (win0_4.rect t)).emb y 0).val = _ by blk_point [e8])
    (show (((View.whole main_v2_0).slice (win0_4.rect t)).emb y 1).val = _ by blk_point [e9])

theorem final5 (c : Dev nD) : (dats m 0 c).arrAt 5 cfg0.N
    = G (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t hf y => ?_
  obtain ⟨-, -, -, -, -, -, -, -, e8, e9, e10, e11⟩ := idx t
  blk_simp
  rw [after0_5]
  frame_out
  exact block m c t y _ _
    (show (((View.whole main_v2_1).slice (win0_5.rect t)).emb y 0).val = _ by blk_point [e10])
    (show (((View.whole main_v2_1).slice (win0_5.rect t)).emb y 1).val = _ by blk_point [e11])

theorem algebraic : Cert.algebraic_NormIdeal_NormRefIdeal (hNormIdeal := Cert.NormIdeal.Gen.facts)
    (hNormRefIdeal := Cert.NormRefIdeal.Gen.facts) := by
  intro m ρ m' ρ' _ hm
  refine ⟨fun c => G (m ((c : Thread nD τ).loc main_arg0)) (m ((c : Thread nD τ).loc main_arg1)) (m ((c : Thread nD τ).loc main_arg2))
        (m ((c : Thread nD τ).loc main_arg3)), fun c => G (m ((c : Thread nD τ).loc main_arg0)) (m ((c : Thread nD τ).loc main_arg1)) (m ((c : Thread nD τ).loc main_arg2))
        (m ((c : Thread nD τ).loc main_arg3)), ?_, ?_⟩
  · exact (θ_run defs _ _).mono (fun r h c => ⟨(h c).1.trans (final4 m c), (h c).2.1.trans (final5 m c), (h c).2.2⟩) (Value.run_blocks m ρ)
  · refine (θ_run Cert.NormRefIdeal.defs _ _).mono (fun r h c => ⟨(h c).1.trans ?_, (h c).2.1.trans ?_, (h c).2.2⟩) (Cert.NormRefIdeal.Value.run m' ρ')
    · rw [(hm c).1, (hm c).2.1, (hm c).2.2.1, (hm c).2.2.2]
      funext i
      pointwise [G, norm, mean]
    · rw [(hm c).1, (hm c).2.1, (hm c).2.2.1, (hm c).2.2.2]
      funext i
      pointwise [G, norm, mean]

end Cert.NormIdeal.Hand

end
-- ==== Proof.LatentIdealRun.lean ====
/- The body of `LatentIdeal` at one point, case by case of its three conditions. -/
module
public import proofs.«01_k».proof.Defs
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import Idealize.ShloMosaic.Lib.Pipeline.ValueKit
public import Idealize.ShloMosaic.Lib.Pipeline.ReadBack
public import Idealize.ShloMosaic.Lib.Pipeline.FrameBody
public import Idealize.ShloMosaic.Lib.Pipeline.TableIdle
public import Idealize.ShloMosaic.Lib.WordCmp
public import Idealize.ShloMosaic.Lib.VecWindow
@[expose] public section
set_option maxRecDepth 16384
noncomputable section
namespace Cert.LatentIdeal.Hand
open Cert.LatentIdeal Cert.LatentIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

/-! ## The three conditions of the body -/

/-- The scratch is reset: the first block of keys. -/
abbrev cR (i : grid0.Coords) : Prop := (Scalar.cmpi .ne (Scalar.extui (Scalar.cmpi .eq (BitVec.ofNat 32 (i 3).val) 0#32)) 0#32) = 1#1
/-- The block of keys is not past the block of queries: it is taken in. -/
abbrev cU (i : grid0.Coords) : Prop := (Scalar.cmpi .ne (Scalar.extui (Scalar.cmpi .sle (BitVec.ofNat 32 (i 3).val) (BitVec.ofNat 32 (i 2).val))) 0#32) = 1#1
/-- The last block of keys taken in: the output is written. -/
abbrev cO (i : grid0.Coords) : Prop := k0_cond3 i = 1#1

theorem hcR : ∀ t : Fin cfg0.N, cR (grid0.coords t) ↔ t.val % 8 = 0 :=
  (by decide +kernel : ∀ t : Fin grid0.N, cR (grid0.coords t) ↔ t.val % 8 = 0)
theorem hcU : ∀ t : Fin cfg0.N, cU (grid0.coords t) ↔ t.val % 8 ≤ t.val / 8 % 8 :=
  (by decide +kernel : ∀ t : Fin grid0.N, cU (grid0.coords t) ↔ t.val % 8 ≤ t.val / 8 % 8)
theorem hcO : ∀ t : Fin cfg0.N, cO (grid0.coords t) ↔ t.val / 8 % 8 = t.val % 8 :=
  (by decide +kernel : ∀ t : Fin grid0.N, cO (grid0.coords t) ↔ t.val / 8 % 8 = t.val % 8)

/-! ## What the body computes -/

/-- The first lane of a scratch buffer, as the body loads it. -/
def col (a : Vec F S512x128 .f32) : Vec F S512x1 .f32 := View.ld a (Rect.unit (s := S512x128) ![0, 0] ![512, 1] inb_S512x128_S512x1_0_0)

theorem readCov_col (v : View sig .tc .vmem S512x128 .f32) (w : Vec F S512x128 .f32) (L : List (View.Piece (Elt F) S512x128 .f32)) (inb) (inb') :
    v.readCov (⟨Rect.unit (s := S512x128) ![0, 0] (no_index ![512, 128]) inb, w⟩ :: L) (Rect.unit (s := S512x128) ![0, 0] (no_index ![512, 1]) inb').toLoadRect
      = View.ld w (Rect.unit (s := S512x128) ![0, 0] ![512, 1] inb') :=
  congrArg (fun X => View.ld X (Rect.unit (s := S512x128) ![0, 0] ![512, 1] inb')) (View.read_writes_full v v.junk inb w L)

/-- The running maximum after one block of keys, spread over the lanes. -/
def mN (i : grid0.Coords) (x0 : Vec F S512x256 .bf16) (x1 : Vec F S512x256 .bf16) (a : Vec F S512x128 .f32) : Vec F S512x128 .f32 := k0_pay5 (k0_pay8 (BitVec.ofNat 32 (i 2).val) (BitVec.ofNat 32 (i 3).val) x0 x1 (col a))
/-- The running sum of the weights after one block of keys, spread over the lanes. -/
def lN (i : grid0.Coords) (x0 : Vec F S512x256 .bf16) (x1 : Vec F S512x256 .bf16) (a l : Vec F S512x128 .f32) : Vec F S512x128 .f32 :=
  k0_pay11 (BitVec.ofNat 32 (i 2).val) (BitVec.ofNat 32 (i 3).val) x0 x1 (col a) (col l)
/-- The running weighted sum of the values after one block of keys. -/
def sN (i : grid0.Coords) (x0 : Vec F S512x256 .bf16) (x1 : Vec F S512x256 .bf16) (x2 : Vec F S512x128 .bf16) (a s : Vec F S512x128 .f32) : Vec F S512x128 .f32 :=
  k0_pay4 (k0_pay12 (BitVec.ofNat 32 (i 2).val) (BitVec.ofNat 32 (i 3).val) x0 x1 (col a) s)
    (k0_pay13 (BitVec.ofNat 32 (i 2).val) (BitVec.ofNat 32 (i 3).val) x0 x1 (col a)) x2
/-- The output block: the weighted sum over the weights' sum, gated. -/
def oN (x3 : Vec F S512x128 .bf16) (l s : Vec F S512x128 .f32) : Vec F S512x128 .bf16 := k0_pay6 x3 s (col l)

/-! ## The body's five cases -/

set_option maxHeartbeats 2000000 in
theorem run_A (c : Dev nD) (i : grid0.Coords) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : cR i) (hc1 : cU i) (hc2 : cO i) (x0 : Vec F S512x256 .bf16) (x1 : Vec F S512x256 .bf16) (x2 : Vec F S512x128 .bf16) (x3 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ owns (c : Thread nD τ) arg10 fullShare l ∗ owns (c : Thread nD τ) arg11 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (oN x3 (lN i x0 x1 k0_pay1 k0_pay2) (sN i x0 x1 x2 k0_pay1 k0_pay3)) ∗ owns (c : Thread nD τ) arg9 fullShare (mN i x0 x1 k0_pay1) ∗ owns (c : Thread nD τ) arg10 fullShare (lN i x0 x1 k0_pay1 k0_pay2) ∗ owns (c : Thread nD τ) arg11 fullShare (sN i x0 x1 x2 k0_pay1 k0_pay3)) -∗ K ⟨⟩))
      ⊢ wp frame (wpE (defs₀ (F := F)) Variants.none c none) E (cc0_flash_latent i arg4 harg4 arg5 harg5 arg6 harg6 arg7 harg7 arg8 harg8 arg9 harg9 arg10 harg10 arg11 harg11) K := by
  simp only [cc0_flash_latent_eq_skeleton]; unfold cc0_flash_latent_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; refine (View.read_writes_full _ _ _ _ _).trans ?_; (try frame_out); (try simp only [readCov_col]); rfl
  isplitl [H5]
  · iexists _; isplitr; swap; · iexact H5
    ipureintro; refine (View.read_writes_full _ _ _ _ _).trans ?_; (try frame_out); (try simp only [readCov_col]); rfl
  isplitl [H6]
  · iexists _; isplitr; swap; · iexact H6
    ipureintro; refine (View.read_writes_full _ _ _ _ _).trans ?_; (try frame_out); (try simp only [readCov_col]); rfl
  iexists _; isplitr; swap; · iexact H7
  ipureintro; refine (View.read_writes_full _ _ _ _ _).trans ?_; (try frame_out); (try simp only [readCov_col]); rfl

set_option maxHeartbeats 2000000 in
theorem run_C (c : Dev nD) (i : grid0.Coords) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : cR i) (hc1 : cU i) (hc2 : ¬cO i) (x0 : Vec F S512x256 .bf16) (x1 : Vec F S512x256 .bf16) (x2 : Vec F S512x128 .bf16) (x3 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ owns (c : Thread nD τ) arg10 fullShare l ∗ owns (c : Thread nD τ) arg11 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare (mN i x0 x1 k0_pay1) ∗ owns (c : Thread nD τ) arg10 fullShare (lN i x0 x1 k0_pay1 k0_pay2) ∗ owns (c : Thread nD τ) arg11 fullShare (sN i x0 x1 x2 k0_pay1 k0_pay3)) -∗ K ⟨⟩))
      ⊢ wp frame (wpE (defs₀ (F := F)) Variants.none c none) E (cc0_flash_latent i arg4 harg4 arg5 harg5 arg6 harg6 arg7 harg7 arg8 harg8 arg9 harg9 arg10 harg10 arg11 harg11) K := by
  simp only [cc0_flash_latent_eq_skeleton]; unfold cc0_flash_latent_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; exact harg8.read_unread _
  isplitl [H5]
  · iexists _; isplitr; swap; · iexact H5
    ipureintro; refine (View.read_writes_full _ _ _ _ _).trans ?_; (try frame_out); (try simp only [readCov_col]); rfl
  isplitl [H6]
  · iexists _; isplitr; swap; · iexact H6
    ipureintro; refine (View.read_writes_full _ _ _ _ _).trans ?_; (try frame_out); (try simp only [readCov_col]); rfl
  iexists _; isplitr; swap; · iexact H7
  ipureintro; refine (View.read_writes_full _ _ _ _ _).trans ?_; (try frame_out); (try simp only [readCov_col]); rfl

set_option maxHeartbeats 2000000 in
theorem run_D (c : Dev nD) (i : grid0.Coords) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : ¬cR i) (hc1 : cU i) (hc2 : cO i) (x0 : Vec F S512x256 .bf16) (x1 : Vec F S512x256 .bf16) (x2 : Vec F S512x128 .bf16) (x3 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ owns (c : Thread nD τ) arg10 fullShare l ∗ owns (c : Thread nD τ) arg11 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (oN x3 (lN i x0 x1 a l) (sN i x0 x1 x2 a s)) ∗ owns (c : Thread nD τ) arg9 fullShare (mN i x0 x1 a) ∗ owns (c : Thread nD τ) arg10 fullShare (lN i x0 x1 a l) ∗ owns (c : Thread nD τ) arg11 fullShare (sN i x0 x1 x2 a s)) -∗ K ⟨⟩))
      ⊢ wp frame (wpE (defs₀ (F := F)) Variants.none c none) E (cc0_flash_latent i arg4 harg4 arg5 harg5 arg6 harg6 arg7 harg7 arg8 harg8 arg9 harg9 arg10 harg10 arg11 harg11) K := by
  simp only [cc0_flash_latent_eq_skeleton]; unfold cc0_flash_latent_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; refine (View.read_writes_full _ _ _ _ _).trans ?_; (try frame_out); (try simp only [readCov_col]); rfl
  isplitl [H5]
  · iexists _; isplitr; swap; · iexact H5
    ipureintro; refine (View.read_writes_full _ _ _ _ _).trans ?_; (try frame_out); (try simp only [readCov_col]); rfl
  isplitl [H6]
  · iexists _; isplitr; swap; · iexact H6
    ipureintro; refine (View.read_writes_full _ _ _ _ _).trans ?_; (try frame_out); (try simp only [readCov_col]); rfl
  iexists _; isplitr; swap; · iexact H7
  ipureintro; refine (View.read_writes_full _ _ _ _ _).trans ?_; (try frame_out); (try simp only [readCov_col]); rfl

set_option maxHeartbeats 2000000 in
theorem run_E (c : Dev nD) (i : grid0.Coords) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : ¬cR i) (hc1 : cU i) (hc2 : ¬cO i) (x0 : Vec F S512x256 .bf16) (x1 : Vec F S512x256 .bf16) (x2 : Vec F S512x128 .bf16) (x3 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ owns (c : Thread nD τ) arg10 fullShare l ∗ owns (c : Thread nD τ) arg11 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare (mN i x0 x1 a) ∗ owns (c : Thread nD τ) arg10 fullShare (lN i x0 x1 a l) ∗ owns (c : Thread nD τ) arg11 fullShare (sN i x0 x1 x2 a s)) -∗ K ⟨⟩))
      ⊢ wp frame (wpE (defs₀ (F := F)) Variants.none c none) E (cc0_flash_latent i arg4 harg4 arg5 harg5 arg6 harg6 arg7 harg7 arg8 harg8 arg9 harg9 arg10 harg10 arg11 harg11) K := by
  simp only [cc0_flash_latent_eq_skeleton]; unfold cc0_flash_latent_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; exact harg8.read_unread _
  isplitl [H5]
  · iexists _; isplitr; swap; · iexact H5
    ipureintro; refine (View.read_writes_full _ _ _ _ _).trans ?_; (try frame_out); (try simp only [readCov_col]); rfl
  isplitl [H6]
  · iexists _; isplitr; swap; · iexact H6
    ipureintro; refine (View.read_writes_full _ _ _ _ _).trans ?_; (try frame_out); (try simp only [readCov_col]); rfl
  iexists _; isplitr; swap; · iexact H7
  ipureintro; refine (View.read_writes_full _ _ _ _ _).trans ?_; (try frame_out); (try simp only [readCov_col]); rfl

set_option maxHeartbeats 2000000 in
theorem run_B (c : Dev nD) (i : grid0.Coords) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (hc0 : ¬cR i) (hc1 : ¬cU i) (hc2 : ¬cO i) (x0 : Vec F S512x256 .bf16) (x1 : Vec F S512x256 .bf16) (x2 : Vec F S512x128 .bf16) (x3 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ owns (c : Thread nD τ) arg10 fullShare l ∗ owns (c : Thread nD τ) arg11 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ owns (c : Thread nD τ) arg10 fullShare l ∗ owns (c : Thread nD τ) arg11 fullShare s) -∗ K ⟨⟩))
      ⊢ wp frame (wpE (defs₀ (F := F)) Variants.none c none) E (cc0_flash_latent i arg4 harg4 arg5 harg5 arg6 harg6 arg7 harg7 arg8 harg8 arg9 harg9 arg10 harg10 arg11 harg11) K := by
  simp only [cc0_flash_latent_eq_skeleton]; unfold cc0_flash_latent_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc0 | sl_exact hc1 | sl_exact hc2)
  sl_step
  iapply Hk
  isplitl [H0]
  · iexists _; isplitr; swap; · iexact H0
    ipureintro; exact harg4.read_unread _
  isplitl [H1]
  · iexists _; isplitr; swap; · iexact H1
    ipureintro; exact harg5.read_unread _
  isplitl [H2]
  · iexists _; isplitr; swap; · iexact H2
    ipureintro; exact harg6.read_unread _
  isplitl [H3]
  · iexists _; isplitr; swap; · iexact H3
    ipureintro; exact harg7.read_unread _
  isplitl [H4]
  · iexists _; isplitr; swap; · iexact H4
    ipureintro; exact harg8.read_unread _
  isplitl [H5]
  · iexists _; isplitr; swap; · iexact H5
    ipureintro; exact harg9.read_unread _
  isplitl [H6]
  · iexists _; isplitr; swap; · iexact H6
    ipureintro; exact harg10.read_unread _
  iexists _; isplitr; swap; · iexact H7
  ipureintro; exact harg11.read_unread _

end Cert.LatentIdeal.Hand
end
-- ==== Proof.LatentIdealFrame.lean ====
/- The frame of `LatentIdeal`, written with everything the kernel leaves named: the point recursion over the running maximum,
   the running sum and the running weighted sum in scratch, and the output block. -/
module
public import proofs.«01_k».proof.Defs
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import Idealize.ShloMosaic.Lib.Pipeline.ValueKit
public import Idealize.ShloMosaic.Lib.Pipeline.ReadBack
public import Idealize.ShloMosaic.Lib.Pipeline.FrameBody
public import Idealize.ShloMosaic.Lib.Pipeline.TableIdle
public import Idealize.ShloMosaic.Lib.WordCmp
public import proofs.«01_k».proof.Proof.LatentIdealRun
public import Idealize.ShloMosaic.Lib.VecWindow
@[expose] public section
set_option maxRecDepth 16384
noncomputable section
namespace Cert.LatentIdeal.Hand
open Cert.LatentIdeal Cert.LatentIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

/-! ## One point, and the run over the points -/

/-- What one point does to the scratch (maximum, sum, weighted sum) and to the output block. -/
def stp (i : grid0.Coords) (x0 : Vec F S512x256 .bf16) (x1 : Vec F S512x256 .bf16) (x2 : Vec F S512x128 .bf16) (x3 : Vec F S512x128 .bf16) (σ : Vec F S512x128 .f32 × Vec F S512x128 .f32 × Vec F S512x128 .f32 × Vec F S512x128 .bf16) : Vec F S512x128 .f32 × Vec F S512x128 .f32 × Vec F S512x128 .f32 × Vec F S512x128 .bf16 :=
  let a := if cR i then k0_pay1 else σ.1
  let l := if cR i then k0_pay2 else σ.2.1
  let s := if cR i then k0_pay3 else σ.2.2.1
  let a' := if cU i then mN i x0 x1 a else a
  let l' := if cU i then lN i x0 x1 a l else l
  let s' := if cU i then sN i x0 x1 x2 a s else s
  (a', l', s', if cO i then oN x3 l' s' else σ.2.2.2)

theorem run (c : Dev nD) (i : grid0.Coords) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (h01 : cR i → cU i) (h21 : cO i → cU i) (x0 : Vec F S512x256 .bf16) (x1 : Vec F S512x256 .bf16) (x2 : Vec F S512x128 .bf16) (x3 : Vec F S512x128 .bf16) (y : Vec F S512x128 .bf16) (a : Vec F S512x128 .f32) (l : Vec F S512x128 .f32) (s : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare a ∗ owns (c : Thread nD τ) arg10 fullShare l ∗ owns (c : Thread nD τ) arg11 fullShare s ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (stp i x0 x1 x2 x3 (a, l, s, y)).2.2.2 ∗ owns (c : Thread nD τ) arg9 fullShare (stp i x0 x1 x2 x3 (a, l, s, y)).1 ∗ owns (c : Thread nD τ) arg10 fullShare (stp i x0 x1 x2 x3 (a, l, s, y)).2.1 ∗ owns (c : Thread nD τ) arg11 fullShare (stp i x0 x1 x2 x3 (a, l, s, y)).2.2.1) -∗ K ⟨⟩))
      ⊢ wp frame (wpE (defs₀ (F := F)) Variants.none c none) E (cc0_flash_latent i arg4 harg4 arg5 harg5 arg6 harg6 arg7 harg7 arg8 harg8 arg9 harg9 arg10 harg10 arg11 harg11) K := by
  by_cases h1 : cU i
  · by_cases h0 : cR i
    · by_cases h2 : cO i
      · simp only [stp, if_pos h1, if_pos h0, if_pos h2]
        exact run_A c i arg4 harg4 arg5 harg5 arg6 harg6 arg7 harg7 arg8 harg8 arg9 harg9 arg10 harg10 arg11 harg11 h0 h1 h2 x0 x1 x2 x3 y a l s E K
      · simp only [stp, if_pos h1, if_pos h0, if_neg h2]
        exact run_C c i arg4 harg4 arg5 harg5 arg6 harg6 arg7 harg7 arg8 harg8 arg9 harg9 arg10 harg10 arg11 harg11 h0 h1 h2 x0 x1 x2 x3 y a l s E K
    · by_cases h2 : cO i
      · simp only [stp, if_pos h1, if_neg h0, if_pos h2]
        exact run_D c i arg4 harg4 arg5 harg5 arg6 harg6 arg7 harg7 arg8 harg8 arg9 harg9 arg10 harg10 arg11 harg11 h0 h1 h2 x0 x1 x2 x3 y a l s E K
      · simp only [stp, if_pos h1, if_neg h0, if_neg h2]
        exact run_E c i arg4 harg4 arg5 harg5 arg6 harg6 arg7 harg7 arg8 harg8 arg9 harg9 arg10 harg10 arg11 harg11 h0 h1 h2 x0 x1 x2 x3 y a l s E K
  · have h0 : ¬cR i := fun h => h1 (h01 h)
    have h2 : ¬cO i := fun h => h1 (h21 h)
    simp only [stp, if_neg h1, if_neg h0, if_neg h2]
    exact run_B c i arg4 harg4 arg5 harg5 arg6 harg6 arg7 harg7 arg8 harg8 arg9 harg9 arg10 harg10 arg11 harg11 h0 h1 h2 x0 x1 x2 x3 y a l s E K

/-- At a point that resets and writes, nothing of the state before matters. -/
theorem stp_reset (i : grid0.Coords) (x0 : Vec F S512x256 .bf16) (x1 : Vec F S512x256 .bf16) (x2 : Vec F S512x128 .bf16) (x3 : Vec F S512x128 .bf16) (σ σ' : Vec F S512x128 .f32 × Vec F S512x128 .f32 × Vec F S512x128 .f32 × Vec F S512x128 .bf16) (h0 : cR i) (h2 : cO i) : stp i x0 x1 x2 x3 σ = stp i x0 x1 x2 x3 σ' := by
  simp only [stp, if_pos h0, if_pos h2]

variable (m : (ℓ : Loc nD τ sig) → Buf (Elt F) ℓ) (ρ : Dev nD → PrngReg)

/-- The state after the point at position `n`. -/
def aft (c : Dev nD) : (n : ℕ) → n < cfg0.N → Vec F S512x128 .f32 × Vec F S512x128 .f32 × Vec F S512x128 .f32 × Vec F S512x128 .bf16
  | 0, h => stp (grid0.coords ⟨0, h⟩) (iblk m c 0 ⟨0, h⟩) (iblk m c 1 ⟨0, h⟩) (iblk m c 2 ⟨0, h⟩) (iblk m c 3 ⟨0, h⟩) (k0_pay1, k0_pay1, k0_pay1, oN (iblk m c 3 ⟨0, h⟩) k0_pay1 k0_pay1)
  | n + 1, h => stp (grid0.coords ⟨n + 1, h⟩) (iblk m c 0 ⟨n + 1, h⟩) (iblk m c 1 ⟨n + 1, h⟩) (iblk m c 2 ⟨n + 1, h⟩) (iblk m c 3 ⟨n + 1, h⟩) (aft c n (Nat.lt_of_succ_lt h))

theorem aft_pos (c : Dev nD) (t : Fin cfg0.N) (hz : t.val ≠ 0) :
    aft m c t.val t.isLt = stp (grid0.coords t) (iblk m c 0 t) (iblk m c 1 t) (iblk m c 2 t) (iblk m c 3 t) (aft m c (t.val - 1) (Nat.lt_of_le_of_lt (Nat.sub_le _ _) t.isLt)) := by
  obtain ⟨k, hk⟩ := t
  cases k with
  | zero => exact absurd rfl hz
  | succ k => rfl

/-! ## The windows' memrefs and the region invariant -/

theorem live_0 : ∀ t : Fin cfg0.N, cfg0.idle 0 (grid0.coords t) = false := fun _ => rfl
abbrev ms_0 (t : Fin cfg0.N) : Memref sig .tc .vmem S512x256 .bf16 := win0_0.stage (cfg0.slots t 0)
abbrev hs_0 (t : Fin cfg0.N) : (ms_0 t).IsWhole := hstage0_0 ((cfg0.slots t 0).cast nbuf0_0)
theorem live_1 : ∀ t : Fin cfg0.N, cfg0.idle 1 (grid0.coords t) = false := fun _ => rfl
abbrev ms_1 (t : Fin cfg0.N) : Memref sig .tc .vmem S512x256 .bf16 := win0_1.stage (cfg0.slots t 1)
abbrev hs_1 (t : Fin cfg0.N) : (ms_1 t).IsWhole := hstage0_1 ((cfg0.slots t 1).cast nbuf0_1)
theorem live_2 : ∀ t : Fin cfg0.N, cfg0.idle 2 (grid0.coords t) = false := fun _ => rfl
abbrev ms_2 (t : Fin cfg0.N) : Memref sig .tc .vmem S512x128 .bf16 := win0_2.stage (cfg0.slots t 2)
abbrev hs_2 (t : Fin cfg0.N) : (ms_2 t).IsWhole := hstage0_2 ((cfg0.slots t 2).cast nbuf0_2)
theorem live_3 : ∀ t : Fin cfg0.N, cfg0.idle 3 (grid0.coords t) = false := fun _ => rfl
abbrev ms_3 (t : Fin cfg0.N) : Memref sig .tc .vmem S512x128 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x128 .bf16 := win0_4.stage (cfg0.slots t 4)
abbrev hs_4 (t : Fin cfg0.N) : (ms_4 t).IsWhole := hstage0_4 ((cfg0.slots t 4).cast nbuf0_4)
abbrev sc_0 : Memref sig .tc .vmem S512x128 .f32 := Memref.whole cc0_scratch0
abbrev sc_1 : Memref sig .tc .vmem S512x128 .f32 := Memref.whole cc0_scratch1
abbrev sc_2 : Memref sig .tc .vmem S512x128 .f32 := Memref.whole cc0_scratch2

theorem PhiA_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

/-- The region invariant before position `n`: the scratch at anything before the first point, afterwards at what the point
    before left. -/
def PhiS (c : Dev nD) : (n : ℕ) → n ≤ cfg0.N → sProp 𝕄
  | 0, _ => Pipeline.ΦA spec0 c
  | n + 1, hn => iprop(iprop(owns (c : Thread nD τ) sc_0 fullShare (aft m c n hn).1 ∗ owns (c : Thread nD τ) sc_1 fullShare (aft m c n hn).2.1 ∗ owns (c : Thread nD τ) sc_2 fullShare (aft m c n hn).2.2.1) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc_0 fullShare (aft m c n hn).1 ∗ owns (c : Thread nD τ) sc_1 fullShare (aft m c n hn).2.1 ∗ owns (c : Thread nD τ) sc_2 fullShare (aft m c n hn).2.2.1) ∗ (∃ r, prngReg c r)) := rfl
theorem PhiS_pos (c : Dev nD) (n : ℕ) (h : n ≤ cfg0.N) (hz : n ≠ 0) :
    PhiS m c n h = iprop(iprop(owns (c : Thread nD τ) sc_0 fullShare (aft m c (n - 1) (by omega)).1 ∗ owns (c : Thread nD τ) sc_1 fullShare (aft m c (n - 1) (by omega)).2.1 ∗ owns (c : Thread nD τ) sc_2 fullShare (aft m c (n - 1) (by omega)).2.2.1) ∗ (∃ r, prngReg c r)) := by
  cases n with
  | zero => exact absurd rfl hz
  | succ n => rfl

/-- The pipeline's proof data: every input's buffer at its block, the output's at what the points have left in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (aft m c t.val t.isLt).2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (aft m c t.val t.isLt).2.2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The output's buffer at the points that do not write it -/

theorem idle_out : ∀ t : Fin cfg0.N, cfg0.idle 4 (grid0.coords t) = true ↔ ¬t.val / 8 % 8 = t.val % 8 :=
  (by decide +kernel : ∀ t : Fin grid0.N, cfg0.idle 4 (grid0.coords t) = true ↔ ¬t.val / 8 % 8 = t.val % 8)

theorem aft_zero (c : Dev nD) (t : Fin cfg0.N) (hz : t.val = 0) (σ) :
    aft m c t.val t.isLt = stp (grid0.coords t) (iblk m c 0 t) (iblk m c 1 t) (iblk m c 2 t) (iblk m c 3 t) σ := by
  have h0 := (hcR t).mpr (by rw [hz])
  have h2 := (hcO t).mpr (by rw [hz])
  obtain ⟨k, hk⟩ := t
  cases k with
  | zero => exact stp_reset _ _ _ _ _ _ _ h0 h2
  | succ k => exact absurd hz (Nat.succ_ne_zero k)

/-- A point that does not write leaves the output component as the point before left it. -/
theorem aft_out_idle (c : Dev nD) (t : Fin cfg0.N) (h : ¬t.val / 8 % 8 = t.val % 8) :
    (aft m c t.val t.isLt).2.2.2 = (aft m c (t.val - 1) (Nat.lt_of_le_of_lt (Nat.sub_le _ _) t.isLt)).2.2.2 := by
  have hz : t.val ≠ 0 := fun hz => h (by rw [hz])
  rw [aft_pos m c t hz]
  have hO : ¬cO (grid0.coords t) := fun hh => h ((hcO t).mp hh)
  simp only [stp, if_neg hO]

/-- Whether the output's buffer holds nothing the body stored, when the body runs at position `n`: from the first block of
    keys to the diagonal one. -/
theorem fresh_out : ∀ n, n ≤ cfg0.N → cfg0.fresh 4 n = decide (n % 8 ≤ n / 8 % 8) :=
  Pipeline.Cfg.fresh_tab cfg0 4 (fun n => decide (n % 8 ≤ n / 8 % 8)) (by decide) (fun t => by
    have hf : (cfg0.win 4).flush t = decide (t.val % 8 = 7) := by
      rw [Bool.eq_iff_iff, flush0_4 t, decide_eq_true_iff]
    have hi : cfg0.idle 4 (cfg0.grid.coords t) = decide (¬t.val / 8 % 8 = t.val % 8) := by
      rw [Bool.eq_iff_iff]; exact (idle_out t).trans (by rw [decide_eq_true_iff])
    show decide ((t.val + 1) % 8 ≤ (t.val + 1) / 8 % 8) = _
    rw [hf, hi, Bool.eq_iff_iff]
    simp only [Bool.or_eq_true, Bool.and_eq_true, decide_eq_true_iff]
    by_cases h7 : t.val % 8 = 7
    · omega
    · have e : (t.val + 1) / 8 = t.val / 8 := by omega
      rw [e]; omega)

/-- What the body finds in the output's buffer: anything up to the diagonal, afterwards what the point before left. -/
theorem before_out (c : Dev nD) (t : Fin cfg0.N) (d) : (dats m 0 c).before 4 t d
    = if cfg0.fresh 4 t.val then d else (aft m c (t.val - 1) (Nat.lt_of_le_of_lt (Nat.sub_le _ _) t.isLt)).2.2.2 :=
  (dats m 0 c).before_out_traj 4 rfl (fun _ _ => rfl) (fun t _ hi _ => by
    rw [after_4, after_4]
    exact aft_out_idle m c t ((idle_out t).mp hi)) t.val t rfl d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the body leaves in the output's buffer is what the proof data say of it. -/
theorem leaves_out (c : Dev nD) (t : Fin cfg0.N) (d) (σ : Vec F S512x128 .f32 × Vec F S512x128 .f32 × Vec F S512x128 .f32 × Vec F S512x128 .bf16) (hσ : σ.2.2.2 = (dats m 0 c).before 4 t d)
    (ha : t.val ≠ 0 → (σ.1, σ.2.1, σ.2.2.1) = ((aft m c (t.val - 1) (Nat.lt_of_le_of_lt (Nat.sub_le _ _) t.isLt)).1, (aft m c (t.val - 1) (Nat.lt_of_le_of_lt (Nat.sub_le _ _) t.isLt)).2.1, (aft m c (t.val - 1) (Nat.lt_of_le_of_lt (Nat.sub_le _ _) t.isLt)).2.2.1)) :
    owns (c : Thread nD τ) (ms_4 t) fullShare (stp (grid0.coords t) (iblk m c 0 t) (iblk m c 1 t) (iblk m c 2 t) (iblk m c 3 t) σ).2.2.2
      ⊢ (dats m 0 c).leavesExact 4 t := by
  by_cases hO : t.val / 8 % 8 = t.val % 8
  · have hi : cfg0.idle 4 (cfg0.grid.coords t) = false := by
      rw [← Bool.not_eq_true]; exact fun h => (idle_out t).mp h hO
    have e : (dats m 0 c).leavesExact 4 t = owns (c : Thread nD τ) (ms_4 t) fullShare ((dats m 0 c).after 4 t) := by
      unfold Dat.leavesExact; rw [hi]
    rw [e, after_4]
    have e2 : (stp (grid0.coords t) (iblk m c 0 t) (iblk m c 1 t) (iblk m c 2 t) (iblk m c 3 t) σ).2.2.2 = (aft m c t.val t.isLt).2.2.2 := by
      by_cases hz : t.val = 0
      · exact congrArg (fun p => p.2.2.2) (aft_zero m c t hz σ).symm
      · rw [aft_pos m c t hz]
        have h' := ha hz
        simp only [Prod.mk.injEq] at h'
        simp only [stp, if_pos ((hcO t).mpr hO), h'.1, h'.2.1, h'.2.2]
    rw [e2]
  · have hi : cfg0.idle 4 (cfg0.grid.coords t) = true := (idle_out t).mpr hO
    have e2 : (stp (grid0.coords t) (iblk m c 0 t) (iblk m c 1 t) (iblk m c 2 t) (iblk m c 3 t) σ).2.2.2 = (dats m 0 c).before 4 t d := by
      simp only [stp, if_neg (fun h => hO ((hcO t).mp h)), hσ]
    rw [e2]
    by_cases hf : (cfg0.win 4).flush t = true
    · have e : (dats m 0 c).leavesExact 4 t = owns (c : Thread nD τ) (ms_4 t) fullShare ((dats m 0 c).after 4 t) := by
        unfold Dat.leavesExact; rw [hi, hf]
      have hfr : cfg0.fresh 4 t.val = false := by
        rw [fresh_out t.val t.isLt.le]
        have := (flush0_4 t).mp hf
        exact decide_eq_false (by omega)
      rw [e, after_4, before_out m c t d, hfr, aft_out_idle m c t hO]
      try exact .rfl
    · rw [(dats m 0 c).leavesExact_idle 4 t hi (by simpa using hf)]
      iintro H; iexists d; iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  have h01 : cR (grid0.coords t) → cU (grid0.coords t) := fun h => (hcU t).mpr (by have := (hcR t).mp h; omega)
  have h21 : cO (grid0.coords t) → cU (grid0.coords t) := fun h => (hcU t).mpr (by have := (hcO t).mp h; omega)
  by_cases hz : t.val = 0
  · rw [PhiS_castSucc m c t, PhiS_zero m c _ _ hz, PhiA_eq]
    iintro ⟨⟨⟨⟨%a, HS0⟩, ⟨%l, HS1⟩, ⟨%s, HS2⟩⟩, Hg⟩, Ho, ⟨%d0, H0⟩, ⟨%d1, H1⟩, ⟨%d2, H2⟩, ⟨%d3, H3⟩, ⟨%d4, H4⟩⟩
    iapply (run c (grid0.coords t) _ _ _ _ _ _ _ _ _ _ _ _ _ _ _ _ h01 h21 (iblk m c 0 t) (iblk m c 1 t) (iblk m c 2 t) (iblk m c 3 t) _ a l s Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    rw [aft_zero m c t hz (a, l, s, (dats m 0 c).before 4 t d4)]
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iapply (leaves_out m c t d4 (a, l, s, (dats m 0 c).before 4 t d4) rfl (fun h => absurd hz h))
    iexact H4
  · rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    iapply (run c (grid0.coords t) _ _ _ _ _ _ _ _ _ _ _ _ _ _ _ _ h01 h21 (iblk m c 0 t) (iblk m c 1 t) (iblk m c 2 t) (iblk m c 3 t) _ _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    rw [aft_pos m c t hz]
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iapply (leaves_out m c t d4 (_, _, _, (dats m 0 c).before 4 t d4) rfl (fun _ => rfl))
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 2048 := N_0; omega), PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every weakly fair run terminates, the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.LatentIdeal.Hand
end
-- ==== Proof.LatentPay.lean ====
/- The forgetting attention's body at one point, read entry by entry. -/
module
public import proofs.«01_k».proof.Proof.Gen.LatentIdeal
public import proofs.«01_k».proof.Proof.Gen.LatentIdeal.Skeleton
public import proofs.«01_k».proof.Proof.Softmax
public import Idealize.ShloMosaic.Lib.Pipeline.ValueKit
public import Idealize.ShloMosaic.Lib.Pointwise
@[expose] public section
set_option maxRecDepth 16384
noncomputable section
namespace Cert.LatentIdeal.Hand
open Cert.LatentIdeal Cert.LatentIdeal.Gen Idealize.ShloMosaic Idealize.ShloMosaic.TcCoe Idealize.SL.Sem

theorem mask_bot : (Named.named κ "mask" 0xF149F2CA#32 : Ideal .f32) = (⊥ : EReal) :=
  IdealRules.named_const.ideal_named_scalar _ _ _ _ rfl

/-- The score of row `r` and key `k` of one pair of blocks, the blocks' first rows at `512 a` and `512 b`. -/
def sc (a b : ℕ) (x0 x1 : Vec Ideal S512x256 .bf16) (r k : Fin 512) : EReal :=
  if 512 * b + k.val ≤ 512 * a + r.val then
    (∑ d : Fin 256, x0 (ix2 r d) * x1 (ix2 k d)) * Ideal.ofBits .f32 0x3D93CD3A#32
  else ⊥

theorem pay7 (a b : ℕ) (ha : a < 8) (hb : b < 8) (x0 x1 : Vec Ideal S512x256 .bf16) (y : S512x512.Idx) :
    k0_pay7 (BitVec.ofNat 32 a) (BitVec.ofNat 32 b) x0 x1 y = sc a b x0 x1 (y 0) (y 1) := by
  pointwise [k0_pay7, sc]
  rw [Softmax.mask_select a b _ _ ha hb (y 0).isLt (y 1).isLt, mask_bot]

theorem pay8 (w w' : BitVec 32) (x0 x1 : Vec Ideal S512x256 .bf16) (a : Vec Ideal S512x1 .f32) (y : S512x1.Idx) :
    k0_pay8 w w' x0 x1 a y = max (a y) (Finset.univ.sup fun k : Fin 512 => k0_pay7 w w' x0 x1 (ix2 (y 0) k)) := by
  pointwise [k0_pay8]
  rw [Softmax.fold_max]

theorem pay9 (w w' : BitVec 32) (x0 x1 : Vec Ideal S512x256 .bf16) (a : Vec Ideal S512x1 .f32) (y : S512x1.Idx) :
    k0_pay9 w w' x0 x1 a y = Ideal.exp (a y - k0_pay8 w w' x0 x1 a y) := by
  pointwise [k0_pay9]

theorem pay10 (w w' : BitVec 32) (x0 x1 : Vec Ideal S512x256 .bf16) (a : Vec Ideal S512x1 .f32) (y : S512x512.Idx) :
    k0_pay10 w w' x0 x1 a y = Ideal.exp (k0_pay7 w w' x0 x1 y - k0_pay8 w w' x0 x1 a (ix2 (y 0) 0)) := by
  pointwise [k0_pay10]

theorem pay11 (w w' : BitVec 32) (x0 x1 : Vec Ideal S512x256 .bf16) (a l : Vec Ideal S512x1 .f32) (y : S512x128.Idx) :
    k0_pay11 w w' x0 x1 a l y = k0_pay9 w w' x0 x1 a (ix2 (y 0) 0) * l (ix2 (y 0) 0)
      + ∑ k : Fin 512, k0_pay10 w w' x0 x1 a (ix2 (y 0) k) := by
  pointwise [k0_pay11]

theorem pay12 (w w' : BitVec 32) (x0 x1 : Vec Ideal S512x256 .bf16) (a : Vec Ideal S512x1 .f32) (s : Vec Ideal S512x128 .f32)
    (y : S512x128.Idx) : k0_pay12 w w' x0 x1 a s y = k0_pay9 w w' x0 x1 a (ix2 (y 0) 0) * s y := by
  pointwise [k0_pay12]

theorem pay13 (w w' : BitVec 32) (x0 x1 : Vec Ideal S512x256 .bf16) (a : Vec Ideal S512x1 .f32) (y : S512x512.Idx) :
    k0_pay13 w w' x0 x1 a y = k0_pay10 w w' x0 x1 a y := by
  pointwise [k0_pay13]

theorem pay4 (e : Vec Ideal S512x128 .f32) (p : Vec Ideal S512x512 .bf16) (x2 : Vec Ideal S512x128 .bf16) (y : S512x128.Idx) :
    k0_pay4 e p x2 y = e y + ∑ k : Fin 512, p (ix2 (y 0) k) * x2 (ix2 k (y 1)) := by
  pointwise [k0_pay4]

theorem pay5 (u : Vec Ideal S512x1 .f32) (y : S512x128.Idx) : k0_pay5 (F := Ideal) u y = u (ix2 (y 0) 0) := by
  pointwise [k0_pay5]

theorem pay6 (z : Vec Ideal S512x128 .bf16) (s : Vec Ideal S512x128 .f32) (l : Vec Ideal S512x1 .f32) (y : S512x128.Idx) :
    k0_pay6 z s l y = Ideal.div (s y) (l (ix2 (y 0) 0)) * (z y * Ideal.logistic (z y)) := by
  pointwise [k0_pay6]

theorem pay1 (y : S512x128.Idx) : k0_pay1 (F := Ideal) y = (⊥ : EReal) := by
  pointwise [k0_pay1]
  exact mask_bot
theorem pay2 (y : S512x128.Idx) : k0_pay2 (F := Ideal) y = 0 := by
  pointwise [k0_pay2]
theorem pay3 (y : S512x128.Idx) : k0_pay3 (F := Ideal) y = 0 := by
  pointwise [k0_pay3]

end Cert.LatentIdeal.Hand
-- ==== Proof.LatentScore.lean ====
/- The latent attention, written for one row of queries: its scores, its values, its result. -/
module
public import proofs.«01_k».proof.Proof.Softmax
public import Idealize.ShloMosaic.Lib.Pointwise
@[expose] public section
noncomputable section
namespace Cert.LatentMath
open Idealize.ShloMosaic Cert.Softmax

abbrev Keys := (⟨2, ![16384, 2048]⟩ : Shape).Idx → EReal
abbrev Vals := (⟨2, ![16384, 1024]⟩ : Shape).Idx → EReal
abbrev Proj := (⟨2, ![16384, 12288]⟩ : Shape).Idx → EReal

/-- The row of position `n` of batch entry `b`. -/
def row (b : Fin 4) (n : ℕ) : Fin 16384 := ⟨4096 * b.val + n % 4096, by have := b.isLt; have := Nat.mod_lt n (show 0 < 4096 by decide); omega⟩
/-- The columns of head `h`: of feature `d` of a query or a key, of feature `d` of a value, of feature `d` of the gate. -/
def colk (h : Fin 8) (d : Fin 256) : Fin 2048 := ⟨256 * h.val + d.val, by have := h.isLt; have := d.isLt; omega⟩
def colv (h : Fin 8) (d : Fin 128) : Fin 1024 := ⟨128 * h.val + d.val, by have := h.isLt; have := d.isLt; omega⟩
def colz (h : Fin 8) (d : Fin 128) : Fin 12288 := ⟨10240 + 128 * h.val + d.val, by have := h.isLt; have := d.isLt; omega⟩

/-- The score of query `p` and key `n`: the scaled product, `⊥` where the key is later than the query. -/
def score (q k : Keys) (b : Fin 4) (h : Fin 8) (p : Fin 4096) (n : ℕ) : EReal :=
  if n ≤ p.val then
    (∑ d : Fin 256, q (ix2 (row b p.val) (colk h d)) * k (ix2 (row b n) (colk h d))) * Ideal.ofBits .f32 0x3D93CD3A#32
  else ⊥
/-- The value of feature `d` at key `n`. -/
def value (v : Vals) (b : Fin 4) (h : Fin 8) (d : Fin 128) (n : ℕ) : EReal := v (ix2 (row b n) (colv h d))
/-- The gate of query `p` at feature `d`. -/
def gate (x : Proj) (b : Fin 4) (h : Fin 8) (p : Fin 4096) (d : Fin 128) : EReal :=
  x (ix2 (row b p.val) (colz h d)) * Ideal.logistic (x (ix2 (row b p.val) (colz h d)))

/-- One entry of the result: the values under the softmax of the scores, gated. -/
def out (q k : Keys) (v : Vals) (x : Proj) (b : Fin 4) (h : Fin 8) (p : Fin 4096) (d : Fin 128) : EReal :=
  (∑ n ∈ Finset.range 4096, value v b h d n
    * Ideal.div (Ideal.exp (score q k b h p n - M (score q k b h p) 4096)) (L (score q k b h p) 4096)) * gate x b h p d

/-- The whole result. -/
def res (q k : Keys) (v : Vals) (x : Proj) : (⟨2, ![16384, 1024]⟩ : Shape).Idx → EReal := fun i =>
  out q k v x ⟨(i 0).val / 4096, by have : (i 0).val < 16384 := (i 0).isLt; omega⟩ ⟨(i 1).val / 128, by have : (i 1).val < 1024 := (i 1).isLt; omega⟩
    ⟨(i 0).val % 4096, by omega⟩ ⟨(i 1).val % 128, by omega⟩

theorem res_at (q k : Keys) (v : Vals) (x : Proj) (i : (⟨2, ![16384, 1024]⟩ : Shape).Idx) (b : Fin 4) (h : Fin 8) (p : Fin 4096) (d : Fin 128)
    (h0 : (i 0).val = 4096 * b.val + p.val) (h1 : (i 1).val = 128 * h.val + d.val) : res q k v x i = out q k v x b h p d := by
  have := b.isLt; have := h.isLt; have := p.isLt; have := d.isLt
  unfold res
  congr 1 <;> apply Fin.ext <;> dsimp only <;> omega

theorem at_eq {n : ℕ} (x : (⟨2, ![16384, n]⟩ : Shape).Idx → EReal) {a a' : Fin 16384} {e e' : Fin n} (ha : a.val = a'.val) (he : e.val = e'.val) :
    x (ix2 a e) = x (ix2 a' e') := by rw [Fin.ext ha, Fin.ext he]

/-- The queries and keys are real numbers. -/
structure Finite (q k : Keys) : Prop where
  q : ∀ (b : Fin 4) (n : ℕ) (h : Fin 8) (d : Fin 256), Real' (q (ix2 (row b n) (colk h d)))
  k : ∀ (b : Fin 4) (n : ℕ) (h : Fin 8) (d : Fin 256), Real' (k (ix2 (row b n) (colk h d)))

theorem scale_real : Real' (Ideal.ofBits .f32 0x3D93CD3A#32) := by
  simp only [Ideal.ofBits, Ideal.ieee]
  norm_num
  exact ⟨_, rfl⟩

variable {q k : Keys} (hf : Finite q k)
include hf

theorem score_real (b : Fin 4) (h : Fin 8) (p : Fin 4096) (n : ℕ) (hn : n ≤ p.val) : Real' (score q k b h p n) := by
  rw [score, if_pos hn]
  exact (Real'.sum _ _ fun d _ => (hf.q b p.val h d).mul (hf.k b n h d)).mul scale_real

theorem score_ne_top (b : Fin 4) (h : Fin 8) (p : Fin 4096) (n : ℕ) : score q k b h p n ≠ ⊤ := by
  by_cases hn : n ≤ p.val
  · exact (score_real hf b h p n hn).ne_top
  · rw [score, if_neg hn]; exact bot_ne_top

theorem score_zero (b : Fin 4) (h : Fin 8) (p : Fin 4096) : score q k b h p 0 ≠ ⊥ :=
  (score_real hf b h p 0 (Nat.zero_le _)).ne_bot

omit hf in
theorem score_masked (b : Fin 4) (h : Fin 8) (p : Fin 4096) (n : ℕ) (hn : p.val < n) : score q k b h p n = ⊥ :=
  if_neg (Nat.not_le.2 hn)

/-- The entry from the sums over the keys up to the query's block. -/
theorem out_eq (v : Vals) (x : Proj) (b : Fin 4) (h : Fin 8) (p : Fin 4096) (d : Fin 128) (n : ℕ) (hn : p.val < n) (hN : n ≤ 4096) :
    Ideal.div (A (score q k b h p) (value v b h d) n) (L (score q k b h p) n) * gate x b h p d = out q k v x b h p d := by
  rw [normal _ (by omega) hN (score_zero hf b h p) (fun k _ => score_ne_top hf b h p k) (fun k hk _ => score_masked b h p k (by omega))]
  rfl

end Cert.LatentMath
-- ==== Proof.LatentRefValue.lean ====
/- The reference's latent attention, read at an index: the result is `LatentMath.out`. -/
module
public import proofs.«01_k».proof.Defs
public import proofs.«01_k».proof.Proof.LatentScore
public import proofs.«01_k».proof.Proof.Gen.LatentRefIdeal.Read
public import Idealize.ShloMosaic.Lib.Pointwise
@[expose] public section
set_option maxRecDepth 16384
noncomputable section
namespace Cert.LatentRefIdeal.Hand
open Cert.LatentRefIdeal Cert.LatentRefIdeal.Gen Idealize.ShloMosaic Idealize.ShloMosaic.TcCoe Idealize.SL.Sem
open Cert.LatentMath Cert.Softmax Cert.LatentRefIdeal.Read

variable (q k : Vec Ideal S16384x2048 .bf16) (v : Vec Ideal S16384x1024 .bf16) (x : Vec Ideal S16384x12288 .bf16)

theorem q_at (b : Fin 4) (p : Fin 4096) (h : Fin 8) (d : Fin 256) :
    val_main_v1 (F := Ideal) q (ix4 b p h d) = q (ix2 (row b p.val) (colk h d)) := by
  pointwise [val_main_v1, val_main_v0]
  have := p.isLt
  exact at_eq q (by simp only [row]; omega) (by simp only [colk]; omega)

theorem k_at (b : Fin 4) (p : Fin 4096) (h : Fin 8) (d : Fin 256) :
    val_main_v3 (F := Ideal) k (ix4 b p h d) = k (ix2 (row b p.val) (colk h d)) := by
  pointwise [val_main_v3, val_main_v2]
  have := p.isLt
  exact at_eq k (by simp only [row]; omega) (by simp only [colk]; omega)

theorem v_at (b : Fin 4) (p : Fin 4096) (h : Fin 8) (d : Fin 128) :
    val_main_v5 (F := Ideal) v (ix4 b p h d) = v (ix2 (row b p.val) (colv h d)) := by
  pointwise [val_main_v5, val_main_v4]
  have := p.isLt
  exact at_eq v (by simp only [row]; omega) (by simp only [colv]; omega)

theorem z_at (b : Fin 4) (p : Fin 4096) (h : Fin 8) (d : Fin 128) :
    val_main_v8 (F := Ideal) x (ix4 b p h d) = x (ix2 (row b p.val) (colz h d)) := by
  pointwise [val_main_v8, val_main_v7, val_main_v6]
  have := p.isLt
  exact at_eq x (by simp only [row]; omega) (by simp only [colz]; omega)

theorem dot_at (b : Fin 4) (h : Fin 8) (p n : Fin 4096) :
    val_main_v9 (F := Ideal) q k (ix4 b h p n)
      = ∑ d : Fin 256, q (ix2 (row b p.val) (colk h d)) * k (ix2 (row b n.val) (colk h d)) := by
  rw [val_main_v9_apply]
  refine Finset.sum_congr rfl fun d _ => ?_
  rw [← q_at q, ← k_at k]
  congr 2 <;> funext a <;> fin_cases a <;> rfl

theorem score_at (b : Fin 4) (h : Fin 8) (p n : Fin 4096) :
    val_main_v19 (F := Ideal) q k (ix4 b h p n) = score q k b h p n.val := by
  rw [val_main_v19_apply, val_main_v11_apply, dot_at, val_main_v10_apply]
  simp only [val_main_call0_v1_apply, val_main_call0_v2_apply, val_main_call0_v0_apply, val_main_v18_apply, val_main_v17_apply,
    val_main_v16_apply, val_main_v15_apply, val_main_v14_apply, val_main_v13_apply, val_main_v12_apply]
  exact (le_select p.val n.val p.isLt n.isLt _ _).trans (by rw [score]; rw [show val_main_cst_0 (F := Ideal) (idx_main_call0_v2 (ix4 b h p n)) = (⊥ : EReal) from Softmax.ofBits_neg_inf]; rfl)

theorem max_at (b : Fin 4) (h : Fin 8) (p : Fin 4096) :
    val_main_v22 (F := Ideal) q k (ix3 b h p) = Softmax.M (score q k b h p) 4096 := by
  rw [val_main_v22_apply]
  pointwise [val_main_v20, val_main_v21]
  rw [Softmax.M, ← sup_fin]
  simp only [score_at]
  refine Eq.trans (congrArg₂ max (Softmax.ofBits_neg_inf) (fold_max _ _)) ?_
  exact max_eq_right bot_le

theorem weight_at (b : Fin 4) (h : Fin 8) (p n : Fin 4096) :
    val_main_v26 (F := Ideal) q k (ix4 b h p n) = Ideal.exp (score q k b h p n.val - Softmax.M (score q k b h p) 4096) := by
  rw [val_main_v26_apply, val_main_v25_apply, score_at, val_main_v24_apply, val_main_v23_apply,
    show idx_main_v23 (idx_main_v24 (ix4 b h p n)) = ix3 b h p from by funext a; fin_cases a <;> rfl, max_at]
  generalize score q k b h p n.val = e
  generalize Softmax.M (score q k b h p) 4096 = f
  rfl

theorem sum_at (b : Fin 4) (h : Fin 8) (p : Fin 4096) :
    val_main_v27 (F := Ideal) q k (ix3 b h p) = L (score q k b h p) 4096 := by
  rw [val_main_v27_apply, L, Finset.sum_range]
  refine Eq.trans (congrArg₂ (· + ·) (show val_main_cst_3 (F := Ideal) _ = 0 by pointwise [val_main_cst_3]) (Finset.sum_congr rfl fun n _ =>
    (congrArg (val_main_v26 (F := Ideal) q k) (show idx_main_v27 (ix3 b h p) n = ix4 b h p n from by funext a; fin_cases a <;> rfl)).trans
      (weight_at q k b h p n))) ?_
  exact zero_add _

theorem prob_at (b : Fin 4) (h : Fin 8) (p n : Fin 4096) :
    val_main_v30 (F := Ideal) q k (ix4 b h p n)
      = Ideal.div (Ideal.exp (score q k b h p n.val - Softmax.M (score q k b h p) 4096)) (L (score q k b h p) 4096) := by
  rw [val_main_v30_apply, weight_at, val_main_v29_apply, val_main_v28_apply,
    show idx_main_v28 (idx_main_v29 (ix4 b h p n)) = ix3 b h p from by funext a; fin_cases a <;> rfl, sum_at]
  generalize Ideal.exp _ = e
  generalize L (score q k b h p) 4096 = f
  rfl

theorem att_at (b : Fin 4) (h : Fin 8) (p : Fin 4096) (d : Fin 128) :
    val_main_v31 (F := Ideal) q k v (ix4 b h d p) = ∑ n ∈ Finset.range 4096, value v b h d n
      * Ideal.div (Ideal.exp (score q k b h p n - Softmax.M (score q k b h p) 4096)) (L (score q k b h p) 4096) := by
  rw [val_main_v31_apply, Finset.sum_range]
  refine Finset.sum_congr rfl fun n _ => ?_
  rw [← prob_at, value, ← v_at v]
  congr 2 <;> funext a <;> fin_cases a <;> rfl

theorem gate_at (b : Fin 4) (h : Fin 8) (p : Fin 4096) (d : Fin 128) :
    val_main_v33 (F := Ideal) x (ix4 b p h d) = gate x b h p d := by
  rw [gate, ← z_at x]
  pointwise [val_main_v33, val_main_call1_v5, val_main_call1_v4, val_main_call1_v3, val_main_call1_v2, val_main_call1_v1, val_main_call1_v0,
    val_main_call1_cst, val_main_call1_cst_0, Ideal.logistic]

theorem res_eq : val_main_v36 (F := Ideal) q k v x = res q k v x := by
  funext i
  have h0 : (i 0).val < 16384 := (i 0).isLt
  have h1 : (i 1).val < 1024 := (i 1).isLt
  rw [val_main_v36_apply, val_main_v35_apply, res, out, ← att_at, ← gate_at]
  refine (val_main_v34_apply (F := Ideal) q k v x _).trans ?_
  rw [val_main_v32_apply]
  refine congrArg₂ (· * ·) (congrArg _ ?_) (congrArg _ ?_)
  all_goals
    funext a
    fin_cases a <;> apply Fin.ext <;> dsimp [ix4] <;> omega

end Cert.LatentRefIdeal.Hand
end
-- ==== Proof.LatentValue.lean ====
/- The latent attention of `LatentIdeal`: the result array is `LatentMath.res`. -/
module
public import proofs.«01_k».proof.Defs
public import proofs.«01_k».proof.Proof.LatentIdealFrame
public import proofs.«01_k».proof.Proof.LatentPay
public import proofs.«01_k».proof.Proof.LatentScore
public import proofs.«01_k».proof.Proof.LatentRefValue
public import proofs.«01_k».proof.Proof.Gen.LatentRefIdeal.Run
public import Idealize.ShloMosaic.Lib.Pipeline.ValueKit
public import Idealize.ShloMosaic.Lib.Pipeline.ReadBack
public import Idealize.ShloMosaic.Lib.Pointwise
@[expose] public section
set_option maxRecDepth 16384
noncomputable section
namespace Cert.LatentIdeal.Hand
open Cert.LatentIdeal Cert.LatentIdeal.Gen Idealize.ShloMosaic Idealize.ShloMosaic.TcCoe Idealize.SL.Sem
open Cert.LatentMath Cert.Softmax

/-! ## One block of keys -/

theorem col_at (a : Vec Ideal S512x128 .f32) (r : Fin 512) (e : Fin 1) : col a (ix2 r e) = a (ix2 r 0) := by
  obtain rfl : e = 0 := Subsingleton.elim _ _
  unfold col
  pointwise []

/-- One block of keys taken in, at row `r`: the greatest score, the weights' sum and the weighted sums go from the keys
    before the block to the keys up to its end. -/
theorem step (i : grid0.Coords) (x0 x1 : Vec Ideal S512x256 .bf16) (x2 : Vec Ideal S512x128 .bf16)
    (a l w : Vec Ideal S512x128 .f32) (r : Fin 512) (s : ℕ → EReal) (v : Fin 128 → ℕ → EReal)
    (n : ℕ) (hs : ∀ k : Fin 512, sc (i 2).val (i 3).val x0 x1 r k = s (n + k.val))
    (hv : ∀ (k : Fin 512) (d : Fin 128), x2 (ix2 k d) = v d (n + k.val)) (h0 : s 0 ≠ ⊥) (ht : ∀ k < n + 512, s k ≠ ⊤)
    (ha : ∀ d, a (ix2 r d) = Softmax.M s n) (hl : ∀ d, l (ix2 r d) = L s n) (hw : ∀ d, w (ix2 r d) = A s (v d) n) (d : Fin 128) :
    mN i x0 x1 a (ix2 r d) = Softmax.M s (n + 512) ∧ lN i x0 x1 a l (ix2 r d) = L s (n + 512)
      ∧ sN i x0 x1 x2 a w (ix2 r d) = A s (v d) (n + 512) := by
  have hi2 : (i 2).val < 8 := (i 2).isLt
  have hi3 : (i 3).val < 8 := (i 3).isLt
  have h7 (k : Fin 512) : k0_pay7 (BitVec.ofNat 32 (i 2).val) (BitVec.ofNat 32 (i 3).val) x0 x1 (ix2 r k) = s (n + k.val) := by
    rw [pay7 _ _ hi2 hi3]; exact hs k
  have h8 (e : Fin 1) : k0_pay8 (BitVec.ofNat 32 (i 2).val) (BitVec.ofNat 32 (i 3).val) x0 x1 (col a) (ix2 r e) = Softmax.M s (n + 512) := by
    rw [pay8, M_add, ← sup_fin, col_at, ha]
    exact congrArg (max _) (Finset.sup_congr rfl fun k _ => h7 k)
  have h10 (k : Fin 512) : k0_pay10 (BitVec.ofNat 32 (i 2).val) (BitVec.ofNat 32 (i 3).val) x0 x1 (col a) (ix2 r k)
      = Ideal.exp (s (n + k.val) - Softmax.M s (n + 512)) := by
    rw [pay10, h7]; exact congrArg (fun z => Ideal.exp (_ - z)) (h8 0)
  have h9 (e : Fin 1) : k0_pay9 (BitVec.ofNat 32 (i 2).val) (BitVec.ofNat 32 (i 3).val) x0 x1 (col a) (ix2 r e)
      = Ideal.exp (Softmax.M s n - Softmax.M s (n + 512)) := by
    rw [pay9, h8, col_at, ha]
  refine ⟨?_, ?_, ?_⟩
  · rw [mN, pay5]; exact h8 0
  · rw [lN, pay11, ← L_add n 512 h0 ht, Finset.sum_range]
    refine congrArg₂ (· + ·) ?_ ?_
    · exact congrArg₂ (· * ·) (h9 0) ((col_at l r 0).trans (hl 0))
    · exact Finset.sum_congr rfl fun k _ => h10 k
  · rw [sN, pay4, ← A_add _ n 512 h0 ht, Finset.sum_range]
    refine congrArg₂ (· + ·) ?_ ?_
    · refine (pay12 _ _ _ _ _ _ _).trans ?_
      exact congrArg₂ (· * ·) (h9 0) (hw d)
    · exact Finset.sum_congr rfl fun k _ => congrArg₂ (· * ·) ((pay13 _ _ _ _ _ _).trans (h10 k)) (hv k d)

/-! ## The blocks of a point -/

variable (m : (ℓ : Loc nD τ sig) → Buf (Elt Ideal) ℓ) (ρ : Dev nD → PrngReg)

theorem idx : ∀ t : Fin cfg0.N, win0_0.index t (0 : Fin 2) = 8 * (t.val / 512) + t.val / 8 % 8 ∧ win0_0.index t (1 : Fin 2) = t.val / 64 % 8
    ∧ win0_1.index t (0 : Fin 2) = 8 * (t.val / 512) + min (t.val % 8) (t.val / 8 % 8) ∧ win0_1.index t (1 : Fin 2) = t.val / 64 % 8
    ∧ win0_2.index t (0 : Fin 2) = 8 * (t.val / 512) + min (t.val % 8) (t.val / 8 % 8) ∧ win0_2.index t (1 : Fin 2) = t.val / 64 % 8 :=
  (by decide +kernel : ∀ t : Fin grid0.N, _)
theorem idx' : ∀ t : Fin cfg0.N, win0_3.index t (0 : Fin 2) = 8 * (t.val / 512) + t.val / 8 % 8 ∧ win0_3.index t (1 : Fin 2) = 80 + t.val / 64 % 8
    ∧ win0_4.index t (0 : Fin 2) = 8 * (t.val / 512) + t.val / 8 % 8 ∧ win0_4.index t (1 : Fin 2) = t.val / 64 % 8 :=
  (by decide +kernel : ∀ t : Fin grid0.N, _)
theorem co2 : ∀ t : Fin cfg0.N, ((grid0.coords t) 2).val = t.val / 8 % 8 ∧ ((grid0.coords t) 3).val = t.val % 8 :=
  (by decide +kernel : ∀ t : Fin grid0.N, _)

/-- The arguments: queries, keys, values, projection. -/
abbrev Qs (c : Dev nD) : Keys := m ((c : Thread nD τ).loc main_arg0)
abbrev Ks (c : Dev nD) : Keys := m ((c : Thread nD τ).loc main_arg1)
abbrev Vs (c : Dev nD) : Vals := m ((c : Thread nD τ).loc main_arg2)
abbrev X (c : Dev nD) : Proj := m ((c : Thread nD τ).loc main_arg3)

theorem rd0 (c : Dev nD) (t : Fin cfg0.N) (r : Fin 512) (d : Fin 256) (i : Fin 16384) (j : Fin 2048)
    (hi : i.val = (8 * (t.val / 512) + t.val / 8 % 8) * 512 + r.val) (hj : j.val = t.val / 64 % 8 * 256 + d.val) :
    iblk m c 0 t (ix2 r d) = Qs m c (ix2 i j) := by
  obtain ⟨e0, e1, -⟩ := idx t
  blk_point [iblk, V, e0, e1, hi, hj]

theorem rd1 (c : Dev nD) (t : Fin cfg0.N) (r : Fin 512) (d : Fin 256) (i : Fin 16384) (j : Fin 2048)
    (hi : i.val = (8 * (t.val / 512) + min (t.val % 8) (t.val / 8 % 8)) * 512 + r.val) (hj : j.val = t.val / 64 % 8 * 256 + d.val) :
    iblk m c 1 t (ix2 r d) = Ks m c (ix2 i j) := by
  obtain ⟨-, -, e0, e1, -⟩ := idx t
  blk_point [iblk, V, e0, e1, hi, hj]

theorem rd2 (c : Dev nD) (t : Fin cfg0.N) (r : Fin 512) (d : Fin 128) (i : Fin 16384) (j : Fin 1024)
    (hi : i.val = (8 * (t.val / 512) + min (t.val % 8) (t.val / 8 % 8)) * 512 + r.val) (hj : j.val = t.val / 64 % 8 * 128 + d.val) :
    iblk m c 2 t (ix2 r d) = Vs m c (ix2 i j) := by
  obtain ⟨-, -, -, -, e0, e1⟩ := idx t
  blk_point [iblk, V, e0, e1, hi, hj]

theorem rd3 (c : Dev nD) (t : Fin cfg0.N) (r : Fin 512) (d : Fin 128) (i : Fin 16384) (j : Fin 12288)
    (hi : i.val = (8 * (t.val / 512) + t.val / 8 % 8) * 512 + r.val) (hj : j.val = (80 + t.val / 64 % 8) * 128 + d.val) :
    iblk m c 3 t (ix2 r d) = X m c (ix2 i j) := by
  obtain ⟨e0, e1, -⟩ := idx' t
  blk_point [iblk, V, e0, e1, hi, hj]

end Cert.LatentIdeal.Hand
end
-- ==== Proof.LatentResult.lean ====
/- The latent attention of `LatentIdeal` over its grid, and its agreement with the reference. -/
module
public import proofs.«01_k».proof.Defs
public import proofs.«01_k».proof.Proof.LatentValue
@[expose] public section
set_option maxRecDepth 16384
noncomputable section
namespace Cert.LatentIdeal.Hand
open Cert.LatentIdeal Cert.LatentIdeal.Gen Idealize.ShloMosaic Idealize.ShloMosaic.TcCoe Idealize.SL.Sem
open Cert.LatentMath Cert.Softmax

variable (m : (ℓ : Loc nD τ sig) → Buf (Elt Ideal) ℓ) (ρ : Dev nD → PrngReg)

/-! ## The blocks of a point, in the terms of the row -/

theorem sc_point (c : Dev nD) (t : Fin cfg0.N) (hU : t.val % 8 ≤ t.val / 8 % 8) (b : Fin 4) (h : Fin 8) (q : Fin 4096) (r k : Fin 512)
    (hb : b.val = t.val / 512) (hh : h.val = t.val / 64 % 8) (hq : q.val = 512 * (t.val / 8 % 8) + r.val) :
    sc ((grid0.coords t) 2).val ((grid0.coords t) 3).val (iblk m c 0 t) (iblk m c 1 t) r k
      = score (Qs m c) (Ks m c) b h q (512 * (t.val % 8) + k.val) := by
  have hk := k.isLt
  have hr := r.isLt
  have hq' := q.isLt
  have hmin : min (t.val % 8) (t.val / 8 % 8) = t.val % 8 := Nat.min_eq_left hU
  rw [(co2 t).1, (co2 t).2, sc, score, ← hq]
  congr 1
  refine congrArg (· * _) (Finset.sum_congr rfl fun d _ => ?_)
  exact congrArg₂ (· * ·) (rd0 m c t r d (row b q.val) (colk h d) (by simp only [row]; omega) (by simp only [colk]; omega))
    (rd1 m c t k d (row b (512 * (t.val % 8) + k.val)) (colk h d) (by rw [hmin]; simp only [row]; omega) (by simp only [colk]; omega))

theorem v_point (c : Dev nD) (t : Fin cfg0.N) (hU : t.val % 8 ≤ t.val / 8 % 8) (b : Fin 4) (h : Fin 8) (k : Fin 512) (d : Fin 128)
    (hb : b.val = t.val / 512) (hh : h.val = t.val / 64 % 8) :
    iblk m c 2 t (ix2 k d) = value (Vs m c) b h d (512 * (t.val % 8) + k.val) := by
  have hk := k.isLt
  have hmin : min (t.val % 8) (t.val / 8 % 8) = t.val % 8 := Nat.min_eq_left hU
  exact rd2 m c t k d (row b (512 * (t.val % 8) + k.val)) (colv h d) (by rw [hmin]; simp only [row]; omega) (by simp only [colv]; omega)

theorem gate_point (c : Dev nD) (t : Fin cfg0.N) (b : Fin 4) (h : Fin 8) (q : Fin 4096) (r : Fin 512) (d : Fin 128)
    (hb : b.val = t.val / 512) (hh : h.val = t.val / 64 % 8) (hq : q.val = 512 * (t.val / 8 % 8) + r.val) :
    iblk m c 3 t (ix2 r d) = X m c (ix2 (row b q.val) (colz h d)) := by
  have hr := r.isLt
  have hq' := q.isLt
  exact rd3 m c t r d (row b q.val) (colz h d) (by simp only [row]; omega) (by simp only [colz]; omega)

/-! ## The state after each block of keys -/

theorem aft_some (c : Dev nD) (t : Fin cfg0.N) : ∃ σ, aft m c t.val t.isLt
    = stp (grid0.coords t) (iblk m c 0 t) (iblk m c 1 t) (iblk m c 2 t) (iblk m c 3 t) σ := by
  by_cases hz : t.val = 0
  · exact ⟨_, aft_zero m c t hz (k0_pay1 (F := Ideal), k0_pay1 (F := Ideal), k0_pay1 (F := Ideal), iblk m c 3 t)⟩
  · exact ⟨_, aft_pos m c t hz⟩

theorem state (c : Dev nD) (hf : LatentMath.Finite (Qs m c) (Ks m c)) : ∀ (j : ℕ) (t : Fin cfg0.N), t.val % 8 = j → j ≤ t.val / 8 % 8 →
    ∀ (b : Fin 4) (h : Fin 8) (q : Fin 4096) (r : Fin 512), b.val = t.val / 512 → h.val = t.val / 64 % 8 →
      q.val = 512 * (t.val / 8 % 8) + r.val → ∀ d : Fin 128,
      (aft m c t.val t.isLt).1 (ix2 r d) = Softmax.M (score (Qs m c) (Ks m c) b h q) (512 * j + 512)
      ∧ (aft m c t.val t.isLt).2.1 (ix2 r d) = L (score (Qs m c) (Ks m c) b h q) (512 * j + 512)
      ∧ (aft m c t.val t.isLt).2.2.1 (ix2 r d) = A (score (Qs m c) (Ks m c) b h q) (value (Vs m c) b h d) (512 * j + 512) := by
  intro j
  induction j with
  | zero =>
    intro t ht hU b h q r hb hh hq d
    obtain ⟨σ, hσ⟩ := aft_some m c t
    have cr := (hcR t).2 ht
    have cu := (hcU t).2 (by omega)
    rw [hσ]
    simp only [stp, if_pos cr, if_pos cu]
    refine step _ _ _ _ _ _ _ r (score (Qs m c) (Ks m c) b h q) (fun d => value (Vs m c) b h d) (512 * 0) (fun k => ?_) (fun k d => ?_)
      (score_zero hf b h q) (fun k _ => score_ne_top hf b h q k) (fun d => ?_) (fun d => ?_) (fun d => ?_) d
    · rw [sc_point m c t (by omega) b h q r k hb hh hq, ht]
    · rw [v_point m c t (by omega) b h k d hb hh, ht]
    · exact (pay1 _).trans (by simp [Softmax.M])
    · exact (pay2 _).trans (by simp [L])
    · exact (pay3 _).trans (by simp [A])
  | succ j ih =>
    intro t ht hU b h q r hb hh hq d
    have hz : t.val ≠ 0 := by omega
    have cr : ¬cR (grid0.coords t) := fun e => by have := (hcR t).1 e; omega
    have cu := (hcU t).2 (by omega)
    have IH := ih ⟨t.val - 1, Nat.lt_of_le_of_lt (Nat.sub_le _ _) t.isLt⟩ (by dsimp only; omega) (by dsimp only; omega) b h q r
      (by dsimp only; omega) (by dsimp only; omega) (by dsimp only; omega)
    rw [aft_pos m c t hz]
    simp only [stp, if_neg cr, if_pos cu]
    refine step _ _ _ _ _ _ _ r (score (Qs m c) (Ks m c) b h q) (fun d => value (Vs m c) b h d) (512 * (j + 1)) (fun k => ?_) (fun k d => ?_)
      (score_zero hf b h q) (fun k _ => score_ne_top hf b h q k) (fun d => ?_) (fun d => ?_) (fun d => ?_) d
    · rw [sc_point m c t (by omega) b h q r k hb hh hq, ht]
    · rw [v_point m c t (by omega) b h k d hb hh, ht]
    · exact (IH d).1
    · exact (IH d).2.1
    · exact (IH d).2.2

/-- The output block from the last block of keys taken in to the row's end. -/
theorem out_state (c : Dev nD) (hf : LatentMath.Finite (Qs m c) (Ks m c)) : ∀ (e : ℕ) (t : Fin cfg0.N), t.val % 8 = t.val / 8 % 8 + e →
    ∀ (b : Fin 4) (h : Fin 8) (q : Fin 4096) (r : Fin 512), b.val = t.val / 512 → h.val = t.val / 64 % 8 →
      q.val = 512 * (t.val / 8 % 8) + r.val → ∀ d : Fin 128,
      (aft m c t.val t.isLt).2.2.2 (ix2 r d) = out (Qs m c) (Ks m c) (Vs m c) (X m c) b h q d := by
  intro e
  induction e with
  | zero =>
    intro t ht b h q r hb hh hq d
    obtain ⟨-, h2, h3⟩ := state m c hf (t.val % 8) t rfl (by omega) b h q r hb hh hq d
    obtain ⟨-, h2', -⟩ := state m c hf (t.val % 8) t rfl (by omega) b h q r hb hh hq 0
    obtain ⟨σ, hσ⟩ := aft_some m c t
    have co := (hcO t).2 (by omega)
    have e : (aft m c t.val t.isLt).2.2.2 = oN (iblk m c 3 t) (aft m c t.val t.isLt).2.1 (aft m c t.val t.isLt).2.2.1 := by
      rw [hσ]; simp only [stp, if_pos co]
    rw [e, oN, pay6, h3]
    refine Eq.trans ?_ (out_eq hf (Vs m c) (X m c) b h q d (512 * (t.val % 8) + 512) (by have := r.isLt; omega) (by omega))
    exact congrArg₂ (· * ·) (congrArg (Ideal.div _) ((col_at _ r 0).trans h2'))
      (congrArg (fun z : EReal => z * Ideal.logistic z) (gate_point m c t b h q r d hb hh hq))
  | succ e ih =>
    intro t ht b h q r hb hh hq d
    rw [aft_out_idle m c t (by omega)]
    have e8 : (t.val - 1) / 8 = t.val / 8 := by omega
    exact ih ⟨t.val - 1, Nat.lt_of_le_of_lt (Nat.sub_le _ _) t.isLt⟩ (by dsimp only; rw [e8]; omega) b h q r
      (by dsimp only; omega) (by dsimp only; omega) (by dsimp only; rw [e8]; exact hq) d

/-! ## The result array -/

theorem final (c : Dev nD) (hf : LatentMath.Finite (Qs m c) (Ks m c)) : (dats m 0 c).arrAt 4 cfg0.N = res (Qs m c) (Ks m c) (Vs m c) (X m c) := by
  refine (dats m 0 c).arrAt_eq_of_covers 4 _ (by decide +kernel) fun t hf' y => ?_
  have h7 : t.val % 8 = 7 := (flush0_4 t).1 hf'
  obtain ⟨-, -, f0, f1⟩ := idx' t
  have ht : t.val < 2048 := t.isLt
  blk_simp
  rw [after_4]
  have hi : (((View.whole main_v0).slice (win0_4.rect t)).emb y 0).val = (8 * (t.val / 512) + t.val / 8 % 8) * 512 + (y 0).val := by
    blk_point [f0]
  have hj : (((View.whole main_v0).slice (win0_4.rect t)).emb y 1).val = t.val / 64 % 8 * 128 + (y 1).val := by
    blk_point [f1]
  have y0 : (y 0).val < 512 := (y 0).isLt
  have y1 : (y 1).val < 128 := (y 1).isLt
  have ey : y = ix2 (y 0) (y 1) := by funext a; fin_cases a <;> rfl
  have key := out_state m c hf (7 - t.val / 8 % 8) t (by omega) ⟨t.val / 512, by omega⟩ ⟨t.val / 64 % 8, by omega⟩
    ⟨512 * (t.val / 8 % 8) + (y 0).val, by omega⟩ (y 0) rfl rfl rfl (y 1)
  refine Eq.trans (congrArg _ ey) (key.trans (res_at _ _ _ _ _ _ _ _ _ ?_ ?_).symm)
  · rw [hi]; dsimp only; omega
  · rw [hj]; dsimp only; omega

/-! ## The precondition, read -/

theorem real_of {x : EReal} (h : BitVec.ofBool (decide (FloatOps.absf (F := Ideal) (φ := .f32) x < Ideal.ofBits .f32 0x7F800000#32)) = 1#1) :
    Real' x := Real'.of_cmp h

theorem finite_of_pre [Cert.Pre_finite_latent.Facts] (q k : Vec Ideal S16384x2048 .bf16) (v : Vec Ideal S16384x1024 .bf16)
    (x : Vec Ideal S16384x12288 .bf16)
    (h : Cert.Pre_finite_latent.fn (F := Ideal) q k v x = fun _ => 1#1) : LatentMath.Finite q k where
  q := by
    intro b n hh d
    have := b.isLt; have := hh.isLt; have := d.isLt; have := Nat.mod_lt n (show 0 < 4096 by decide)
    have e := congrFun h (ix2 ⟨4096 * b.val + n % 4096, by omega⟩ ⟨256 * hh.val + d.val, by omega⟩)
    revert e
    pointwise [Cert.Pre_finite_latent.fn]
    rw [dif_pos (by omega)]
    intro e
    exact real_of e
  k := by
    intro b n hh d
    have := b.isLt; have := hh.isLt; have := d.isLt; have := Nat.mod_lt n (show 0 < 4096 by decide)
    obtain ⟨i, hi⟩ : ∃ i : Fin 32768, i.val = 16384 + (4096 * b.val + n % 4096) := ⟨⟨_, by omega⟩, rfl⟩
    obtain ⟨j, hj⟩ : ∃ j : Fin 2048, j.val = 256 * hh.val + d.val := ⟨⟨_, by omega⟩, rfl⟩
    have e := congrFun h (ix2 i j)
    revert e
    pointwise [Cert.Pre_finite_latent.fn]
    rw [dif_neg (by omega)]
    intro e
    refine Eq.mp (congrArg Real' (at_eq k ?_ ?_)) (real_of e)
    · simp only [row]; omega
    · simp only [colk]; omega

theorem algebraic [Cert.Pre_finite_latent.Facts] : Cert.algebraic_LatentIdeal_LatentRefIdeal_pre_finite_latent (hLatentIdeal := Cert.LatentIdeal.Gen.facts)
    (hLatentRefIdeal := Cert.LatentRefIdeal.Gen.facts) := by
  intro m ρ m' ρ' hpre hm
  have hf (c : Dev nD) : LatentMath.Finite (Qs m c) (Ks m c) := finite_of_pre _ _ _ _ (hpre c)
  refine ⟨fun c => res (Qs m c) (Ks m c) (Vs m c) (X m c), ?_, ?_⟩
  · exact (θ_run defs _ _).mono (fun r h c => ⟨((h.1 c).1 4).trans (final m c (hf c)), h.2 c⟩)
      (θ_run_and (run_main m ρ) (frame_of m ρ (dats m) (A_eq m) (run_main m ρ)))
  · refine (θ_run Cert.LatentRefIdeal.defs _ _).mono (fun r h c => ⟨(h c).1.trans ?_, (h c).2⟩) (Cert.LatentRefIdeal.Value.run m' ρ')
    rw [Cert.LatentRefIdeal.Read.val_main_v36_eq, (hm c).1, (hm c).2.1, (hm c).2.2.1, (hm c).2.2.2]
    exact Cert.LatentRefIdeal.Hand.res_eq _ _ _ _

end Cert.LatentIdeal.Hand
end
-- ==== Proof.SmallValue.lean ====
/- The small projection: the result array is the product of the argument arrays, as the reference has it. -/
module

public import proofs.«01_k».proof.Defs
public import proofs.«01_k».proof.Proof.Gen.SmallIdeal.Value
public import proofs.«01_k».proof.Proof.Gen.SmallRefIdeal.Read
public import Idealize.ShloMosaic.Lib.Pipeline.ValueKit
public import Idealize.ShloMosaic.Lib.Pointwise

@[expose] public section

set_option maxRecDepth 16384

noncomputable section

namespace Cert.SmallIdeal.Hand

open Cert.SmallIdeal Cert.SmallIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of the argument arrays. -/
def G (x : Vec Ideal S16384x4096 .bf16) (w : Vec Ideal S4096x128 .f32) : Vec Ideal S16384x128 .f32 :=
  fun i => ∑ k : Fin 4096, x (ix2 (i 0) k) * w (ix2 k (i 1))

theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3⟩ := idx t
  pointwise [k0_pay1, G]
  blk_point [iblk, V, e0, e1, e2, e3]

/-- The algebraic claim of the small projection. -/
theorem algebraic : Cert.algebraic_SmallIdeal_SmallRefIdeal (hSmallIdeal := Cert.SmallIdeal.Gen.facts) (hSmallRefIdeal := Cert.SmallRefIdeal.Gen.facts) := by
  intro m ρ m' ρ' _ hm
  refine ⟨fun c => G (m ((c : Thread nD τ).loc main_arg0)) (m ((c : Thread nD τ).loc main_arg1)), ?_, ?_⟩
  · exact (θ_run defs _ _).mono (fun r h c => ⟨(h c).1.trans (final m c), (h c).2⟩) (Value.run_blocks m ρ)
  · refine (θ_run Cert.SmallRefIdeal.defs _ _).mono (fun r h c => ⟨(h c).1.trans ?_, (h c).2⟩) (Cert.SmallRefIdeal.Value.run m' ρ')
    rw [(hm c).1, (hm c).2]
    funext i
    pointwise [G]

end Cert.SmallIdeal.Hand

end
-- ==== Proof.WindowPay.lean ====
/- The sliding-window attention's body at one point, read entry by entry: the eight stored parts of the result are one
   function of the blocks, at eight pairs of heads. -/
module
public import proofs.«01_k».proof.Proof.Gen.WindowIdeal
public import proofs.«01_k».proof.Proof.Gen.WindowIdeal.Skeleton
public import proofs.«01_k».proof.Proof.Softmax
public import Idealize.ShloMosaic.Lib.Pipeline.ValueKit
public import Idealize.ShloMosaic.Lib.Pointwise
@[expose] public section
set_option maxRecDepth 16384
noncomputable section
namespace Cert.WindowIdeal.Hand
open Cert.WindowIdeal Cert.WindowIdeal.Gen Idealize.ShloMosaic Idealize.ShloMosaic.TcCoe Idealize.SL.Sem

theorem mask_bot : (Named.named κ "mask" 0xF149F2CA#32 : Ideal .f32) = (⊥ : EReal) :=
  IdealRules.named_const.ideal_named_scalar _ _ _ _ rfl

/-! ## The parts of the body -/

/-- The scores of one head: the scaled products less the slope times the distance, masked. -/
def scr (K : FVec Ideal S256x128 .bf16) (w : IVec S128x256 1) (f : FVec Ideal S128x256 .f32) (q : Vec Ideal S128x128 .bf16)
    (sl : BitVec 32) : FVec Ideal S128x256 .f32 :=
  select w (subf (mulf (matmul (φ₁ := .bf16) dot_S128x128_S256x128_S128x256_1_1_0_0_n_n none q K (constant S128x256 .f32 0x00000000#32))
      (broadcast S128x256 (Scalar.ofBits .f32 0x3E000000#32)))
    (mulf (broadcast S128x256 (Scalar.ofBits .f32 sl)) f)) (broadcast S128x256 (Named.named κ "mask" 0xF149F2CA#32))

/-- The greater of a row's greatest score and the sink. -/
def top (s : FVec Ideal S128x256 .f32) (u : Elt Ideal .f32) : FVec Ideal S128x1 .f32 :=
  maximumf (shapeCast S128x1 (multiReduction .maximumf [1] S128 s 0xFF800000#32 reduces_S128x256_S128 (.inl rfl) rfl) shapeCasts_S128_S128x1)
    (broadcast S128x1 u)

/-- The weights of a row before they are normalised. -/
def wts (s : FVec Ideal S128x256 .f32) (u : Elt Ideal .f32) : FVec Ideal S128x256 .f32 :=
  exp (subf s (broadcastTo S128x256 (top s u) broadcasts_S128x1_S128x256))

/-- The values of one head under the normalised weights. -/
def att (s : FVec Ideal S128x256 .f32) (u : Elt Ideal .f32) (V : FVec Ideal S256x128 .bf16) : FVec Ideal S128x128 .f32 :=
  matmul dot_S128x256_S256x128_S128x128_1_0_0_1_n_n none
    (truncf .bf16 (divf (wts s u) (broadcastTo S128x256
      (addf (shapeCast S128x1 (multiReduction .add [1] S128 (wts s u) 0x00000000#32 reduces_S128x256_S128 (.inl rfl) rfl) shapeCasts_S128_S128x1)
        (exp (subf (broadcast S128x1 u) (top s u)))) broadcasts_S128x1_S128x256)) bitsLt_bf16_f32)
    V (constant S128x128 .f32 0x00000000#32)

/-- Two heads side by side, gated. -/
def fin (a b : FVec Ideal S128x128 .f32) (z : Vec Ideal S128x128 .bf16) : FVec Ideal S128x128 .bf16 :=
  truncf .bf16 (mulf (addf a b) (mulf (extf .f32 z bitsLt_bf16_f32) (logistic (extf .f32 z bitsLt_bf16_f32)))) bitsLt_bf16_f32

/-- The two heads of one stored part. -/
def pair (K K' V V' : FVec Ideal S256x128 .bf16) (w : IVec S128x256 1) (f : FVec Ideal S128x256 .f32) (q z : Vec Ideal S128x128 .bf16)
    (sl sl' : BitVec 32) (u u' : Elt Ideal .f32) : FVec Ideal S128x128 .bf16 :=
  fin (att (scr K w f q sl) u V) (att (scr K' w f q sl') u' V') z

theorem scr_at (K : FVec Ideal S256x128 .bf16) (w : IVec S128x256 1) (f : FVec Ideal S128x256 .f32) (q : Vec Ideal S128x128 .bf16)
    (sl : BitVec 32) (y : S128x256.Idx) :
    scr K w f q sl y = Scalar.select (w y) ((∑ d : Fin 128, q (ix2 (y 0) d) * K (ix2 (y 1) d)) * Ideal.ofBits .f32 0x3E000000#32
      - Ideal.ofBits .f32 sl * f y) (⊥ : EReal) := by
  pointwise [scr]
  rw [mask_bot]

theorem top_at (s : FVec Ideal S128x256 .f32) (u : Elt Ideal .f32) (y : S128x1.Idx) :
    top s u y = max (Finset.univ.sup fun k : Fin 256 => s (ix2 (y 0) k)) u := by
  pointwise [top]
  rw [Softmax.fold_max]

theorem wts_at (s : FVec Ideal S128x256 .f32) (u : Elt Ideal .f32) (y : S128x256.Idx) :
    wts s u y = Ideal.exp (s y - top s u (ix2 (y 0) 0)) := by
  pointwise [wts]

theorem att_at (s : FVec Ideal S128x256 .f32) (u : Elt Ideal .f32) (V : FVec Ideal S256x128 .bf16) (y : S128x128.Idx) :
    att s u V y = ∑ k : Fin 256, Ideal.div (wts s u (ix2 (y 0) k))
      ((∑ j : Fin 256, wts s u (ix2 (y 0) j)) + Ideal.exp (u - top s u (ix2 (y 0) 0))) * V (ix2 k (y 1)) := by
  pointwise [att]

theorem fin_at (a b : FVec Ideal S128x128 .f32) (z : Vec Ideal S128x128 .bf16) (y : S128x128.Idx) :
    fin a b z y = (a y + b y) * (z y * Ideal.logistic (z y)) := by
  pointwise [fin]

/-! ## The keys and values of a group of heads -/

/-- Rows 0 to 127 of the previous block, then those of the block itself. -/
def kv (v0 v1 : Vec Ideal S128x256 .bf16) (j c : Fin 256) : EReal :=
  if h : j.val < 128 then v0 (ix2 ⟨j.val, h⟩ c) else v1 (ix2 ⟨j.val - 128, by have := j.isLt; omega⟩ c)

theorem pay2_at (v0 v1 : Vec Ideal S128x256 .bf16) (y : S256x256.Idx) : k0_pay2 v0 v1 y = kv v0 v1 (y 0) (y 1) := by
  pointwise [k0_pay2, kv]

theorem lane_select {α : Type} (n : ℕ) (hn : n < 128) (x y : α) :
    Scalar.select (IntOp.cmpi .slt (BitVec.ofNat 32 n) 64#32) x y = if n < 64 then x else y := by
  by_cases h : n < 64
  · rw [if_pos h, WordCmp.select_of_eq_one ((WordCmp.cmpi_slt_ofNat_eq_one_iff (by omega) (by omega)).2 h)]
  · rw [if_neg h, WordCmp.select_of_eq_zero ((WordCmp.cmpi_slt_ofNat_eq_zero_iff (by omega) (by omega)).2 (by omega))]

/-- The 64 columns from `o`, in the lanes of one half (the lower one for `e = 0`, the upper one for `e = 1`), zero in the
    lanes of the other half. -/
def half (v0 v1 : Vec Ideal S128x256 .bf16) (o : Fin 4) (e : ℕ) (y : S256x128.Idx) : EReal :=
  if (y 1).val / 64 = e then kv v0 v1 (y 0) ⟨64 * o.val + (y 1).val % 64, by have := o.isLt; omega⟩ else 0

theorem kv_eq (v0 v1 : Vec Ideal S128x256 .bf16) {j c c' : Fin 256} (h : c.val = c'.val) : kv v0 v1 j c = kv v0 v1 j c' := by
  rw [Fin.ext h]

section
variable (v0 v1 : Vec Ideal S128x256 .bf16) (y : S256x128.Idx)

theorem pay7_at : k0_pay7 v0 v1 y = half v0 v1 0 0 y := by
  have h : (y 1).val < 128 := (y 1).isLt
  pointwise [k0_pay7, k0_pay5, k0_pay4, k0_pay3]
  rw [lane_select _ (by omega), pay2_at, half]
  split <;> split <;> first | omega | rfl | exact kv_eq _ _ (by dsimp [ix2]; omega)
theorem pay8_at : k0_pay8 v0 v1 y = half v0 v1 0 1 y := by
  have h : (y 1).val < 128 := (y 1).isLt
  pointwise [k0_pay8, k0_pay5, k0_pay4, k0_pay3]
  rw [lane_select _ (by omega), pay2_at, half]
  split <;> split <;> first | omega | rfl | exact kv_eq _ _ (by dsimp [ix2]; omega)
theorem pay9_at : k0_pay9 v0 v1 y = half v0 v1 1 0 y := by
  have h : (y 1).val < 128 := (y 1).isLt
  pointwise [k0_pay9, k0_pay6, k0_pay4, k0_pay3]
  rw [lane_select _ (by omega), pay2_at, half]
  split <;> split <;> first | omega | rfl | exact kv_eq _ _ (by dsimp [ix2]; omega)
theorem pay10_at : k0_pay10 v0 v1 y = half v0 v1 1 1 y := by
  have h : (y 1).val < 128 := (y 1).isLt
  pointwise [k0_pay10, k0_pay6, k0_pay4, k0_pay3]
  rw [lane_select _ (by omega), pay2_at, half]
  split <;> split <;> first | omega | rfl | exact kv_eq _ _ (by dsimp [ix2]; omega)
theorem pay14_at : k0_pay14 v0 v1 y = half v0 v1 2 0 y := by
  have h : (y 1).val < 128 := (y 1).isLt
  pointwise [k0_pay14, k0_pay12, k0_pay11, k0_pay3]
  rw [lane_select _ (by omega), pay2_at, half]
  split <;> split <;> first | omega | rfl | exact kv_eq _ _ (by dsimp [ix2]; omega)
theorem pay15_at : k0_pay15 v0 v1 y = half v0 v1 2 1 y := by
  have h : (y 1).val < 128 := (y 1).isLt
  pointwise [k0_pay15, k0_pay12, k0_pay11, k0_pay3]
  rw [lane_select _ (by omega), pay2_at, half]
  split <;> split <;> first | omega | rfl | exact kv_eq _ _ (by dsimp [ix2]; omega)
theorem pay16_at : k0_pay16 v0 v1 y = half v0 v1 3 0 y := by
  have h : (y 1).val < 128 := (y 1).isLt
  pointwise [k0_pay16, k0_pay13, k0_pay11, k0_pay3]
  rw [lane_select _ (by omega), pay2_at, half]
  split <;> split <;> first | omega | rfl | exact kv_eq _ _ (by dsimp [ix2]; omega)
theorem pay17_at : k0_pay17 v0 v1 y = half v0 v1 3 1 y := by
  have h : (y 1).val < 128 := (y 1).isLt
  pointwise [k0_pay17, k0_pay13, k0_pay11, k0_pay3]
  rw [lane_select _ (by omega), pay2_at, half]
  split <;> split <;> first | omega | rfl | exact kv_eq _ _ (by dsimp [ix2]; omega)
end

/-! ## The band -/

/-- The body's mask at the block of rows `i`. -/
def msk (i : ℕ) : IVec S128x256 1 :=
  k0_pay21 (iota .tc S128x256 32 [1] iota_S128x256_d1_w32) k0_pay18
    (Scalar.select (Scalar.cmpi .sgt (BitVec.ofNat 32 i) 0#32) 0#32 128#32) k0_pay19 k0_pay20

theorem msk_at {α : Type} (i : ℕ) (hi : i < 32) (y : S128x256.Idx) (a b : α) :
    Scalar.select (msk i y) a b = if 128 ≤ 128 * i + (y 1).val ∧ (y 1).val ≤ (y 0).val + 128 ∧ (y 0).val < (y 1).val then a else b := by
  have h0 : (y 0).val < 128 := (y 0).isLt
  have h1 : (y 1).val < 256 := (y 1).isLt
  pointwise [msk, k0_pay21, k0_pay18, k0_pay19, k0_pay20]
  rw [show IntOp.addi (BitVec.ofNat 32 (y 0).val) 128#32 = BitVec.ofNat 32 ((y 0).val + 128) from WordCmp.addi_ofNat _ _]
  generalize (y 0).val = r at *
  generalize (y 1).val = j at *
  rw [show Scalar.select (Scalar.cmpi .sgt (BitVec.ofNat 32 i) 0#32) 0#32 128#32 = BitVec.ofNat 32 (if 0 < i then 0 else 128) from by
    by_cases h : 0 < i
    · rw [if_pos h]; exact WordCmp.select_of_eq_one ((WordCmp.cmpi_sgt_ofNat_eq_one_iff (by omega) (by omega)).2 h) _ _
    · rw [if_neg h]; exact WordCmp.select_of_eq_zero ((WordCmp.cmpi_sgt_ofNat_eq_zero_iff (by omega) (by omega)).2 (by omega)) _ _]
  have hc : IntOp.cmpi .sge (BitVec.ofNat 32 j) (BitVec.ofNat 32 (if 0 < i then 0 else 128))
      = BitVec.ofBool (decide (128 ≤ 128 * i + j)) := by
    by_cases h : 128 ≤ 128 * i + j
    · rw [decide_eq_true h]; exact (WordCmp.cmpi_sge_ofNat_eq_one_iff (by omega) (by split <;> omega)).2 (by split <;> omega)
    · rw [decide_eq_false h]; exact (WordCmp.cmpi_sge_ofNat_eq_zero_iff (by omega) (by split <;> omega)).2 (by split <;> omega)
  rw [hc, Softmax.band_eq (r + 128) j (by omega) (by omega)]
  by_cases h : 128 ≤ 128 * i + j <;> by_cases h' : j ≤ r + 128 ∧ r + 128 < j + 128
  · rw [if_pos (by omega), decide_eq_true h, decide_eq_true h']; rfl
  · rw [if_neg (by omega), decide_eq_true h, decide_eq_false h']; rfl
  · rw [if_neg (by omega), decide_eq_false h, decide_eq_true h']; rfl
  · rw [if_neg (by omega), decide_eq_false h, decide_eq_false h']; rfl

theorem dist_at (y : S128x256.Idx) :
    k0_pay22 (F := Ideal) k0_pay18 y = ((((((y 0).val + 128 : ℕ) : ℤ) - ((y 1).val : ℤ) : ℤ) : ℝ) : EReal) := by
  have h0 : (y 0).val < 128 := (y 0).isLt
  have h1 : (y 1).val < 256 := (y 1).isLt
  pointwise [k0_pay22, k0_pay18]
  rw [show IntOp.addi (BitVec.ofNat 32 (y 0).val) 128#32 = BitVec.ofNat 32 ((y 0).val + 128) from WordCmp.addi_ofNat _ _]
  show ((((IntOp.subi _ _).toInt : ℤ) : ℝ) : EReal) = _
  rw [Softmax.subi_toInt _ _ (by omega) (by omega)]

end Cert.WindowIdeal.Hand
end
-- ==== Proof.WindowScore.lean ====
/- The sliding-window attention, written for one row of queries: its scores, its sink, its values, its result; and how the
   256 keys around a query's block stand for all the keys. -/
module
public import proofs.«01_k».proof.Proof.Softmax
public import Idealize.ShloMosaic.Lib.Pointwise
@[expose] public section
noncomputable section
namespace Cert.WindowMath
open Idealize.ShloMosaic Cert.Softmax

abbrev Proj := (⟨2, ![16384, 12288]⟩ : Shape).Idx → EReal
abbrev Sinks := (⟨1, ![16]⟩ : Shape).Idx → EReal

/-- The row of position `n` of batch entry `b`. -/
def row (b : Fin 4) (n : ℕ) : Fin 16384 := ⟨4096 * b.val + n % 4096, by have := b.isLt; have := Nat.mod_lt n (show 0 < 4096 by decide); omega⟩
/-- The column of feature `d` of head `h` among the queries. -/
def qcol (h : Fin 16) (d : Fin 64) : Fin 12288 := ⟨8192 + 64 * h.val + d.val, by have := h.isLt; have := d.isLt; omega⟩
/-- The column of feature `d` of head `h` among the gates. -/
def zcol (h : Fin 16) (d : Fin 64) : Fin 12288 := ⟨9216 + 64 * h.val + d.val, by have := h.isLt; have := d.isLt; omega⟩
/-- The column of feature `d` among the keys of the group of head `h`: eight heads share their keys. -/
def kcol (h : Fin 16) (d : Fin 64) : Fin 12288 := ⟨12032 + 64 * (h.val / 8) + d.val, by have := h.isLt; have := d.isLt; omega⟩
/-- The column of feature `d` among the values of the group of head `h`. -/
def vcol (h : Fin 16) (d : Fin 64) : Fin 12288 := ⟨12160 + 64 * (h.val / 8) + d.val, by have := h.isLt; have := d.isLt; omega⟩

/-- The slopes `2 ^ (-8 (h + 1) / 16)` of the heads, as words. -/
def slopes : Fin 16 → BitVec 32 :=
  ![0x3F3504F3#32, 0x3F000000#32, 0x3EB504F3#32, 0x3E800000#32, 0x3E3504F3#32, 0x3E000000#32, 0x3DB504F3#32, 0x3D800000#32,
    0x3D3504F3#32, 0x3D000000#32, 0x3CB504F3#32, 0x3C800000#32, 0x3C3504F3#32, 0x3C000000#32, 0x3BB504F3#32, 0x3B800000#32]
def slope (h : Fin 16) : EReal := Ideal.ofBits .f32 (slopes h)

/-- The score of query `q` and key `n`: the scaled product less the slope times the distance; `⊥` where the key is later
    than the query or 128 or more positions earlier. -/
def score (x : Proj) (b : Fin 4) (h : Fin 16) (q n : ℕ) : EReal :=
  if n ≤ q ∧ q < n + 128 then
    (∑ d : Fin 64, x (ix2 (row b q) (qcol h d)) * x (ix2 (row b n) (kcol h d))) * Ideal.ofBits .f32 0x3E000000#32
      - slope h * ((((q : ℤ) - (n : ℤ) : ℤ) : ℝ) : EReal)
  else ⊥

/-- The greatest of the scores and the sink. -/
def mx (s : ℕ → EReal) (u : EReal) : EReal := max ((Finset.range 4096).sup s) u
/-- The sum of the weights, the sink's included. -/
def sm (s : ℕ → EReal) (u : EReal) : EReal := (∑ n ∈ Finset.range 4096, Ideal.exp (s n - mx s u)) + Ideal.exp (u - mx s u)
/-- The normalised weight of key `n`. -/
def wt (s : ℕ → EReal) (u : EReal) (n : ℕ) : EReal := Ideal.div (Ideal.exp (s n - mx s u)) (sm s u)

/-- The gate of query `q` at feature `d`. -/
def gate (x : Proj) (b : Fin 4) (h : Fin 16) (q : ℕ) (d : Fin 64) : EReal :=
  x (ix2 (row b q) (zcol h d)) * Ideal.logistic (x (ix2 (row b q) (zcol h d)))

/-- One entry of the result: the values under the weights, gated. -/
def out (x : Proj) (g : Sinks) (b : Fin 4) (h : Fin 16) (q : ℕ) (d : Fin 64) : EReal :=
  (∑ n ∈ Finset.range 4096, wt (score x b h q) (g (ix1 h)) n * x (ix2 (row b n) (vcol h d))) * gate x b h q d

/-- The whole result. -/
def res (x : Proj) (g : Sinks) : (⟨2, ![16384, 1024]⟩ : Shape).Idx → EReal := fun i =>
  out x g ⟨(i 0).val / 4096, by have : (i 0).val < 16384 := (i 0).isLt; omega⟩ ⟨(i 1).val / 64, by have : (i 1).val < 1024 := (i 1).isLt; omega⟩
    ((i 0).val % 4096) ⟨(i 1).val % 64, by omega⟩

theorem res_at (x : Proj) (g : Sinks) (i : (⟨2, ![16384, 1024]⟩ : Shape).Idx) (b : Fin 4) (h : Fin 16) (q : ℕ) (d : Fin 64) (hq : q < 4096)
    (h0 : (i 0).val = 4096 * b.val + q) (h1 : (i 1).val = 64 * h.val + d.val) : res x g i = out x g b h q d := by
  have := b.isLt; have := h.isLt; have := d.isLt
  unfold res
  congr 1
  · apply Fin.ext; dsimp only; omega
  · apply Fin.ext; dsimp only; omega
  · omega
  · apply Fin.ext; dsimp only; omega

theorem at_eq (x : Proj) {a a' : Fin 16384} {e e' : Fin 12288} (ha : a.val = a'.val) (he : e.val = e'.val) :
    x (ix2 a e) = x (ix2 a' e') := by rw [Fin.ext ha, Fin.ext he]

/-! ## Finite arguments -/

/-- The queries, the keys and the sinks are real numbers. -/
structure Finite (x : Proj) (g : Sinks) : Prop where
  qk : ∀ (b : Fin 4) (n : ℕ) (h : Fin 16) (d : Fin 64), Real' (x (ix2 (row b n) (qcol h d))) ∧ Real' (x (ix2 (row b n) (kcol h d)))
  sink : ∀ h : Fin 16, Real' (g (ix1 h))

theorem scale_real : Real' (Ideal.ofBits .f32 0x3E000000#32) := by
  simp only [Ideal.ofBits, Ideal.ieee]
  norm_num
  exact ⟨_, rfl⟩

theorem slope_real (h : Fin 16) : Real' (slope h) := by
  fin_cases h <;> simp [slope, slopes, Ideal.ofBits, Ideal.ieee] <;> exact ⟨_, rfl⟩

theorem score_ne_top {x : Proj} {g : Sinks} (hf : Finite x g) (b : Fin 4) (h : Fin 16) (q n : ℕ) : score x b h q n ≠ ⊤ := by
  unfold score
  split
  · exact (((Real'.sum _ _ fun d _ => (hf.qk b q h d).1.mul (hf.qk b n h d).2).mul scale_real).sub
      ((slope_real h).mul ⟨_, rfl⟩)).ne_top
  · exact bot_ne_top

/-- Where no score is `⊤` and the sink is a real number, the weights' sum is not zero. -/
theorem sm_ne_zero {s : ℕ → EReal} {u : EReal} (hs : ∀ n, s n ≠ ⊤) (hu : Real' u) : sm s u ≠ 0 := by
  have hM : mx s u ≠ ⊤ := by
    refine (max_lt ?_ (lt_top_iff_ne_top.2 hu.ne_top)).ne
    exact (Finset.sup_lt_iff (show (⊥ : EReal) < ⊤ from bot_lt_top)).2 fun k _ => lt_top_iff_ne_top.2 (hs k)
  have hM' : mx s u ≠ ⊥ := fun h => hu.ne_bot (le_bot_iff.1 (h ▸ le_max_right _ _))
  refine (lt_of_lt_of_le ?_ (le_add_of_nonneg_left (Finset.sum_nonneg fun n _ => exp_nonneg _))).ne'
  generalize mx s u = m at *
  obtain ⟨r, rfl⟩ := hu
  lift m to ℝ using ⟨hM, hM'⟩
  rw [← EReal.coe_sub, Ideal.exp_coe]
  exact_mod_cast Real.exp_pos _

/-- A masked key has no weight. -/
theorem wt_masked {s : ℕ → EReal} {u : EReal} (h : sm s u ≠ 0) : Ideal.div (Ideal.exp (⊥ - mx s u)) (sm s u) = 0 := by
  rw [EReal.bot_sub, Ideal.exp_bot, Ideal.div, if_neg h, zero_mul]

/-! ## The keys around a block

   The block of the 128 queries from `a` on reads the 256 keys from `a - 128` on: place `j` is key `a + j - 128`, and none
   where that is negative. -/

theorem sum_window (a : ℕ) (ha : a + 128 ≤ 4096) (F : ℕ → EReal) (G : Fin 256 → EReal)
    (h1 : ∀ j : Fin 256, 128 ≤ a + j.val → G j = F (a + j.val - 128)) (h2 : ∀ j : Fin 256, a + j.val < 128 → G j = 0)
    (h3 : ∀ n, n + 128 < a ∨ a + 128 ≤ n → F n = 0) : ∑ j : Fin 256, G j = ∑ n ∈ Finset.range 4096, F n := by
  set F' : ℕ → EReal := fun m => if 128 ≤ m then F (m - 128) else 0 with hF
  have e1 : ∑ n ∈ Finset.range 4096, F n = ∑ m ∈ Finset.range (128 + 4096), F' m := by
    rw [Finset.sum_range_add, Finset.sum_eq_zero (s := Finset.range 128) fun m hm => if_neg (by rw [Finset.mem_range] at hm; omega), zero_add]
    exact Finset.sum_congr rfl fun n _ => by rw [hF]; dsimp only; rw [if_pos (by omega), Nat.add_sub_cancel_left]
  have e2 : ∑ j : Fin 256, G j = ∑ j ∈ Finset.range 256, F' (a + j) := by
    rw [Finset.sum_range]
    refine Finset.sum_congr rfl fun j _ => ?_
    rw [hF]; dsimp only
    split
    · exact h1 j ‹_›
    · exact h2 j (by omega)
  have e3 : ∑ j ∈ Finset.range 256, F' (a + j) = ∑ m ∈ Finset.Ico a (a + 256), F' m := by
    rw [Finset.sum_Ico_eq_sum_range, Nat.add_sub_cancel_left]
  rw [e1, e2, e3]
  refine Finset.sum_subset (fun m hm => ?_) fun m _ hm => ?_
  · rw [Finset.mem_Ico] at hm; rw [Finset.mem_range]; omega
  · rw [Finset.mem_Ico] at hm
    rw [hF]; dsimp only
    split
    · exact h3 _ (by omega)
    · rfl

theorem sup_window (a : ℕ) (ha : a + 128 ≤ 4096) (F : ℕ → EReal) (G : Fin 256 → EReal)
    (h1 : ∀ j : Fin 256, 128 ≤ a + j.val → G j = F (a + j.val - 128)) (h2 : ∀ j : Fin 256, a + j.val < 128 → G j = ⊥)
    (h3 : ∀ n, n + 128 < a ∨ a + 128 ≤ n → F n = ⊥) : (Finset.univ.sup G) = (Finset.range 4096).sup F := by
  refine le_antisymm (Finset.sup_le fun j _ => ?_) (Finset.sup_le fun n hn => ?_)
  · by_cases h : 128 ≤ a + j.val
    · rw [h1 j h]; exact Finset.le_sup (f := F) (Finset.mem_range.2 (by have := j.isLt; omega))
    · rw [h2 j (by omega)]; exact bot_le
  · by_cases h : n + 128 < a ∨ a + 128 ≤ n
    · rw [h3 n h]; exact bot_le
    · have e := h1 ⟨n + 128 - a, by omega⟩ (by dsimp only; omega)
      have e' : a + (n + 128 - a) - 128 = n := by omega
      dsimp only at e
      rw [e'] at e
      rw [← e]
      exact Finset.le_sup (f := G) (Finset.mem_univ _)

/-- A sum over 128 lanes of which one half is zero. -/
theorem sum_half (e : ℕ) (he : e < 2) (f : Fin 128 → EReal) (g : Fin 64 → EReal) :
    (∑ d : Fin 128, f d * (if d.val / 64 = e then g ⟨d.val % 64, by omega⟩ else 0))
      = ∑ d : Fin 64, f ⟨64 * e + d.val, by have := d.isLt; omega⟩ * g d := by
  refine (Fin.sum_univ_add (a := 64) (b := 64) (fun d : Fin 128 => f d * (if d.val / 64 = e then g ⟨d.val % 64, by omega⟩ else 0))).trans ?_
  have lo (d : Fin 64) : (Fin.castAdd 64 d : Fin (64 + 64)).val = d.val := rfl
  have hi (d : Fin 64) : (Fin.natAdd 64 d : Fin (64 + 64)).val = 64 + d.val := rfl
  rcases (show e = 0 ∨ e = 1 by omega) with rfl | rfl
  · refine (congrArg₂ (· + ·) (Finset.sum_congr rfl fun d _ => ?_) (Finset.sum_eq_zero fun d _ => ?_)).trans (add_zero _)
    · have := d.isLt
      rw [if_pos (by rw [lo]; omega)]
      exact congrArg₂ (· * ·) (congrArg f (Fin.ext (by rw [lo]; dsimp only; omega))) (congrArg g (Fin.ext (by dsimp only; rw [lo]; omega)))
    · have := d.isLt
      rw [if_neg (by rw [hi]; omega), mul_zero]
  · refine (congrArg₂ (· + ·) (Finset.sum_eq_zero fun d _ => ?_) (Finset.sum_congr rfl fun d _ => ?_)).trans (zero_add _)
    · have := d.isLt
      rw [if_neg (by rw [lo]; omega), mul_zero]
    · have := d.isLt
      rw [if_pos (by rw [hi]; omega)]
      exact congrArg₂ (· * ·) (congrArg f (Fin.ext (by rw [hi]))) (congrArg g (Fin.ext (by dsimp only; rw [hi]; omega)))

end Cert.WindowMath
end
-- ==== Proof.WindowValue.lean ====
/- The sliding-window attention of `WindowIdeal`: the result array is `WindowMath.res`. -/
module
public import proofs.«01_k».proof.Defs
public import proofs.«01_k».proof.Proof.WindowPay
public import proofs.«01_k».proof.Proof.WindowScore
public import proofs.«01_k».proof.Proof.Gen.WindowIdeal.Value
public import Idealize.ShloMosaic.Lib.Pipeline.ValueKit
public import Idealize.ShloMosaic.Lib.Pipeline.ReadBack
public import Idealize.ShloMosaic.Lib.Pointwise
@[expose] public section
set_option maxRecDepth 16384
noncomputable section
namespace Cert.WindowIdeal.Hand
open Cert.WindowIdeal Cert.WindowIdeal.Gen Idealize.ShloMosaic Idealize.ShloMosaic.TcCoe Idealize.SL.Sem
open Cert.WindowMath Cert.Softmax

/-! ## One head of one row -/

/-- What a block must hold for head `h` of batch entry `b`, at row `r` of the block of rows `i`: the query in the lanes of
    half `e`, and the keys and values of the head's group. -/
structure Holds (x : Proj) (b : Fin 4) (h : Fin 16) (i : ℕ) (r : Fin 128) (v0 v1 : Vec Ideal S128x256 .bf16)
    (q : Vec Ideal S128x128 .bf16) (o o' : Fin 4) (e : ℕ) : Prop where
  he : e < 2
  hq : ∀ (d : Fin 64) (j : Fin 128), j.val = 64 * e + d.val → q (ix2 r j) = x (ix2 (row b (128 * i + r.val)) (qcol h d))
  hk : ∀ (j : Fin 256) (d : Fin 64) (k : Fin 256), 128 ≤ 128 * i + j.val → k.val = 64 * o.val + d.val →
    kv v0 v1 j k = x (ix2 (row b (128 * i + j.val - 128)) (kcol h d))
  hv : ∀ (j : Fin 256) (d : Fin 64) (k : Fin 256), 128 ≤ 128 * i + j.val → k.val = 64 * o'.val + d.val →
    kv v0 v1 j k = x (ix2 (row b (128 * i + j.val - 128)) (vcol h d))

section
variable {x : Proj} {b : Fin 4} {h : Fin 16} {i : ℕ} {r : Fin 128} {v0 v1 : Vec Ideal S128x256 .bf16}
  {q : Vec Ideal S128x128 .bf16} {o o' : Fin 4} {e : ℕ} {K V : FVec Ideal S256x128 .bf16} {u : Elt Ideal .f32}

theorem scr_eq (hi : i < 32) (H : Holds x b h i r v0 v1 q o o' e) (hK : ∀ y, K y = half v0 v1 o e y) (j : Fin 256) :
    scr K (msk i) (k0_pay22 k0_pay18) q (slopes h) (ix2 r j)
      = if 128 ≤ 128 * i + j.val then score x b h (128 * i + r.val) (128 * i + j.val - 128) else (⊥ : EReal) := by
  rw [scr_at, msk_at i hi, dist_at]
  show (if 128 ≤ 128 * i + j.val ∧ j.val ≤ r.val + 128 ∧ r.val < j.val then _ else _) = _
  have hj := j.isLt
  by_cases h1 : 128 ≤ 128 * i + j.val
  · rw [if_pos h1, score]
    by_cases h2 : j.val ≤ r.val + 128 ∧ r.val < j.val
    · rw [if_pos ⟨h1, h2⟩, if_pos (by omega)]
      refine congrArg₂ (· - ·) (congrArg (· * _) ?_) (congrArg (slope h * ·) ?_)
      · simp only [hK, half]
        refine (sum_half e H.he (fun d => q (ix2 r d)) (fun d => kv v0 v1 j ⟨64 * o.val + d.val, by have := o.isLt; have := d.isLt; omega⟩)).trans ?_
        refine Finset.sum_congr rfl fun d _ => ?_
        exact congrArg₂ (· * ·) (H.hq d _ rfl) (H.hk j d _ h1 rfl)
      · have e1 : (((r.val + 128 : ℕ) : ℤ) - (j.val : ℤ)) = (((128 * i + r.val : ℕ) : ℤ) - ((128 * i + j.val - 128 : ℕ) : ℤ)) := by omega
        exact congrArg (fun z : ℤ => ((z : ℝ) : EReal)) e1
    · rw [if_neg (by omega), if_neg (by omega)]
  · rw [if_neg h1, if_neg (by omega)]

variable (hi : i < 32) (H : Holds x b h i r v0 v1 q o o' e) (hK : ∀ y, K y = half v0 v1 o e y)
include hi H hK

theorem far {n : ℕ} (hn : n + 128 < 128 * i ∨ 128 * i + 128 ≤ n) : score x b h (128 * i + r.val) n = ⊥ := by
  have := r.isLt
  exact if_neg (by omega)

theorem top_eq : top (scr K (msk i) (k0_pay22 k0_pay18) q (slopes h)) u (ix2 r 0) = mx (score x b h (128 * i + r.val)) u := by
  rw [top_at, mx]
  refine congrArg (max · u) ?_
  refine sup_window (128 * i) (by omega) _ _ (fun j hj => ?_) (fun j hj => ?_) fun n hn => far hi H hK hn
  · exact (scr_eq hi H hK j).trans (if_pos hj)
  · exact (scr_eq hi H hK j).trans (if_neg (by omega))

theorem wts_eq (j : Fin 256) : wts (scr K (msk i) (k0_pay22 k0_pay18) q (slopes h)) u (ix2 r j)
    = Ideal.exp ((if 128 ≤ 128 * i + j.val then score x b h (128 * i + r.val) (128 * i + j.val - 128) else (⊥ : EReal))
        - mx (score x b h (128 * i + r.val)) u) := by
  rw [wts_at]
  exact congrArg Ideal.exp (congrArg₂ (· - ·) (scr_eq hi H hK j) (top_eq hi H hK))

theorem att_eq (hV : ∀ y, V y = half v0 v1 o' e y) (hz : sm (score x b h (128 * i + r.val)) u ≠ 0) (l : Fin 128) :
    att (scr K (msk i) (k0_pay22 k0_pay18) q (slopes h)) u V (ix2 r l)
      = if l.val / 64 = e then ∑ n ∈ Finset.range 4096, wt (score x b h (128 * i + r.val)) u n
          * x (ix2 (row b n) (vcol h ⟨l.val % 64, by omega⟩)) else 0 := by
  rw [att_at]
  have e1 : ((∑ j : Fin 256, wts (scr K (msk i) (k0_pay22 k0_pay18) q (slopes h)) u (ix2 r j))
      + Ideal.exp (u - top (scr K (msk i) (k0_pay22 k0_pay18) q (slopes h)) u (ix2 r 0))) = sm (score x b h (128 * i + r.val)) u := by
    rw [top_eq hi H hK, sm]
    refine congrArg (· + _) ?_
    refine sum_window (128 * i) (by omega) _ _ (fun j hj => ?_) (fun j hj => ?_) fun n hn => ?_
    · rw [wts_eq hi H hK, if_pos hj]
    · rw [wts_eq hi H hK, if_neg (by omega), EReal.bot_sub, Ideal.exp_bot]
    · rw [far hi H hK hn, EReal.bot_sub, Ideal.exp_bot]
  refine (Finset.sum_congr rfl fun k _ => congrArg₂ (· * ·)
    (congrArg₂ Ideal.div (wts_eq hi H hK k) e1) ((hV _).trans rfl)).trans ?_
  by_cases hl : l.val / 64 = e
  · rw [if_pos hl]
    refine sum_window (128 * i) (by omega) _ _ (fun j hj => ?_) (fun j hj => ?_) fun n hn => ?_
    · rw [if_pos hj]
      refine congrArg₂ (· * ·) rfl ?_
      unfold half
      exact (if_pos hl).trans (H.hv j ⟨l.val % 64, by omega⟩ _ hj rfl)
    · rw [if_neg (by omega), wt_masked hz, zero_mul]
    · rw [wt, far hi H hK hn, wt_masked hz, zero_mul]
  · rw [if_neg hl]
    refine Finset.sum_eq_zero fun k _ => ?_
    have e2 : half v0 v1 o' e (ix2 k (ix2 r l 1)) = 0 := if_neg hl
    exact (congrArg₂ (· * ·) rfl e2).trans (mul_zero _)

end

/-- Two heads side by side: lane `l` is feature `l % 64` of head `l / 64` of the two. -/
theorem pair_eq {x : Proj} {g : Sinks} {b : Fin 4} {p i : ℕ} {r : Fin 128} {v0 v1 : Vec Ideal S128x256 .bf16}
    {q z : Vec Ideal S128x128 .bf16} {o o' : Fin 4} {K K' V V' : FVec Ideal S256x128 .bf16} {u u' : Elt Ideal .f32}
    {sl sl' : BitVec 32} {h h' : Fin 16} (hf : WindowMath.Finite x g) (hi : i < 32)
    (hh : h.val = 2 * p) (hh' : h'.val = 2 * p + 1) (hsl : sl = slopes h) (hsl' : sl' = slopes h') (hu : u = g (ix1 h)) (hu' : u' = g (ix1 h'))
    (H : Holds x b h i r v0 v1 q o o' 0) (H' : Holds x b h' i r v0 v1 q o o' 1)
    (hK : ∀ y, K y = half v0 v1 o 0 y) (hK' : ∀ y, K' y = half v0 v1 o 1 y)
    (hV : ∀ y, V y = half v0 v1 o' 0 y) (hV' : ∀ y, V' y = half v0 v1 o' 1 y)
    (l : Fin 128) (hl : Fin 16) (d : Fin 64) (hhl : 64 * hl.val + d.val = 128 * p + l.val)
    (hz : z (ix2 r l) = x (ix2 (row b (128 * i + r.val)) (zcol hl d))) :
    pair K K' V V' (msk i) (k0_pay22 k0_pay18) q z sl sl' u u' (ix2 r l) = out x g b hl (128 * i + r.val) d := by
  subst hsl hsl' hu hu'
  have hd := d.isLt
  have hl' := l.isLt
  rw [pair, fin_at, att_eq hi H hK hV (sm_ne_zero (fun n => score_ne_top hf b h _ n) (hf.sink h)) l,
    att_eq hi H' hK' hV' (sm_ne_zero (fun n => score_ne_top hf b h' _ n) (hf.sink h')) l, hz, out, gate]
  refine congrArg (· * _) ?_
  rw [show (⟨l.val % 64, by omega⟩ : Fin 64) = d from Fin.ext (by dsimp only; omega)]
  rcases (show l.val / 64 = 0 ∨ l.val / 64 = 1 by omega) with h0 | h0
  · obtain rfl : h = hl := Fin.ext (by omega)
    rw [if_pos h0, if_neg (by omega), add_zero]
  · obtain rfl : h' = hl := Fin.ext (by omega)
    rw [if_pos h0, if_neg (by omega), zero_add]

/-! ## The blocks of a point -/

variable (m : (ℓ : Loc nD τ sig) → Buf (Elt Ideal) ℓ) (ρ : Dev nD → PrngReg)

theorem idx : ∀ t : Fin cfg0.N, win0_0.index t (0 : Fin 2) = t.val ∧ win0_0.index t (1 : Fin 2) = 8
    ∧ win0_1.index t (0 : Fin 2) = t.val ∧ win0_1.index t (1 : Fin 2) = 47
    ∧ win0_2.index t (0 : Fin 2) = 32 * (t.val / 32) + (t.val % 32 - 1) ∧ win0_2.index t (1 : Fin 2) = 47
    ∧ win0_3.index t (0 : Fin 2) = t.val ∧ win0_3.index t (1 : Fin 2) = 9
    ∧ win0_4.index t (0 : Fin 1) = 0
    ∧ win0_5.index t (0 : Fin 2) = t.val ∧ win0_5.index t (1 : Fin 2) = 0 :=
  (by decide +kernel : ∀ t : Fin grid0.N, _)
theorem co1 : ∀ t : Fin cfg0.N, ((grid0.coords t) 1).val = t.val % 32 := (by decide +kernel : ∀ t : Fin grid0.N, _)

/-- The arguments. -/
abbrev X (c : Dev nD) : Proj := m ((c : Thread nD τ).loc main_arg0)
abbrev G (c : Dev nD) : Sinks := m ((c : Thread nD τ).loc main_arg1)

theorem rd0 (c : Dev nD) (t : Fin cfg0.N) (r : Fin 128) (k : Fin 1024) (i : Fin 16384) (j : Fin 12288)
    (hi : i.val = t.val * 128 + r.val) (hj : j.val = 8 * 1024 + k.val) : iblk m c 0 t (ix2 r k) = X m c (ix2 i j) := by
  obtain ⟨e0, e1, -⟩ := idx t
  blk_point [iblk, V, e0, e1, hi, hj]
theorem rd1 (c : Dev nD) (t : Fin cfg0.N) (r : Fin 128) (k : Fin 256) (i : Fin 16384) (j : Fin 12288)
    (hi : i.val = t.val * 128 + r.val) (hj : j.val = 47 * 256 + k.val) : iblk m c 1 t (ix2 r k) = X m c (ix2 i j) := by
  obtain ⟨-, -, e0, e1, -⟩ := idx t
  blk_point [iblk, V, e0, e1, hi, hj]
theorem rd2 (c : Dev nD) (t : Fin cfg0.N) (r : Fin 128) (k : Fin 256) (i : Fin 16384) (j : Fin 12288)
    (hi : i.val = (32 * (t.val / 32) + (t.val % 32 - 1)) * 128 + r.val) (hj : j.val = 47 * 256 + k.val) :
    iblk m c 2 t (ix2 r k) = X m c (ix2 i j) := by
  obtain ⟨-, -, -, -, e0, e1, -⟩ := idx t
  blk_point [iblk, V, e0, e1, hi, hj]
theorem rd3 (c : Dev nD) (t : Fin cfg0.N) (r : Fin 128) (k : Fin 1024) (i : Fin 16384) (j : Fin 12288)
    (hi : i.val = t.val * 128 + r.val) (hj : j.val = 9 * 1024 + k.val) : iblk m c 3 t (ix2 r k) = X m c (ix2 i j) := by
  obtain ⟨-, -, -, -, -, -, e0, e1, -⟩ := idx t
  blk_point [iblk, V, e0, e1, hi, hj]
theorem rd4 (c : Dev nD) (t : Fin cfg0.N) (h : Fin 16) : iblk m c 4 t (ix1 h) = G m c (ix1 h) := by
  obtain ⟨-, -, -, -, -, -, -, -, e0, -⟩ := idx t
  blk_point [iblk, V, e0]

end Cert.WindowIdeal.Hand
end
-- ==== Proof.WindowRefValue.lean ====
/- The reference's sliding-window attention, read at an index: the result is `WindowMath.res`. -/
module
public import proofs.«01_k».proof.Defs
public import proofs.«01_k».proof.Proof.WindowScore
public import proofs.«01_k».proof.Proof.Gen.WindowRefIdeal.Read
public import Idealize.ShloMosaic.Lib.Pointwise
@[expose] public section
set_option maxRecDepth 16384
noncomputable section
namespace Cert.WindowRefIdeal.Hand
open Cert.WindowRefIdeal Cert.WindowRefIdeal.Gen Idealize.ShloMosaic Idealize.ShloMosaic.TcCoe Idealize.SL.Sem
open Cert.WindowMath Cert.Softmax Cert.WindowRefIdeal.Read

variable (x : Vec Ideal S16384x12288 .bf16) (g : Vec Ideal S16 .f32)

/-- Head `e` of group `a`. -/
def hd (a : Fin 2) (e : Fin 8) : Fin 16 := ⟨8 * a.val + e.val, by have := a.isLt; have := e.isLt; omega⟩

theorem q_at (b : Fin 4) (q : Fin 4096) (a : Fin 2) (e : Fin 8) (d : Fin 64) :
    val_main_v2 (F := Ideal) x (ix5 b q a e d) = x (ix2 (row b q.val) (qcol (hd a e) d)) := by
  pointwise [val_main_v2, val_main_v1, val_main_v0]
  have := q.isLt; have := a.isLt; have := e.isLt; have := d.isLt
  exact at_eq x (by simp only [row]; omega) (by simp only [qcol, hd]; omega)

theorem k_at (b : Fin 4) (q : Fin 4096) (a : Fin 2) (e : Fin 8) (d : Fin 64) :
    val_main_v5 (F := Ideal) x (ix4 b q a d) = x (ix2 (row b q.val) (kcol (hd a e) d)) := by
  pointwise [val_main_v5, val_main_v4, val_main_v0]
  have := q.isLt; have := a.isLt; have := e.isLt; have := d.isLt
  exact at_eq x (by simp only [row]; omega) (by simp only [kcol, hd]; omega)

theorem v_at (b : Fin 4) (q : Fin 4096) (a : Fin 2) (e : Fin 8) (d : Fin 64) :
    val_main_v7 (F := Ideal) x (ix4 b q a d) = x (ix2 (row b q.val) (vcol (hd a e) d)) := by
  pointwise [val_main_v7, val_main_v6, val_main_v0]
  have := q.isLt; have := a.isLt; have := e.isLt; have := d.isLt
  exact at_eq x (by simp only [row]; omega) (by simp only [vcol, hd]; omega)

theorem dot_at (b : Fin 4) (a : Fin 2) (e : Fin 8) (q n : Fin 4096) :
    val_main_v26 (F := Ideal) x (ix5 b a e q n)
      = ∑ d : Fin 64, x (ix2 (row b q.val) (qcol (hd a e) d)) * x (ix2 (row b n.val) (kcol (hd a e) d)) := by
  rw [val_main_v26_apply, val_main_v25_apply]
  refine Finset.sum_congr rfl fun d _ => ?_
  rw [← q_at x, ← k_at x, mul_comm]
  congr 2 <;> funext a <;> fin_cases a <;> rfl

theorem sub_at (q n : Fin 4096) :
    val_main_v34 (F := Ideal) (ix2 q n) = IntOp.subi (BitVec.ofNat 32 q.val) (BitVec.ofNat 32 n.val) := by
  rw [val_main_v34_apply, val_main_v33_apply, val_main_v32_apply, val_main_v31_apply, val_main_v30_apply, val_main_v29_apply,
    val_main_v29_apply]
  rfl

theorem band_at (q n : Fin 4096) :
    val_main_v39 (F := Ideal) (ix2 q n) = BitVec.ofBool (decide (n.val ≤ q.val ∧ q.val < n.val + 128)) := by
  rw [val_main_v39_apply, val_main_v36_apply, val_main_v38_apply, sub_at, val_main_v35_apply, val_main_v37_apply, val_main_c_apply,
    val_main_c_16_apply]
  exact band_eq _ _ (by have := q.isLt; omega) (by have := n.isLt; omega)

theorem slope_at (h : Fin 16) : val_main_v24 (F := Ideal) (ix1 h) = slope h := by
  fin_cases h <;> pointwise [val_main_v24, val_main_v8, val_main_v9, val_main_v10, val_main_v11, val_main_v12, val_main_v13, val_main_v14,
    val_main_v15, val_main_v16, val_main_v17, val_main_v18, val_main_v19, val_main_v20, val_main_v21, val_main_v22, val_main_v23,
    val_main_cst, val_main_cst_0, val_main_cst_1, val_main_cst_2, val_main_cst_3, val_main_cst_4, val_main_cst_5, val_main_cst_6,
    val_main_cst_7, val_main_cst_8, val_main_cst_9, val_main_cst_10, val_main_cst_11, val_main_cst_12, val_main_cst_13, val_main_cst_14] <;> rfl

theorem bias_at (b : Fin 4) (a : Fin 2) (e : Fin 8) (q n : Fin 4096) : val_main_v46 (F := Ideal) (ix5 b a e q n)
    = slope (hd a e) * ((((q.val : ℤ) - (n.val : ℤ) : ℤ) : ℝ) : EReal) := by
  rw [val_main_v46_apply, val_main_v45_apply, val_main_v43_apply, val_main_v40_apply, val_main_v44_apply, val_main_v42_apply,
    val_main_v41_apply, ← subi_toInt q.val n.val (by have := q.isLt; omega) (by have := n.isLt; omega), ← sub_at, ← slope_at]
  refine congrArg₂ (· * ·) (congrArg _ ?_) ?_
  · funext z; fin_cases z; apply Fin.ext; simp only [hd]; dsimp [ix5]; omega
  · rw [show idx_main_v42 (idx_main_v44 (idx_main_v46 (ix5 b a e q n))) = ix2 q n from by funext z; fin_cases z <;> rfl]
    rfl

theorem score_at (b : Fin 4) (a : Fin 2) (e : Fin 8) (q n : Fin 4096) :
    val_main_v48 (F := Ideal) x (ix5 b a e q n) = score x b (hd a e) q.val n.val := by
  rw [val_main_v48_apply, val_main_v47_apply, val_main_v28_apply, dot_at, bias_at, val_main_v27_apply, val_main_cst_15_apply,
    val_main_call0_v1_apply, val_main_call0_v2_apply, val_main_call0_v0_apply, val_main_cst_17_apply,
    show idx_main_call0_v1 (ix5 b a e q n) = ix2 q n from by funext z; fin_cases z <;> rfl, band_at, score]
  by_cases h : n.val ≤ q.val ∧ q.val < n.val + 128
  · rw [if_pos h, decide_eq_true h]; rfl
  · rw [if_neg h, decide_eq_false h]; exact ofBits_neg_inf

/-- The scores of a row with the sink behind them. -/
def logit (b : Fin 4) (h : Fin 16) (q : ℕ) (n : ℕ) : EReal := if n < 4096 then score x b h q n else g (ix1 h)

theorem logit_at (b : Fin 4) (a : Fin 2) (e : Fin 8) (q : Fin 4096) (n : Fin 4097) :
    val_main_v51 (F := Ideal) x g (ix5 b a e q n) = logit x g b (hd a e) q.val n.val := by
  unfold logit
  by_cases h : n.val < 4096
  · rw [if_pos h]
    refine Eq.trans ?_ (score_at x b a e q ⟨n.val, h⟩)
    pointwise [val_main_v51]
    rw [dif_pos h]
  · rw [if_neg h]
    have e1 : val_main_v50 (F := Ideal) g (ix5 b a e q 0) = g (ix1 (hd a e)) := by
      rw [val_main_v50_apply, val_main_v49_apply]
      refine congrArg g ?_
      funext z; fin_cases z; apply Fin.ext; simp only [hd]; dsimp [ix5]; omega
    refine Eq.trans ?_ e1
    pointwise [val_main_v51]
    rw [dif_neg h]
    refine congrArg _ ?_
    funext z; fin_cases z <;> apply Fin.ext <;> dsimp [ix5] <;> have := n.isLt <;> omega

theorem max_at (b : Fin 4) (a : Fin 2) (e : Fin 8) (q : Fin 4096) :
    val_main_v54 (F := Ideal) x g (ix4 b a e q) = mx (score x b (hd a e) q.val) (g (ix1 (hd a e))) := by
  rw [val_main_v54_apply]
  pointwise [val_main_v52, val_main_v53]
  simp only [logit_at]
  refine Eq.trans (congrArg₂ max ofBits_neg_inf (fold_max _ _)) ?_
  rw [max_eq_right bot_le, sup_fin 4097 (logit x g b (hd a e) q.val), Finset.range_add_one, Finset.sup_insert, mx, sup_comm]
  refine congrArg₂ max (Finset.sup_congr rfl fun n hn => if_pos (Finset.mem_range.1 hn)) (if_neg (by omega))

theorem weight_at (b : Fin 4) (a : Fin 2) (e : Fin 8) (q : Fin 4096) (n : Fin 4097) : val_main_v58 (F := Ideal) x g (ix5 b a e q n)
    = Ideal.exp (logit x g b (hd a e) q.val n.val - mx (score x b (hd a e) q.val) (g (ix1 (hd a e)))) := by
  rw [val_main_v58_apply, val_main_v57_apply, logit_at, val_main_v56_apply, val_main_v55_apply,
    show idx_main_v55 (idx_main_v56 (ix5 b a e q n)) = ix4 b a e q from by funext z; fin_cases z <;> rfl, max_at]
  generalize logit x g b (hd a e) q.val n.val = u
  generalize mx _ _ = v
  rfl

theorem sum_at (b : Fin 4) (a : Fin 2) (e : Fin 8) (q : Fin 4096) :
    val_main_v59 (F := Ideal) x g (ix4 b a e q) = sm (score x b (hd a e) q.val) (g (ix1 (hd a e))) := by
  rw [val_main_v59_apply]
  refine Eq.trans (congrArg₂ (· + ·) (show val_main_cst_20 (F := Ideal) _ = 0 by pointwise [val_main_cst_20]) (Finset.sum_congr rfl fun n _ =>
    (congrArg (val_main_v58 (F := Ideal) x g) (show idx_main_v59 (ix4 b a e q) n = ix5 b a e q n from by funext z; fin_cases z <;> rfl)).trans
      (weight_at x g b a e q n))) ?_
  rw [zero_add, Fin.sum_univ_castSucc, sm, Finset.sum_range]
  refine congrArg₂ (· + ·) (Finset.sum_congr rfl fun n _ => ?_) ?_
  · exact congrArg (fun z => Ideal.exp (z - _)) (if_pos n.isLt)
  · exact congrArg (fun z => Ideal.exp (z - _)) (if_neg (by simp))

theorem prob_at (b : Fin 4) (a : Fin 2) (e : Fin 8) (q n : Fin 4096) : val_main_v63 (F := Ideal) x g (ix5 b a e q n)
    = wt (score x b (hd a e) q.val) (g (ix1 (hd a e))) n.val := by
  rw [val_main_v63_apply, val_main_v62_apply, val_main_v61_apply, val_main_v60_apply,
    show idx_main_v63 (ix5 b a e q n) = ix5 b a e q (⟨n.val, by have := n.isLt; omega⟩ : Fin 4097) from by funext z; fin_cases z <;> rfl, weight_at,
    show idx_main_v60 (idx_main_v61 (ix5 b a e q (⟨n.val, by have := n.isLt; omega⟩ : Fin 4097))) = ix4 b a e q from by funext z; fin_cases z <;> rfl,
    sum_at, wt, logit, if_pos n.isLt]
  generalize Ideal.exp _ = u
  generalize sm _ _ = v
  rfl

theorem att_at (b : Fin 4) (a : Fin 2) (e : Fin 8) (q : Fin 4096) (d : Fin 64) : val_main_v65 (F := Ideal) x g (ix5 b q a e d)
    = ∑ n ∈ Finset.range 4096, wt (score x b (hd a e) q.val) (g (ix1 (hd a e))) n * x (ix2 (row b n) (vcol (hd a e) d)) := by
  rw [val_main_v65_apply, val_main_v64_apply, Finset.sum_range]
  refine Finset.sum_congr rfl fun n _ => ?_
  rw [← prob_at, ← v_at x, mul_comm]
  congr 2 <;> funext z <;> fin_cases z <;> rfl

theorem gate_at (b : Fin 4) (h : Fin 16) (q : Fin 4096) (d : Fin 64) (i : S16384x1024.Idx) (h0 : (i 0).val = 4096 * b.val + q.val)
    (h1 : (i 1).val = 64 * h.val + d.val) : val_main_v67 (F := Ideal) x i = gate x b h q.val d := by
  have e : val_main_v3 (F := Ideal) x i = x (ix2 (row b q.val) (zcol h d)) := by
    rw [val_main_v3_apply, val_main_v0_apply]
    have := q.isLt
    refine congrArg x ?_
    funext z
    fin_cases z <;> apply Fin.ext <;> simp only [row, zcol] <;> dsimp [ix2] <;> omega
  rw [gate, ← e]
  pointwise [val_main_v67, val_main_call1_v5, val_main_call1_v4, val_main_call1_v3, val_main_call1_v2, val_main_call1_v1, val_main_call1_v0,
    val_main_call1_cst, val_main_call1_cst_0, Ideal.logistic]

theorem res_eq : val_main_v69 (F := Ideal) x g = res x g := by
  funext i
  have h0 : (i 0).val < 16384 := (i 0).isLt
  have h1 : (i 1).val < 1024 := (i 1).isLt
  obtain ⟨b, hb⟩ : ∃ b : Fin 4, b.val = (i 0).val / 4096 := ⟨⟨_, by omega⟩, rfl⟩
  obtain ⟨q, hq⟩ : ∃ q : Fin 4096, q.val = (i 0).val % 4096 := ⟨⟨_, by omega⟩, rfl⟩
  obtain ⟨a, ha⟩ : ∃ a : Fin 2, a.val = (i 1).val / 512 := ⟨⟨_, by omega⟩, rfl⟩
  obtain ⟨e, he⟩ : ∃ e : Fin 8, e.val = (i 1).val / 64 % 8 := ⟨⟨_, by omega⟩, rfl⟩
  obtain ⟨d, hd'⟩ : ∃ d : Fin 64, d.val = (i 1).val % 64 := ⟨⟨_, by omega⟩, rfl⟩
  have hh : (i 1).val = 64 * (hd a e).val + d.val := by simp only [hd]; omega
  rw [res_at x g i b (hd a e) q.val d q.isLt (by omega) hh, out, ← att_at, ← gate_at x b (hd a e) q d i (by omega) hh,
    val_main_v69_apply, val_main_v68_apply, val_main_v66_apply]
  refine congrArg₂ (· * ·) (congrArg _ ?_) rfl
  funext z
  fin_cases z <;> apply Fin.ext <;> dsimp [ix5] <;> omega

end Cert.WindowRefIdeal.Hand
end
-- ==== Proof.WindowResult.lean ====
/- The sliding-window attention of `WindowIdeal` over its grid, and its agreement with the reference. -/
module
public import proofs.«01_k».proof.Defs
public import proofs.«01_k».proof.Proof.WindowValue
public import proofs.«01_k».proof.Proof.WindowRefValue
@[expose] public section
set_option maxRecDepth 16384
noncomputable section
namespace Cert.WindowIdeal.Hand
open Cert.WindowIdeal Cert.WindowIdeal.Gen Idealize.ShloMosaic Idealize.ShloMosaic.TcCoe Idealize.SL.Sem
open Cert.WindowMath Cert.Softmax

variable (m : (ℓ : Loc nD τ sig) → Buf (Elt Ideal) ℓ) (ρ : Dev nD → PrngReg)

/-! ## The blocks of a point, in the terms of the row -/

/-- The place before or within the block: the keys around it. -/
theorem kv_point (c : Dev nD) (t : Fin cfg0.N) (b : Fin 4) (hb : b.val = t.val / 32) (j k : Fin 256)
    (hj : 128 ≤ 128 * (t.val % 32) + j.val) (col : Fin 12288) (hc : col.val = 12032 + k.val) :
    kv (iblk m c 2 t) (iblk m c 1 t) j k = X m c (ix2 (row b (128 * (t.val % 32) + j.val - 128)) col) := by
  have := j.isLt
  have := k.isLt
  unfold kv
  split
  · exact rd2 m c t _ k _ col (by simp only [row]; omega) (by omega)
  · exact rd1 m c t _ k _ col (by simp only [row]; omega) (by omega)

theorem holds (c : Dev nD) (t : Fin cfg0.N) (b : Fin 4) (hb : b.val = t.val / 32) (r : Fin 128) (p e : ℕ) (he : e < 2) (h : Fin 16)
    (hh : h.val = 2 * p + e) (o o' : Fin 4) (ho : o.val = h.val / 8) (ho' : o'.val = 2 + h.val / 8) (q : Vec Ideal S128x128 .bf16)
    (hq : ∀ (j : Fin 128) (k : Fin 1024), k.val = 128 * p + j.val → q (ix2 r j) = iblk m c 0 t (ix2 r k)) :
    Holds (X m c) b h (t.val % 32) r (iblk m c 2 t) (iblk m c 1 t) q o o' e where
  he := he
  hq := by
    intro d j hj
    have := d.isLt; have := j.isLt; have := h.isLt; have := r.isLt
    refine (hq j ⟨128 * p + j.val, by omega⟩ rfl).trans (rd0 m c t r _ _ _ (by simp only [row]; omega) (by simp only [qcol]; omega))
  hk := by
    intro j d k hj hk
    exact kv_point m c t b hb j k hj _ (by simp only [kcol]; omega)
  hv := by
    intro j d k hj hk
    exact kv_point m c t b hb j k hj _ (by simp only [vcol]; omega)

/-- The columns `128 p` to `128 p + 127` of a block of the result. -/
theorem piece (c : Dev nD) (hf : WindowMath.Finite (X m c) (G m c)) (t : Fin cfg0.N) (p : ℕ) (hp : p < 8) (o o' : Fin 4)
    (ho : o.val = p / 4) (ho' : o'.val = 2 + p / 4) (h h' : Fin 16) (hh : h.val = 2 * p) (hh' : h'.val = 2 * p + 1)
    (K K' V V' : FVec Ideal S256x128 .bf16) (hK : ∀ y, K y = half (iblk m c 2 t) (iblk m c 1 t) o 0 y)
    (hK' : ∀ y, K' y = half (iblk m c 2 t) (iblk m c 1 t) o 1 y) (hV : ∀ y, V y = half (iblk m c 2 t) (iblk m c 1 t) o' 0 y)
    (hV' : ∀ y, V' y = half (iblk m c 2 t) (iblk m c 1 t) o' 1 y) (q z : Vec Ideal S128x128 .bf16)
    (hq : ∀ (r j : Fin 128) (k : Fin 1024), k.val = 128 * p + j.val → q (ix2 r j) = iblk m c 0 t (ix2 r k))
    (hz : ∀ (r j : Fin 128) (k : Fin 1024), k.val = 128 * p + j.val → z (ix2 r j) = iblk m c 3 t (ix2 r k))
    (u u' : Elt Ideal .f32) (hu : u = iblk m c 4 t (ix1 h)) (hu' : u' = iblk m c 4 t (ix1 h')) (sl sl' : BitVec 32)
    (hs : sl = slopes h) (hs' : sl' = slopes h') (x : S128x128.Idx) (i : S16384x1024.Idx) (h0 : (i 0).val = t.val * 128 + (x 0).val)
    (h1 : (i 1).val = 128 * p + (x 1).val) :
    pair K K' V V' (msk ((grid0.coords t) 1).val) (k0_pay22 k0_pay18) q z sl sl' u u' x = res (X m c) (G m c) i := by
  have ht : t.val < 128 := t.isLt
  have x0 : (x 0).val < 128 := (x 0).isLt
  have x1 : (x 1).val < 128 := (x 1).isLt
  obtain ⟨b, hb⟩ : ∃ b : Fin 4, b.val = t.val / 32 := ⟨⟨_, by omega⟩, rfl⟩
  obtain ⟨hl, hhl⟩ : ∃ hl : Fin 16, hl.val = 2 * p + (x 1).val / 64 := ⟨⟨_, by omega⟩, rfl⟩
  obtain ⟨d, hd⟩ : ∃ d : Fin 64, d.val = (x 1).val % 64 := ⟨⟨_, by omega⟩, rfl⟩
  rw [co1 t, res_at (X m c) (G m c) i b hl (128 * (t.val % 32) + (x 0).val) d (by omega) (by omega) (by omega),
    show x = ix2 (x 0) (x 1) from by funext a; fin_cases a <;> rfl]
  refine pair_eq (r := x 0) hf (by omega) hh hh' hs hs' (hu.trans (rd4 m c t h)) (hu'.trans (rd4 m c t h'))
    (holds m c t b hb (x 0) p 0 (by omega) h (by omega) o o' (by omega) (by omega) q (hq (x 0)))
    (holds m c t b hb (x 0) p 1 (by omega) h' (by omega) o o' (by omega) (by omega) q (hq (x 0)))
    hK hK' hV hV' (x 1) hl d (by omega) ?_
  exact (hz (x 0) (x 1) ⟨128 * p + (x 1).val, by omega⟩ rfl).trans
    (rd3 m c t (x 0) _ _ _ (by simp only [row]; omega) (by simp only [zcol]; omega))

/-- Columns read from an offset on. -/
theorem cols (Y : Vec Ideal S128x1024 .bf16) (off : ℕ) (inb) (r j : Fin 128) (k : Fin 1024) (hk : k.val = off + j.val) :
    View.ld Y (Rect.unit ![0, off] ![128, 128] inb) (ix2 r j) = Y (ix2 r k) := by
  refine View.ld_unit_apply_of Y ![0, off] ![128, 128] inb (ix2 r j) (ix2 r k) fun a => ?_
  fin_cases a
  · exact (Nat.zero_add _).symm
  · exact hk

/-- One sink. -/
theorem sink (Y : Vec Ideal S16 .f32) (off : ℕ) (inb) (i) (h : Fin 16) (hh : h.val = off) :
    View.ld Y (Rect.unit ![off] ![1] inb) i = Y (ix1 h) := by
  refine View.ld_unit_apply_of Y ![off] ![1] inb i (ix1 h) fun a => ?_
  fin_cases a
  have : (i 0).val < 1 := (i 0).isLt
  show h.val = off + (i 0).val
  omega

/-! ## The result array -/

theorem block (c : Dev nD) (hf : WindowMath.Finite (X m c) (G m c)) (t : Fin cfg0.N) (y : S128x1024.Idx) (i : S16384x1024.Idx)
    (g0 : (i 0).val = t.val * 128 + (y 0).val) (g1 : (i 1).val = (y 1).val) : outsAt0 m c t y = res (X m c) (G m c) i := by
  unfold outsAt0
  frame_out
  canon_tiles x h
  · exact piece m c hf t 7 (by decide) 1 3 rfl rfl 14 15 rfl rfl _ _ _ _ (pay9_at _ _) (pay10_at _ _) (pay16_at _ _) (pay17_at _ _) _ _
      (fun r j k hk => cols (iblk m c 0 t) _ _ r j k hk) (fun r j k hk => cols (iblk m c 3 t) _ _ r j k hk) _ _
      (sink _ _ _ _ 14 rfl) (sink _ _ _ _ 15 rfl) (0x3BB504F3#32) (0x3B800000#32) rfl rfl x i (by omega) (by omega)
  · exact piece m c hf t 6 (by decide) 1 3 rfl rfl 12 13 rfl rfl _ _ _ _ (pay9_at _ _) (pay10_at _ _) (pay16_at _ _) (pay17_at _ _) _ _
      (fun r j k hk => cols (iblk m c 0 t) _ _ r j k hk) (fun r j k hk => cols (iblk m c 3 t) _ _ r j k hk) _ _
      (sink _ _ _ _ 12 rfl) (sink _ _ _ _ 13 rfl) (0x3C3504F3#32) (0x3C000000#32) rfl rfl x i (by omega) (by omega)
  · exact piece m c hf t 5 (by decide) 1 3 rfl rfl 10 11 rfl rfl _ _ _ _ (pay9_at _ _) (pay10_at _ _) (pay16_at _ _) (pay17_at _ _) _ _
      (fun r j k hk => cols (iblk m c 0 t) _ _ r j k hk) (fun r j k hk => cols (iblk m c 3 t) _ _ r j k hk) _ _
      (sink _ _ _ _ 10 rfl) (sink _ _ _ _ 11 rfl) (0x3CB504F3#32) (0x3C800000#32) rfl rfl x i (by omega) (by omega)
  · exact piece m c hf t 4 (by decide) 1 3 rfl rfl 8 9 rfl rfl _ _ _ _ (pay9_at _ _) (pay10_at _ _) (pay16_at _ _) (pay17_at _ _) _ _
      (fun r j k hk => cols (iblk m c 0 t) _ _ r j k hk) (fun r j k hk => cols (iblk m c 3 t) _ _ r j k hk) _ _
      (sink _ _ _ _ 8 rfl) (sink _ _ _ _ 9 rfl) (0x3D3504F3#32) (0x3D000000#32) rfl rfl x i (by omega) (by omega)
  · exact piece m c hf t 3 (by decide) 0 2 rfl rfl 6 7 rfl rfl _ _ _ _ (pay7_at _ _) (pay8_at _ _) (pay14_at _ _) (pay15_at _ _) _ _
      (fun r j k hk => cols (iblk m c 0 t) _ _ r j k hk) (fun r j k hk => cols (iblk m c 3 t) _ _ r j k hk) _ _
      (sink _ _ _ _ 6 rfl) (sink _ _ _ _ 7 rfl) (0x3DB504F3#32) (0x3D800000#32) rfl rfl x i (by omega) (by omega)
  · exact piece m c hf t 2 (by decide) 0 2 rfl rfl 4 5 rfl rfl _ _ _ _ (pay7_at _ _) (pay8_at _ _) (pay14_at _ _) (pay15_at _ _) _ _
      (fun r j k hk => cols (iblk m c 0 t) _ _ r j k hk) (fun r j k hk => cols (iblk m c 3 t) _ _ r j k hk) _ _
      (sink _ _ _ _ 4 rfl) (sink _ _ _ _ 5 rfl) (0x3E3504F3#32) (0x3E000000#32) rfl rfl x i (by omega) (by omega)
  · exact piece m c hf t 1 (by decide) 0 2 rfl rfl 2 3 rfl rfl _ _ _ _ (pay7_at _ _) (pay8_at _ _) (pay14_at _ _) (pay15_at _ _) _ _
      (fun r j k hk => cols (iblk m c 0 t) _ _ r j k hk) (fun r j k hk => cols (iblk m c 3 t) _ _ r j k hk) _ _
      (sink _ _ _ _ 2 rfl) (sink _ _ _ _ 3 rfl) (0x3EB504F3#32) (0x3E800000#32) rfl rfl x i (by omega) (by omega)
  · exact piece m c hf t 0 (by decide) 0 2 rfl rfl 0 1 rfl rfl _ _ _ _ (pay7_at _ _) (pay8_at _ _) (pay14_at _ _) (pay15_at _ _) _ _
      (fun r j k hk => cols (iblk m c 0 t) _ _ r j k hk) (fun r j k hk => cols (iblk m c 3 t) _ _ r j k hk) _ _
      (sink _ _ _ _ 0 rfl) (sink _ _ _ _ 1 rfl) (0x3F3504F3#32) (0x3F000000#32) rfl rfl x i (by omega) (by omega)

theorem final (c : Dev nD) (hf : WindowMath.Finite (X m c) (G m c)) : (dats m 0 c).arrAt 5 cfg0.N = res (X m c) (G m c) := by
  refine (dats m 0 c).arrAt_eq_of_covers 5 _ (by decide +kernel) fun t hf' y => ?_
  obtain ⟨-, -, -, -, -, -, -, -, -, f0, f1⟩ := idx t
  blk_simp
  rw [after0_5]
  refine block m c hf t y _ ?_ ?_
  · blk_point [f0]
  · blk_point [f1]

/-! ## The precondition, read -/

theorem real_of {x : EReal} (h : BitVec.ofBool (decide (FloatOps.absf (F := Ideal) (φ := .f32) x < Ideal.ofBits .f32 0x7F800000#32)) = 1#1) :
    Real' x := Real'.of_cmp h

theorem finite_of_pre [Cert.Pre_finite_window.Facts] (x : Vec Ideal S16384x12288 .bf16) (g : Vec Ideal S16 .f32)
    (h : Cert.Pre_finite_window.fn (F := Ideal) x g = fun _ => 1#1) : WindowMath.Finite x g where
  qk := by
    intro b n hh d
    have := b.isLt; have := hh.isLt; have := d.isLt; have := Nat.mod_lt n (show 0 < 4096 by decide)
    constructor
    · have e := congrFun h (ix2 ⟨4096 * b.val + n % 4096, by omega⟩ ⟨64 * hh.val + d.val, by omega⟩)
      revert e
      pointwise [Cert.Pre_finite_window.fn]
      rw [dif_pos (by omega)]
      intro e
      refine Eq.mp (congrArg Real' (at_eq x rfl ?_)) (real_of e)
      simp only [qcol]; omega
    · have e := congrFun h (ix2 ⟨4096 * b.val + n % 4096, by omega⟩ ⟨1024 + (64 * (hh.val / 8) + d.val), by omega⟩)
      revert e
      pointwise [Cert.Pre_finite_window.fn]
      rw [dif_pos (by omega)]
      intro e
      refine Eq.mp (congrArg Real' (at_eq x rfl ?_)) (real_of e)
      simp only [kcol]; omega
  sink := by
    intro hh
    have := hh.isLt
    have e := congrFun h (ix2 ⟨0, by omega⟩ ⟨1152 + hh.val, by omega⟩)
    revert e
    pointwise [Cert.Pre_finite_window.fn]
    rw [dif_neg (by omega), dif_neg (by omega)]
    intro e
    refine Eq.mp (congrArg (fun k => Real' (g (ix1 k))) (Fin.ext ?_)) (real_of e)
    dsimp only; omega

theorem algebraic [Cert.Pre_finite_window.Facts] : Cert.algebraic_WindowIdeal_WindowRefIdeal_pre_finite_window
    (hWindowIdeal := Cert.WindowIdeal.Gen.facts) (hWindowRefIdeal := Cert.WindowRefIdeal.Gen.facts) := by
  intro m ρ m' ρ' hpre hm
  have hf (c : Dev nD) : WindowMath.Finite (X m c) (G m c) := finite_of_pre _ _ (hpre c)
  refine ⟨fun c => res (X m c) (G m c), ?_, ?_⟩
  · exact (θ_run defs _ _).mono (fun r h c => ⟨(h c).1.trans (final m c (hf c)), (h c).2⟩) (Value.run_blocks m ρ)
  · refine (θ_run Cert.WindowRefIdeal.defs _ _).mono (fun r h c => ⟨(h c).1.trans ?_, (h c).2⟩) (Cert.WindowRefIdeal.Value.run m' ρ')
    rw [Cert.WindowRefIdeal.Read.val_main_v69_eq, (hm c).1, (hm c).2]
    exact Cert.WindowRefIdeal.Hand.res_eq _ _

end Cert.WindowIdeal.Hand
end
-- ==== Proof.PrepPay.lean ====
/- The body of the latent attention's preparation at one point, read entry by entry. -/
module
public import proofs.«01_k».proof.Proof.Gen.PrepIdeal
public import proofs.«01_k».proof.Proof.Gen.PrepIdeal.Skeleton
public import proofs.«01_k».proof.Proof.Softmax
public import Idealize.ShloMosaic.Lib.Pipeline.ValueKit
public import Idealize.ShloMosaic.Lib.Pointwise
@[expose] public section
set_option maxRecDepth 16384
noncomputable section

namespace Cert.PrepMath
open Idealize.ShloMosaic

/-- Entry `k` of a row divided by its root mean square, with gain `g`; `n` is the row's length as a number. -/
def nrm {l : ℕ} (n : BitVec 32) (r : Fin l → EReal) (g : EReal) (k : Fin l) : EReal :=
  r k * Ideal.rsqrt (Ideal.div (∑ j, r j * r j) (Ideal.ofBits .f32 n) + Ideal.ofBits .f32 0x358637BD#32) * g

/-- The rotary embedding of the 64 lanes `t` by the 32 cosines `c` and sines `s`. -/
def rope (t c s : ℕ → EReal) (j : ℕ) : EReal :=
  if j < 32 then t j * c j - t (j + 32) * s j else t (j - 32) * s (j - 32) + t j * c (j - 32)

/-- 128 lanes: the 64 of `t`, then their halves swapped and the new first half negated. -/
def lanes (t : ℕ → EReal) (l : ℕ) : EReal := if l < 64 then t l else if l < 96 then -t (l - 32) else t (l - 96)

/-- 128 lanes: the cosines twice, then the sines twice. -/
def table (c s : ℕ → EReal) (l : ℕ) : EReal :=
  if l < 32 then c l else if l < 64 then c (l - 32) else if l < 96 then s (l - 64) else s (l - 96)

/-- The lanes under the table, added to themselves turned by half, are the rotary embedding twice. -/
theorem turn (t c s : ℕ → EReal) (l : ℕ) (h : l < 128) :
    lanes t l * table c s l + lanes t ((l + 64) % 128) * table c s ((l + 64) % 128) = rope t c s (l % 64) := by
  have key (j : ℕ) (hj : j < 64) : lanes t j * table c s j + lanes t (j + 64) * table c s (j + 64) = rope t c s j := by
    unfold lanes table rope
    by_cases h1 : j < 32
    · rw [if_pos hj, if_pos h1, if_neg (by omega), if_pos (by omega), if_neg (by omega), if_neg (by omega), if_pos (by omega), if_pos h1,
        EReal.neg_mul, sub_eq_add_neg, show j + 64 - 32 = j + 32 by omega, Nat.add_sub_cancel]
    · rw [if_pos hj, if_neg h1, if_pos hj, if_neg (by omega), if_neg (by omega), if_neg (by omega), if_neg (by omega), if_neg (by omega),
        if_neg h1, add_comm, show j + 64 - 96 = j - 32 by omega]
  by_cases h1 : l < 64
  · rw [Nat.mod_eq_of_lt (show l + 64 < 128 by omega), Nat.mod_eq_of_lt h1]
    exact key l h1
  · rw [show (l + 64) % 128 = l - 64 by omega, show l % 64 = l - 64 by omega, add_comm, ← key (l - 64) (by omega),
      show l - 64 + 64 = l by omega]

end Cert.PrepMath

namespace Cert.PrepIdeal.Hand
open Cert.PrepIdeal Cert.PrepIdeal.Gen Idealize.ShloMosaic Idealize.ShloMosaic.TcCoe Idealize.SL.Sem
open Cert.PrepMath

theorem pay2_at (x : Vec Ideal S512x768 .bf16) (g : Vec Ideal S1x768 .f32) (w : Vec Ideal S768x2048 .bf16) (y : S512x2048.Idx) :
    k0_pay2 x g w y = ∑ k : Fin 768, nrm 0x44400000#32 (fun j => x (ix2 (y 0) j)) (g (ix2 0 k)) k * w (ix2 k (y 1)) := by
  pointwise [k0_pay2, nrm]

theorem pay3_at (x : Vec Ideal S512x256 .bf16) (g : Vec Ideal S1x256 .f32) (y : S512x256.Idx) :
    k0_pay3 x g y = nrm 0x43800000#32 (fun j => x (ix2 (y 0) j)) (g (ix2 0 (y 1))) (y 1) := by
  pointwise [k0_pay3, nrm]

theorem pay4_at (a : FVec Ideal S512x256 .bf16) (w : Vec Ideal S256x1024 .bf16) (y : S512x1024.Idx) :
    k0_pay4 a w y = ∑ k : Fin 256, a (ix2 (y 0) k) * w (ix2 k (y 1)) := by
  pointwise [k0_pay4]

theorem pay5_at (a : FVec Ideal S512x256 .bf16) (w : Vec Ideal S256x1024 .bf16) (y : S512x1024.Idx) :
    k0_pay5 a w y = ∑ k : Fin 256, a (ix2 (y 0) k) * w (ix2 k (y 1)) := by
  pointwise [k0_pay5]

/-- Lanes under the table, turned by half and added. -/
def rot (a tab : FVec Ideal S512x128 .f32) : FVec Ideal S512x128 .f32 :=
  addf (mulf a tab) (dynamicRotate 1 64#32 none (mulf a tab) rotates_S512x128_d1)

theorem rot_at (a tab : FVec Ideal S512x128 .f32) (l l' : Fin 128) (q : Fin 512) (h : l'.val = (l.val + 64) % 128) :
    rot a tab (ix2 q l) = a (ix2 q l) * tab (ix2 q l) + a (ix2 q l') * tab (ix2 q l') := by
  pointwise [rot]
  have e : ∀ hh : (l.val + 128 - 64) % 128 < 128, (⟨(l.val + 128 - 64) % 128, hh⟩ : Fin 128) = l' := fun _ => Fin.ext (by dsimp only; omega)
  rw [e]

/-- Columns of a product from an offset on, under the table, turned by half and added. -/
def odd (tab : FVec Ideal S512x128 .f32) (A : FVec Ideal S512x2048 .f32) (off : ℕ) (inb : S512x2048.Slices ![0, off] S512x128) :
    FVec Ideal S512x128 .bf16 :=
  truncf .bf16 (rot (extractStridedSlice S512x128 ![0, off] A inb) tab) bitsLt_bf16_f32

theorem slice_at {n : ℕ} (A : FVec Ideal ⟨2, ![512, n]⟩ .f32) (off : ℕ) (inb : (⟨2, ![512, n]⟩ : Shape).Slices ![0, off] S512x128)
    (r : Fin 512) (l : Fin 128) (k : Fin n) (hk : k.val = off + l.val) :
    extractStridedSlice S512x128 ![0, off] A inb (ix2 r l) = A (ix2 r k) := by
  unfold extractStridedSlice
  refine congrArg A (funext fun a => ?_)
  fin_cases a
  · exact Fin.ext (Nat.zero_add _)
  · exact Fin.ext hk.symm

theorem odd_at (tab : FVec Ideal S512x128 .f32) (A : FVec Ideal S512x2048 .f32) (off : ℕ) (inb : S512x2048.Slices ![0, off] S512x128)
    (r : Fin 512) (l l' : Fin 128) (h : l'.val = (l.val + 64) % 128) (k k' : Fin 2048) (hk : k.val = off + l.val) (hk' : k'.val = off + l'.val) :
    odd tab A off inb (ix2 r l) = A (ix2 r k) * tab (ix2 r l) + A (ix2 r k') * tab (ix2 r l') := by
  show rot _ _ _ = _
  rw [rot_at _ _ l l' r h, slice_at A off inb r l k hk, slice_at A off inb r l' k' hk']

theorem lane_select {α : Type} (n : ℕ) (hn : n < 128) (x y : α) :
    Scalar.select (IntOp.cmpi .slt (BitVec.ofNat 32 n) 64#32) x y = if n < 64 then x else y := by
  by_cases h : n < 64
  · rw [if_pos h, WordCmp.select_of_eq_one ((WordCmp.cmpi_slt_ofNat_eq_one_iff (by omega) (by omega)).2 h)]
  · rw [if_neg h, WordCmp.select_of_eq_zero ((WordCmp.cmpi_slt_ofNat_eq_zero_iff (by omega) (by omega)).2 (by omega))]

theorem pay6_at (tab : FVec Ideal S512x128 .f32) (x : Vec Ideal S512x128 .bf16) (r : Fin 512) (l l' : Fin 128) (h : l'.val = (l.val + 64) % 128) :
    k0_pay6 tab (iota .tc S512x128 32 [1] iota_S512x128_d1_w32) x (ix2 r l)
      = if l.val < 64 then x (ix2 r l) * tab (ix2 r l) + x (ix2 r l') * tab (ix2 r l') else 0 := by
  refine Eq.trans (b := Scalar.select (IntOp.cmpi .slt (BitVec.ofNat 32 l.val) 64#32)
    (rot (extf .f32 x bitsLt_bf16_f32) tab (ix2 r l)) (Ideal.ofBits .f32 0x00000000#32)) ?_ ?_
  · pointwise [k0_pay6, rot]
  · rw [lane_select _ l.isLt, rot_at _ _ l l' r h]
    have z : Ideal.ofBits .f32 0x00000000#32 = 0 := by simp [Ideal.ofBits, Ideal.ieee]
    rw [z]
    rfl

end Cert.PrepIdeal.Hand
end
-- ==== Proof.PrepHost.lean ====
/- What the preparation's call is given: the weights' columns arranged for it, and the table of cosines and sines. -/
module
public import proofs.«01_k».proof.Defs
public import proofs.«01_k».proof.Proof.PrepPay
public import proofs.«01_k».proof.Proof.Gen.PrepIdeal.Value
public import proofs.«01_k».proof.Proof.Gen.PrepRefIdeal.Read
@[expose] public section
set_option maxRecDepth 16384
noncomputable section
namespace Cert.PrepIdeal.Hand
open Cert.PrepIdeal Cert.PrepIdeal.Gen Idealize.ShloMosaic Idealize.ShloMosaic.TcCoe Idealize.SL.Sem
open Cert.PrepMath Cert.Softmax

/-! ## The three results, as functions of the six arguments -/

section
variable (x : Vec Ideal S16384x12288 .bf16) (p : Vec Ideal S4x4096 .i32) (qg : Vec Ideal S768 .f32) (kg : Vec Ideal S256 .f32)
  (wq : Vec Ideal S768x1536 .f32) (wk : Vec Ideal S256x2048 .f32) (s : Fin 16384)

/-- The normalised latent of a query row. -/
def cq (k : Fin 768) : EReal :=
  nrm 0x44400000#32 (fun j : Fin 768 => x (ix2 s ⟨j.val, by have := j.isLt; omega⟩)) (qg (ix1 k)) k
/-- The normalised latent of a key row. -/
def ck (k : Fin 256) : EReal :=
  nrm 0x43800000#32 (fun j : Fin 256 => x (ix2 s ⟨768 + j.val, by have := j.isLt; omega⟩)) (kg (ix1 k)) k
/-- A column of the query weights. -/
def wqc (k : Fin 768) (e : ℕ) : EReal := wq (ix2 k ⟨e % 1536, Nat.mod_lt _ (by decide)⟩)
/-- Entry `e` of a row of queries. -/
def qd (e : ℕ) : EReal := ∑ k : Fin 768, cq x qg s k * wqc wq k e
/-- Entry `e` of a row of keys and values. -/
def kd (e : ℕ) : EReal := ∑ k : Fin 256, ck x kg s k * wk (ix2 k ⟨e % 2048, Nat.mod_lt _ (by decide)⟩)
/-- The angle of a row at frequency `j`. -/
def ang (j : ℕ) : EReal :=
  FloatOps.sitofp (F := Ideal) .f32 (p (ix2 ⟨s.val / 4096, by have := s.isLt; omega⟩ ⟨s.val % 4096, Nat.mod_lt _ (by decide)⟩))
    * Ideal.pow (Ideal.ofBits .f32 1176256512#32)
      (Ideal.div (-FloatOps.sitofp (F := Ideal) .f32 (BitVec.ofNat 32 j)) (Ideal.ofBits .f32 1107296256#32))
def cs (j : ℕ) : EReal := Ideal.cos (ang p s j)
def sn (j : ℕ) : EReal := Ideal.sin (ang p s j)
/-- The rotary lanes of head `h` of a query row. -/
def tq (h j : ℕ) : EReal := qd x qg wq s (192 * h + 128 + j)
/-- The rotary lanes of a key row. -/
def tk (j : ℕ) : EReal := x (ix2 s ⟨(11904 + j) % 12288, Nat.mod_lt _ (by decide)⟩)
end

def resq (x : Vec Ideal S16384x12288 .bf16) (p : Vec Ideal S4x4096 .i32) (qg : Vec Ideal S768 .f32) (wq : Vec Ideal S768x1536 .f32) :
    S16384x2048.Idx → EReal := fun i =>
  if (i 1).val % 256 < 128 then qd x qg wq (i 0) (192 * ((i 1).val / 256) + (i 1).val % 256)
  else rope (tq x qg wq (i 0) ((i 1).val / 256)) (cs p (i 0)) (sn p (i 0)) (((i 1).val % 256 - 128) % 64)

def resk (x : Vec Ideal S16384x12288 .bf16) (p : Vec Ideal S4x4096 .i32) (kg : Vec Ideal S256 .f32) (wk : Vec Ideal S256x2048 .f32) :
    S16384x2048.Idx → EReal := fun i =>
  if (i 1).val % 256 < 128 then kd x kg wk (i 0) (i 1).val
  else if (i 1).val % 256 < 192 then rope (tk x (i 0)) (cs p (i 0)) (sn p (i 0)) ((i 1).val % 256 - 128) else 0

def resv (x : Vec Ideal S16384x12288 .bf16) (kg : Vec Ideal S256 .f32) (wk : Vec Ideal S256x2048 .f32) : S16384x1024.Idx → EReal := fun i =>
  kd x kg wk (i 0) (256 * ((i 1).val / 128) + (128 + (i 1).val % 128))

/-! ## What the call is given -/

/-- The query weights with the rotary columns of each head followed by their halves swapped. -/
def hq (w : Vec Ideal S768x1536 .f32) : Vec Ideal S768x2048 .bf16 :=
  let a : FVec Ideal S768x8x192 .f32 := shapeCast _ w shapeCasts_S768x1536_S768x8x192
  let r : FVec Ideal S768x8x64 .f32 := extractStridedSlice S768x8x64 ![0, 0, 128] a slices_S768x8x192_S768x8x64_0_0_128
  truncf .bf16 (shapeCast S768x2048 (concatenate S768x8x256 2
    [⟨S768x8x128, extractStridedSlice S768x8x128 ![0, 0, 0] a slices_S768x8x192_S768x8x128_0_0_0⟩, ⟨S768x8x64, r⟩,
     ⟨S768x8x64, concatenate S768x8x64 2
       [⟨S768x8x32, Host.negf (extractStridedSlice S768x8x32 ![0, 0, 32] r slices_S768x8x64_S768x8x32_0_0_32)⟩,
        ⟨S768x8x32, extractStridedSlice S768x8x32 ![0, 0, 0] r slices_S768x8x64_S768x8x32_0_0_0⟩] concatenates_S768x8x32_S768x8x32_S768x8x64_d2⟩]
    concatenates_S768x8x128_S768x8x64_S768x8x64_S768x8x256_d2 : FVec Ideal S768x8x256 .f32) shapeCasts_S768x8x256_S768x2048) bitsLt_bf16_f32

/-- The key weights of the heads side by side. -/
def hk (w : Vec Ideal S256x2048 .f32) : Vec Ideal S256x1024 .bf16 :=
  truncf .bf16 (shapeCast S256x1024 (extractStridedSlice S256x8x128 ![0, 0, 0]
    (shapeCast S256x8x256 w shapeCasts_S256x2048_S256x8x256 : FVec Ideal S256x8x256 .f32) slices_S256x8x256_S256x8x128_0_0_0) shapeCasts_S256x8x128_S256x1024) bitsLt_bf16_f32

/-- The value weights of the heads side by side. -/
def hv (w : Vec Ideal S256x2048 .f32) : Vec Ideal S256x1024 .bf16 :=
  truncf .bf16 (shapeCast S256x1024 (extractStridedSlice S256x8x128 ![0, 0, 128]
    (shapeCast S256x8x256 w shapeCasts_S256x2048_S256x8x256 : FVec Ideal S256x8x256 .f32) slices_S256x8x256_S256x8x128_0_0_128) shapeCasts_S256x8x128_S256x1024) bitsLt_bf16_f32

/-- The angles. -/
def hang (p : Vec Ideal S4x4096 .i32) : FVec Ideal S4x4096x32 .f32 :=
  mulf (broadcastInDim S4x4096x32 ![0, 1, 2] bcast_S4x4096x1_S4x4096x32_0_1_2
      (broadcastInDim S4x4096x1 ![0, 1] bcast_S4x4096_S4x4096x1_0_1 (sitofp .f32 p : FVec Ideal S4x4096 .f32)))
    (broadcastInDim S4x4096x32 ![0, 1, 2] bcast_S1x1x32_S4x4096x32_0_1_2 (broadcastInDim S1x1x32 ![2] bcast_S32_S1x1x32_2
      (Host.powf (broadcastInDim S32 ![] bcast_S_S32 (constant S_ .f32 0x461C4000#32 : FVec Ideal S_ .f32))
        (Host.divf (Host.negf (sitofp .f32 (iotaInDim S32 32 0)))
          (broadcastInDim S32 ![] bcast_S_S32 (constant S_ .f32 0x42000000#32 : FVec Ideal S_ .f32))))))

/-- One array's lanes twice, then another's twice. -/
def tab4 (a b : FVec Ideal S4x4096x32 .f32) : FVec Ideal S16384x128 .f32 :=
  shapeCast S16384x128 (concatenate S4x4096x128 2 [⟨S4x4096x32, a⟩, ⟨S4x4096x32, a⟩, ⟨S4x4096x32, b⟩, ⟨S4x4096x32, b⟩]
    concatenates_S4x4096x32_S4x4096x32_S4x4096x32_S4x4096x32_S4x4096x128_d2 : FVec Ideal S4x4096x128 .f32) shapeCasts_S4x4096x128_S16384x128

/-- The table: the cosines twice, the sines twice. -/
def htab (p : Vec Ideal S4x4096 .i32) : Vec Ideal S16384x128 .f32 := tab4 (Host.cos (hang p)) (Host.sin (hang p))

variable (m : (ℓ : Loc nD τ sig) → Buf (Elt Ideal) ℓ) (c : Dev nD)

theorem V_hq : V m c main_v10 = hq (m ((c : Thread nD τ).loc main_arg4)) := by
  unfold V hostOps0
  after_results_simp <;> (try dsimp only [Matrix.cons_val]) <;> (try after_results_simp) <;> rfl
theorem V_hk : V m c main_v13 = hk (m ((c : Thread nD τ).loc main_arg5)) := by
  unfold V hostOps0
  after_results_simp <;> (try dsimp only [Matrix.cons_val]) <;> (try after_results_simp) <;> rfl
theorem V_hv : V m c main_v16 = hv (m ((c : Thread nD τ).loc main_arg5)) := by
  unfold V hostOps0
  after_results_simp <;> (try dsimp only [Matrix.cons_val]) <;> (try after_results_simp) <;> rfl
theorem V_htab : V m c main_v32 = htab (m ((c : Thread nD τ).loc main_arg1)) := by
  unfold V hostOps0
  after_results_simp <;> (try dsimp only [Matrix.cons_val]) <;> (try after_results_simp) <;> rfl
theorem V_qg : V m c main_v33 = shapeCast S1x768 (m ((c : Thread nD τ).loc main_arg2)) shapeCasts_S768_S1x768 := by
  unfold V hostOps0
  after_results_simp <;> rfl
theorem V_kvg : V m c main_v34 = shapeCast S1x256 (m ((c : Thread nD τ).loc main_arg3)) shapeCasts_S256_S1x256 := by
  unfold V hostOps0
  after_results_simp <;> rfl

theorem at2 {n k : ℕ} {α : Type} (f : (⟨2, ![n, k]⟩ : Shape).Idx → α) {a a' : Fin n} {b b' : Fin k} (ha : a.val = a'.val) (hb : b.val = b'.val) :
    f (ix2 a b) = f (ix2 a' b') := by rw [Fin.ext ha, Fin.ext hb]

theorem hq_nope (w : Vec Ideal S768x1536 .f32) (k : Fin 768) (e : Fin 2048) (h l : ℕ) (he : e.val = 256 * h + l) (hl : l < 128) :
    hq w (ix2 k e) = wqc w k (192 * h + l) := by
  have := e.isLt
  pointwise [hq]
  refine (dif_pos (by omega)).trans ?_
  exact at2 w rfl (by dsimp only; omega)

theorem lanes_lo (t : ℕ → EReal) {l : ℕ} (h : l < 64) : lanes t l = t l := if_pos h
theorem lanes_mid (t : ℕ → EReal) {l : ℕ} (h : ¬l < 64) (h' : l < 96) : lanes t l = -t (l - 32) := (if_neg h).trans (if_pos h')
theorem lanes_hi (t : ℕ → EReal) {l : ℕ} (h : ¬l < 96) : lanes t l = t (l - 96) := (if_neg (by omega)).trans (if_neg h)

theorem hq_rope (w : Vec Ideal S768x1536 .f32) (k : Fin 768) (e : Fin 2048) (h l : ℕ) (he : e.val = 256 * h + (128 + l)) (hl : l < 128) :
    hq w (ix2 k e) = lanes (fun j => wqc w k (192 * h + 128 + j)) l := by
  have := e.isLt
  pointwise [hq]
  refine (dif_neg (by omega)).trans ?_
  by_cases h1 : l < 64
  · refine (dif_pos (by omega)).trans (Eq.trans ?_ (lanes_lo _ h1).symm)
    exact at2 w rfl (by dsimp only; omega)
  · refine (dif_neg (by omega)).trans ?_
    by_cases h2 : l < 96
    · refine (dif_pos (by omega)).trans (Eq.trans ?_ (lanes_mid _ h1 h2).symm)
      exact congrArg (fun z : EReal => -z) (at2 w rfl (by dsimp only; omega))
    · refine (dif_neg (by omega)).trans (Eq.trans ?_ (lanes_hi _ h2).symm)
      exact at2 w rfl (by dsimp only; omega)

theorem hk_at (w : Vec Ideal S256x2048 .f32) (k : Fin 256) (e : Fin 1024) (e' : Fin 2048) (he : e'.val = 256 * (e.val / 128) + e.val % 128) :
    hk w (ix2 k e) = w (ix2 k e') := by
  have := e.isLt
  pointwise [hk]
  exact at2 w rfl (by dsimp only; omega)

theorem hv_at (w : Vec Ideal S256x2048 .f32) (k : Fin 256) (e : Fin 1024) (e' : Fin 2048) (he : e'.val = 256 * (e.val / 128) + (128 + e.val % 128)) :
    hv w (ix2 k e) = w (ix2 k e') := by
  have := e.isLt
  pointwise [hv]
  exact at2 w rfl (by dsimp only; omega)

theorem hang_at (p : Vec Ideal S4x4096 .i32) (a : Fin 4) (b : Fin 4096) (j : Fin 32) (s : Fin 16384) (hs : s.val = a.val * 4096 + b.val) (n : ℕ)
    (hn : n = j.val) : hang p (ix3 a b j) = ang p s n := by
  subst hn
  have := b.isLt
  unfold ang
  rw [show (⟨s.val / 4096, by have := s.isLt; omega⟩ : Fin 4) = a from Fin.ext (by dsimp only; omega),
    show (⟨s.val % 4096, Nat.mod_lt _ (by decide)⟩ : Fin 4096) = b from Fin.ext (by dsimp only; omega)]
  pointwise [hang]

theorem tab4_at (a b : FVec Ideal S4x4096x32 .f32) (s : Fin 16384) (l : Fin 128) (u : Fin 4) (v : Fin 4096) (h : s.val = u.val * 4096 + v.val)
    (c d : ℕ → EReal) (hc : ∀ j : Fin 32, a (ix3 u v j) = c j.val) (hd : ∀ j : Fin 32, b (ix3 u v j) = d j.val) :
    tab4 a b (ix2 s l) = table c d l.val := by
  have := v.isLt
  have := l.isLt
  have e : ∀ hh : s.val / 4096 < 4, (⟨s.val / 4096, hh⟩ : Fin 4) = u := fun _ => Fin.ext (by dsimp only; omega)
  have e' : ∀ hh : s.val % 4096 < 4096, (⟨s.val % 4096, hh⟩ : Fin 4096) = v := fun _ => Fin.ext (by dsimp only; omega)
  unfold table
  pointwise [tab4]
  simp only [e, e', hc, hd]
  split
  · rfl
  · split
    · rw [if_pos (by omega)]
    · rw [if_neg (by omega)]
      split
      · rw [if_pos (by omega), show l.val - 64 = l.val - 32 - 32 by omega]
      · rw [if_neg (by omega), show l.val - 96 = l.val - 32 - 32 - 32 by omega]

theorem htab_at (p : Vec Ideal S4x4096 .i32) (s : Fin 16384) (l : Fin 128) : htab p (ix2 s l) = table (cs p s) (sn p s) l.val := by
  have := s.isLt
  have hs : s.val = (⟨s.val / 4096, by omega⟩ : Fin 4).val * 4096 + (⟨s.val % 4096, Nat.mod_lt _ (by decide)⟩ : Fin 4096).val := by
    dsimp only; omega
  refine tab4_at _ _ s l _ _ hs _ _ (fun j => ?_) (fun j => ?_)
  · exact congrArg Ideal.cos (hang_at p _ _ j s hs _ rfl)
  · exact congrArg Ideal.sin (hang_at p _ _ j s hs _ rfl)

/-! ## The query product under the arranged weights -/

/-- What is asked of the arguments: the query latent, its gain and its weights are real, and the key's rotary columns are
    followed by their halves swapped, the new first half negated. -/
structure Holds (x : Vec Ideal S16384x12288 .bf16) (qg : Vec Ideal S768 .f32) (wq : Vec Ideal S768x1536 .f32) : Prop where
  lat : ∀ (s : Fin 16384) (k : Fin 12288), k.val < 768 → Real' (x (ix2 s k))
  gain : ∀ k : Fin 768, Real' (qg (ix1 k))
  wt : ∀ (k : Fin 768) (e : Fin 1536), Real' (wq (ix2 k e))
  key : ∀ (s : Fin 16384) (l : ℕ) (k : Fin 12288), l < 128 → k.val = 11904 + l → x (ix2 s k) = lanes (tk x s) l

/-- The root mean square of a real row has a real inverse. -/
theorem rsqrt_real {l : ℕ} (n : ℝ) (hn : 0 < n) (e : ℝ) (he : 0 < e) (r : Fin l → EReal) (hr : ∀ j, Real' (r j)) :
    Real' (Ideal.rsqrt (Ideal.div (∑ j, r j * r j) (n : EReal) + (e : EReal))) := by
  choose f hf using hr
  have h1 : (∑ j, r j * r j) = ((∑ j, f j * f j : ℝ) : EReal) := by
    induction (Finset.univ : Finset (Fin l)) using Finset.induction_on with
    | empty => simp
    | insert a S ha ih => rw [Finset.sum_insert ha, Finset.sum_insert ha, ih, hf, EReal.coe_add, EReal.coe_mul]
  have h2 : 0 ≤ ∑ j, f j * f j := Finset.sum_nonneg fun j _ => mul_self_nonneg (f j)
  rw [h1, Ideal.div_coe hn.ne', ← EReal.coe_mul, ← EReal.coe_add, Ideal.rsqrt_coe]
  have h3 : 0 < (∑ j, f j * f j) * (1 / n) + e := add_pos_of_nonneg_of_pos (mul_nonneg h2 (by positivity)) he
  rw [if_neg (not_lt.2 h3.le), if_neg h3.ne']
  exact ⟨_, rfl⟩

theorem cq_real {x : Vec Ideal S16384x12288 .bf16} {qg : Vec Ideal S768 .f32} {wq : Vec Ideal S768x1536 .f32} (H : Holds x qg wq)
    (s : Fin 16384) (k : Fin 768) : Real' (cq x qg s k) := by
  unfold cq nrm
  refine ((H.lat s _ (by have := k.isLt; dsimp only; omega)).mul ?_).mul (H.gain k)
  have e1 : Ideal.ofBits .f32 0x44400000#32 = ((768 : ℝ) : EReal) := by
    simp [Ideal.ofBits, Ideal.ieee, -EReal.coe_mul]; norm_num
  have e2 : ∃ e : ℝ, 0 < e ∧ Ideal.ofBits .f32 0x358637BD#32 = (e : EReal) := by
    refine ⟨8796093 * 2 ^ (-43 : ℤ), by positivity, ?_⟩
    simp [Ideal.ofBits, Ideal.ieee, -EReal.coe_mul]
  obtain ⟨e, he, e2⟩ := e2
  rw [e1, e2]
  exact rsqrt_real 768 (by norm_num) e he _ fun j => H.lat s _ (by have := j.isLt; dsimp only; omega)

theorem sum_neg {ι : Type*} (S : Finset ι) (f : ι → EReal) (h : ∀ k ∈ S, Real' (f k)) : ∑ k ∈ S, -f k = -∑ k ∈ S, f k := by
  classical
  induction S using Finset.induction_on with
  | empty => simp
  | insert a S ha ih =>
    have hs : Real' (∑ k ∈ S, f k) := Real'.sum S f fun k hk => h k (Finset.mem_insert_of_mem hk)
    rw [Finset.sum_insert ha, Finset.sum_insert ha, ih fun k hk => h k (Finset.mem_insert_of_mem hk),
      EReal.neg_add (.inr hs.ne_top) (.inr hs.ne_bot), sub_eq_add_neg]

/-- The product with the arranged weights is the lanes of the product. -/
theorem dot_lanes {x : Vec Ideal S16384x12288 .bf16} {qg : Vec Ideal S768 .f32} {wq : Vec Ideal S768x1536 .f32} (H : Holds x qg wq)
    (s : Fin 16384) (h l : ℕ) :
    ∑ k : Fin 768, cq x qg s k * lanes (fun j => wqc wq k (192 * h + 128 + j)) l = lanes (tq x qg wq s h) l := by
  unfold lanes
  split
  · rfl
  · split
    · simp only [mul_neg]
      exact sum_neg _ _ fun k _ => (cq_real H s k).mul (H.wt k _)
    · rfl

end Cert.PrepIdeal.Hand
end
-- ==== Proof.PrepRefValue.lean ====
/- The reference of the latent attention's preparation: its three results are `resq`, `resk` and `resv`. -/
module
public import proofs.«01_k».proof.Defs
public import proofs.«01_k».proof.Proof.PrepHost
public import proofs.«01_k».proof.Proof.Gen.PrepRefIdeal.Read
@[expose] public section
set_option maxRecDepth 16384
noncomputable section
namespace Cert.PrepRefIdeal.Hand
open Cert.PrepRefIdeal Cert.PrepRefIdeal.Read Idealize.ShloMosaic
open Cert.PrepMath Cert.PrepIdeal.Hand

variable (x : Vec Ideal S16384x12288 .bf16) (p : Vec Ideal S4x4096 .i32) (qg : Vec Ideal S768 .f32) (kg : Vec Ideal S256 .f32)
  (wq : Vec Ideal S768x1536 .f32) (wk : Vec Ideal S256x2048 .f32) (s : Fin 16384)

theorem ang_at (j : Fin 32) : val_main_v14 (F := Ideal) p (ix2 s j) = ang p s j.val := by
  pointwise [val_main_v14, val_main_v13, val_main_v12, val_main_v11, val_main_v10, val_main_v9, val_main_v8, val_main_v7, val_main_v6, val_main_v5, val_main_v4, val_main_v3, val_main_v2, val_main_v1, val_main_cst, val_main_cst_0, ang]

theorem cos_at (j : Fin 32) : val_main_v15 (F := Ideal) p (ix2 s j) = cs p s j.val := congrArg Ideal.cos (ang_at p s j)
theorem sin_at (j : Fin 32) : val_main_v17 (F := Ideal) p (ix2 s j) = sn p s j.val := congrArg Ideal.sin (ang_at p s j)

theorem cos1_at (u : Fin 1) (j : Fin 32) : val_main_v16 (F := Ideal) p (ix3 s u j) = cs p s j.val := by
  pointwise [val_main_v16]
  exact cos_at p s j
theorem sin1_at (u : Fin 1) (j : Fin 32) : val_main_v18 (F := Ideal) p (ix3 s u j) = sn p s j.val := by
  pointwise [val_main_v18]
  exact sin_at p s j

theorem cq_at (k : Fin 768) : val_main_v32 (F := Ideal) x qg (ix2 s k) = cq x qg s k := by
  pointwise [val_main_v32, val_main_v31, val_main_v30, val_main_v29, val_main_v28, val_main_v27, val_main_v26, val_main_v25, val_main_v24, val_main_v23, val_main_v22, val_main_v21, val_main_v20, val_main_v19, val_main_cst_1, val_main_cst_2, val_main_cst_3, val_main_v0, cq, nrm]

theorem ck_at (k : Fin 256) : val_main_v64 (F := Ideal) x kg (ix2 s k) = ck x kg s k := by
  pointwise [val_main_v64, val_main_v63, val_main_v62, val_main_v61, val_main_v60, val_main_v59, val_main_v58, val_main_v57, val_main_v56, val_main_v55, val_main_v54, val_main_v53, val_main_v52, val_main_v51, val_main_cst_4, val_main_cst_5, val_main_cst_6, val_main_v0, ck, nrm]

theorem qd_at (e : Fin 1536) : val_main_v33 (F := Ideal) x qg wq (ix2 s e) = qd x qg wq s e.val := by
  unfold qd wqc
  pointwise [val_main_v33]
  refine Finset.sum_congr rfl fun k _ => congrArg₂ (· * ·) (cq_at x qg s k) (at2 wq rfl ?_)
  have := e.isLt
  dsimp only
  omega

theorem kd_at (e : Fin 2048) : val_main_v65 (F := Ideal) x kg wk (ix2 s e) = kd x kg wk s e.val := by
  unfold kd
  pointwise [val_main_v65]
  refine Finset.sum_congr rfl fun k _ => congrArg₂ (· * ·) (ck_at x kg s k) (at2 wk rfl ?_)
  have := e.isLt
  dsimp only
  omega

theorem tq_at (h : Fin 8) (j : Fin 64) : val_main_v35 (F := Ideal) x qg wq (ix3 s h j) = tq x qg wq s h.val j.val := by
  have := h.isLt
  have := j.isLt
  pointwise [val_main_v35, val_main_v34]
  refine (qd_at x qg wq _ _).trans ?_
  unfold tq
  exact congrArg₂ (qd x qg wq) rfl (by dsimp only; omega)

theorem nope_at (h : Fin 8) (j : Fin 128) : val_main_v49 (F := Ideal) x qg wq (ix3 s h j) = qd x qg wq s (192 * h.val + j.val) := by
  have := h.isLt
  have := j.isLt
  pointwise [val_main_v49, val_main_v34]
  refine (qd_at x qg wq _ _).trans ?_
  exact congrArg₂ (qd x qg wq) rfl (by dsimp only; omega)

theorem qrope_at (h : Fin 8) (j : Fin 64) :
    val_main_v48 (F := Ideal) x p qg wq (ix3 s h j) = rope (tq x qg wq s h.val) (cs p s) (sn p s) j.val := by
  unfold rope
  pointwise [val_main_v48, val_main_v47, val_main_v46, val_main_v45, val_main_v44, val_main_v43, val_main_v42, val_main_v41, val_main_v40, val_main_v39, val_main_v38, val_main_v37, val_main_v36]
  simp only [tq_at, cos1_at, sin1_at]
  split
  · rw [Nat.add_comm 32]
  · rw [show 32 + (j.val - 32) = j.val by omega]

theorem tk_of (k : Fin 12288) (j : ℕ) (h : k.val = 11904 + j) : x (ix2 s k) = tk x s j := by
  unfold tk
  have := k.isLt
  exact at2 x rfl (by dsimp only; omega)

theorem krope_at (j : Fin 64) (u : Fin 1) : val_main_v77 (F := Ideal) x p (ix3 s u j) = rope (tk x s) (cs p s) (sn p s) j.val := by
  have := j.isLt
  unfold rope
  pointwise [val_main_v77, val_main_v76, val_main_v75, val_main_v74, val_main_v73, val_main_v72, val_main_v71, val_main_v70, val_main_v69, val_main_v68, val_main_v67, val_main_v0]
  simp only [cos1_at, sin1_at]
  split
  · rw [tk_of x s _ j.val rfl, tk_of x s _ (j.val + 32) (by dsimp only; omega)]
  · rw [tk_of x s _ (j.val - 32) rfl, tk_of x s _ j.val (by dsimp only; omega)]

theorem resq_at (e : Fin 2048) : val_main_v83 (F := Ideal) x p qg wq (ix2 s e) = resq x p qg wq (ix2 s e) := by
  unfold resq
  pointwise [val_main_v83, val_main_v82, val_main_v50]
  simp only [qrope_at, nope_at]
  split
  · rfl
  · split
    · rw [show e.val % 256 - 128 = (e.val % 256 - 128) % 64 from (Nat.mod_eq_of_lt (by assumption)).symm, Nat.mod_mod]
    · rw [show e.val % 256 - 128 - 64 = (e.val % 256 - 128) % 64 by omega]

theorem resk_at (e : Fin 2048) : val_main_v85 (F := Ideal) x p kg wk (ix2 s e) = resk x p kg wk (ix2 s e) := by
  unfold resk
  pointwise [val_main_v85, val_main_v84, val_main_v81, val_main_v80, val_main_v79, val_main_v78, val_main_v66, val_main_cst_7]
  simp only [krope_at, kd_at]
  split
  · rfl
  · split
    · rw [if_pos (by omega)]
    · rw [if_neg (by omega)]

theorem resv_at (e : Fin 1024) : val_main_v88 (F := Ideal) x kg wk (ix2 s e) = resv x kg wk (ix2 s e) := by
  unfold resv
  pointwise [val_main_v88, val_main_v87, val_main_v86, val_main_v66]
  simp only [kd_at]
  rw [Nat.mul_comm 256]

theorem eta {n k : ℕ} (i : (⟨2, ![n, k]⟩ : Shape).Idx) : i = ix2 (i 0) (i 1) := by funext a; fin_cases a <;> rfl

theorem resq_eq : val_main_v83 (F := Ideal) x p qg wq = resq x p qg wq := funext fun i => by rw [eta i]; exact resq_at x p qg wq _ _
theorem resk_eq : val_main_v85 (F := Ideal) x p kg wk = resk x p kg wk := funext fun i => by rw [eta i]; exact resk_at x p kg wk _ _
theorem resv_eq : val_main_v88 (F := Ideal) x kg wk = resv x kg wk := funext fun i => by rw [eta i]; exact resv_at x kg wk _ _

end Cert.PrepRefIdeal.Hand
end
-- ==== Proof.PrepBlock.lean ====
/- The latent attention's preparation over its grid: its three result arrays are `resq`, `resk` and `resv`. -/
module
public import proofs.«01_k».proof.Defs
public import proofs.«01_k».proof.Proof.PrepHost
public import proofs.«01_k».proof.Proof.PrepRefValue
public import proofs.«01_k».proof.Proof.Gen.PrepIdeal.Value
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
namespace Cert.PrepIdeal.Hand
open Cert.PrepIdeal Cert.PrepIdeal.Gen Idealize.ShloMosaic Idealize.ShloMosaic.TcCoe Idealize.SL.Sem
open Cert.PrepMath Cert.Softmax
open Cert.PrepRefIdeal.Hand (tk_of)

variable (m : (ℓ : Loc nD τ sig) → Buf (Elt Ideal) ℓ) (ρ : Dev nD → PrngReg)

/-! ## The blocks of a point, in the terms of the arguments -/

theorem idx : ∀ t : Fin cfg0.N, win0_0.index t (0 : Fin 2) = t.val ∧ win0_0.index t (1 : Fin 2) = 0
    ∧ win0_1.index t (0 : Fin 2) = t.val ∧ win0_1.index t (1 : Fin 2) = 3
    ∧ win0_2.index t (0 : Fin 2) = t.val ∧ win0_2.index t (1 : Fin 2) = 93
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem odx : ∀ t : Fin cfg0.N, win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

abbrev X (c : Dev nD) : Vec Ideal S16384x12288 .bf16 := m ((c : Thread nD τ).loc main_arg0)
abbrev P (c : Dev nD) : Vec Ideal S4x4096 .i32 := m ((c : Thread nD τ).loc main_arg1)
abbrev QG (c : Dev nD) : Vec Ideal S768 .f32 := m ((c : Thread nD τ).loc main_arg2)
abbrev KG (c : Dev nD) : Vec Ideal S256 .f32 := m ((c : Thread nD τ).loc main_arg3)
abbrev WQ (c : Dev nD) : Vec Ideal S768x1536 .f32 := m ((c : Thread nD τ).loc main_arg4)
abbrev WK (c : Dev nD) : Vec Ideal S256x2048 .f32 := m ((c : Thread nD τ).loc main_arg5)

section
variable (c : Dev nD) (t : Fin cfg0.N)

theorem rd0 (r : Fin 512) (k : Fin 768) (i : Fin 16384) (j : Fin 12288) (hi : i.val = t.val * 512 + r.val) (hj : j.val = k.val) :
    iblk m c 0 t (ix2 r k) = X m c (ix2 i j) := by
  obtain ⟨e0, e1, -⟩ := idx t
  blk_point [iblk, V, e0, e1, hi, hj]
theorem rd1 (r : Fin 512) (k : Fin 256) (i : Fin 16384) (j : Fin 12288) (hi : i.val = t.val * 512 + r.val) (hj : j.val = 3 * 256 + k.val) :
    iblk m c 1 t (ix2 r k) = X m c (ix2 i j) := by
  obtain ⟨-, -, e0, e1, -⟩ := idx t
  blk_point [iblk, V, e0, e1, hi, hj]
theorem rd2 (r : Fin 512) (k : Fin 128) (i : Fin 16384) (j : Fin 12288) (hi : i.val = t.val * 512 + r.val) (hj : j.val = 93 * 128 + k.val) :
    iblk m c 2 t (ix2 r k) = X m c (ix2 i j) := by
  obtain ⟨-, -, -, -, e0, e1, -⟩ := idx t
  blk_point [iblk, V, e0, e1, hi, hj]
theorem read3 (r : Fin 512) (l : Fin 128) (i : Fin 16384) (hi : i.val = t.val * 512 + r.val) (v : Buf (Elt Ideal) ((c : Thread nD τ).loc main_v32)) :
    View.read (Elt Ideal) ((cfg0.win 3).blk t).view v (ix2 r l) = v (ix2 i l) := by
  obtain ⟨-, -, -, -, -, -, e0, e1, -⟩ := idx t
  blk_point [e0, e1, hi]
theorem rd3 (r : Fin 512) (l : Fin 128) (i : Fin 16384) (hi : i.val = t.val * 512 + r.val) :
    iblk m c 3 t (ix2 r l) = table (cs (P m c) i) (sn (P m c) i) l.val :=
  (read3 c t r l i hi (V m c main_v32)).trans ((congrFun (V_htab m c) _).trans (htab_at _ i l))
theorem rd4 (k : Fin 768) : iblk m c 4 t (ix2 0 k) = QG m c (ix1 k) := by
  obtain ⟨-, -, -, -, -, -, -, -, e0, e1, -⟩ := idx t
  blk_point [iblk, V, e0, e1]
theorem rd5 (k : Fin 256) : iblk m c 5 t (ix2 0 k) = KG m c (ix1 k) := by
  obtain ⟨-, -, -, -, -, -, -, -, -, -, e0, e1, -⟩ := idx t
  blk_point [iblk, V, e0, e1]
theorem rd6 (k : Fin 768) (e : Fin 2048) : iblk m c 6 t (ix2 k e) = hq (WQ m c) (ix2 k e) := by
  obtain ⟨-, -, -, -, -, -, -, -, -, -, -, -, e0, e1, -⟩ := idx t
  refine Eq.trans (b := V m c main_v10 (ix2 k e)) ?_ (congrFun (V_hq m c) _)
  blk_point [iblk, e0, e1]
theorem rd7 (k : Fin 256) (e : Fin 1024) : iblk m c 7 t (ix2 k e) = hk (WK m c) (ix2 k e) := by
  obtain ⟨-, -, -, -, -, -, -, -, -, -, -, -, -, -, e0, e1, -⟩ := idx t
  refine Eq.trans (b := V m c main_v13 (ix2 k e)) ?_ (congrFun (V_hk m c) _)
  blk_point [iblk, e0, e1]
theorem rd8 (k : Fin 256) (e : Fin 1024) : iblk m c 8 t (ix2 k e) = hv (WK m c) (ix2 k e) := by
  obtain ⟨-, -, -, -, -, -, -, -, -, -, -, -, -, -, -, -, e0, e1⟩ := idx t
  refine Eq.trans (b := V m c main_v16 (ix2 k e)) ?_ (congrFun (V_hv m c) _)
  blk_point [iblk, e0, e1]

/-! ## The body's values -/

theorem pay1_at (v : Vec Ideal S512x128 .f32) (i : S512x128.Idx) : k0_pay1 v i = v i := by pointwise [k0_pay1]

/-- The query product of a point, the latent key of a point, and its products. -/
abbrev bq : FVec Ideal S512x2048 .f32 := k0_pay2 (iblk m c 0 t) (iblk m c 4 t) (iblk m c 6 t)
abbrev bc : FVec Ideal S512x256 .bf16 := k0_pay3 (iblk m c 1 t) (iblk m c 5 t)
abbrev bk : FVec Ideal S512x1024 .f32 := k0_pay4 (bc m c t) (iblk m c 7 t)
abbrev bt : FVec Ideal S512x128 .f32 := k0_pay1 (iblk m c 3 t)

variable (r : Fin 512) (s : Fin 16384) (hs : s.val = t.val * 512 + r.val)
include hs

theorem bt_at (l : Fin 128) : bt m c t (ix2 r l) = table (cs (P m c) s) (sn (P m c) s) l.val := (pay1_at _ _).trans (rd3 m c t r l s hs)

theorem bq_at (e : Fin 2048) : bq m c t (ix2 r e) = ∑ k : Fin 768, cq (X m c) (QG m c) s k * hq (WQ m c) (ix2 k e) := by
  refine (pay2_at _ _ _ _).trans ?_
  refine Finset.sum_congr rfl fun k _ => congrArg₂ (· * ·) ?_ (rd6 m c t k e)
  unfold cq
  exact congrArg₂ (fun f g => nrm 0x44400000#32 f g k) (funext fun j => rd0 m c t r j s _ hs rfl) (rd4 m c t k)

theorem bc_at (k : Fin 256) : bc m c t (ix2 r k) = ck (X m c) (KG m c) s k := by
  refine (pay3_at _ _ _).trans ?_
  unfold ck
  exact congrArg₂ (fun f g => nrm 0x43800000#32 f g k) (funext fun j => rd1 m c t r j s _ hs rfl) (rd5 m c t k)

theorem bk_at (e : Fin 1024) (n : ℕ) (hn : n = 256 * (e.val / 128) + e.val % 128) : bk m c t (ix2 r e) = kd (X m c) (KG m c) (WK m c) s n := by
  have := e.isLt
  refine (pay4_at _ _ _).trans ?_
  unfold kd
  refine Finset.sum_congr rfl fun k _ => congrArg₂ (· * ·) (bc_at m c t r s hs k) ((rd7 m c t k e).trans (hk_at _ k e _ ?_))
  dsimp only
  omega

theorem bv_at (e : Fin 1024) (n : ℕ) (hn : n = 256 * (e.val / 128) + (128 + e.val % 128)) :
    k0_pay5 (bc m c t) (iblk m c 8 t) (ix2 r e) = kd (X m c) (KG m c) (WK m c) s n := by
  have := e.isLt
  refine (pay5_at _ _ _).trans ?_
  unfold kd
  refine Finset.sum_congr rfl fun k _ => congrArg₂ (· * ·) (bc_at m c t r s hs k) ((rd8 m c t k e).trans (hv_at _ k e _ ?_))
  dsimp only
  omega
end

/-! ## The stored parts -/

section
variable (c : Dev nD) (H : Holds (X m c) (QG m c) (WQ m c)) (t : Fin cfg0.N)

/-- Columns of a product from an offset on. -/
def even {n : ℕ} (A : FVec Ideal ⟨2, ![512, n]⟩ .f32) (off : ℕ) (inb : (⟨2, ![512, n]⟩ : Shape).Slices ![0, off] S512x128) :
    FVec Ideal S512x128 .bf16 := truncf .bf16 (extractStridedSlice S512x128 ![0, off] A inb) bitsLt_bf16_f32

theorem eta {n k : ℕ} (i : (⟨2, ![n, k]⟩ : Shape).Idx) : i = ix2 (i 0) (i 1) := by funext a; fin_cases a <;> rfl

variable (r : Fin 512) (l : Fin 128) (s : Fin 16384) (e : Fin 2048) (h0 : s.val = t.val * 512 + r.val)
include h0

theorem qeven (h : ℕ) (off : ℕ) (ho : off = 256 * h) (inb : S512x2048.Slices ![0, off] S512x128) (h1 : e.val = off + l.val) :
    even (bq m c t) off inb (ix2 r l) = resq (X m c) (P m c) (QG m c) (WQ m c) (ix2 s e) := by
  have x1 := l.isLt
  refine (slice_at (bq m c t) off inb r l e h1).trans ?_
  rw [bq_at m c t r s h0]
  refine Eq.trans ?_ (if_pos (show e.val % 256 < 128 by omega)).symm
  show _ = qd (X m c) (QG m c) (WQ m c) s (192 * (e.val / 256) + e.val % 256)
  rw [show e.val % 256 = l.val by omega, show e.val / 256 = h by omega]
  unfold qd
  exact Finset.sum_congr rfl fun k _ => congrArg₂ (· * ·) rfl (hq_nope _ k _ h _ (by omega) x1)

include H in
theorem qodd (h : ℕ) (off : ℕ) (ho : off = 256 * h + 128) (hh : h < 8) (inb : S512x2048.Slices ![0, off] S512x128) (h1 : e.val = off + l.val) :
    odd (bt m c t) (bq m c t) off inb (ix2 r l) = resq (X m c) (P m c) (QG m c) (WQ m c) (ix2 s e) := by
  have x1 := l.isLt
  have lane (l : Fin 128) (k : Fin 2048) (hk : k.val = off + l.val) :
      bq m c t (ix2 r k) = lanes (tq (X m c) (QG m c) (WQ m c) s h) l.val := by
    rw [bq_at m c t r s h0, ← dot_lanes H]
    exact Finset.sum_congr rfl fun n _ => congrArg₂ (· * ·) rfl (hq_rope _ n k h l.val (by omega) l.isLt)
  obtain ⟨l', hl'⟩ : ∃ l' : Fin 128, l'.val = (l.val + 64) % 128 := ⟨⟨_, Nat.mod_lt _ (by decide)⟩, rfl⟩
  obtain ⟨k', hk'⟩ : ∃ k' : Fin 2048, k'.val = off + l'.val := ⟨⟨off + l'.val, by have := l'.isLt; omega⟩, rfl⟩
  refine (odd_at (bt m c t) (bq m c t) off inb r l l' hl' e k' h1 hk').trans ?_
  rw [lane l e h1, lane l' k' hk', bt_at m c t r s h0 l, bt_at m c t r s h0 l', hl']
  refine (turn _ _ _ _ x1).trans (Eq.trans ?_ (if_neg (show ¬e.val % 256 < 128 by omega)).symm)
  show _ = rope (tq (X m c) (QG m c) (WQ m c) s (e.val / 256)) (cs (P m c) s) (sn (P m c) s) ((e.val % 256 - 128) % 64)
  rw [show e.val / 256 = h by omega, show e.val % 256 - 128 = l.val by omega]

theorem keven (h : ℕ) (off : ℕ) (ho : off = 128 * h) (hh : h < 8) (inb : S512x1024.Slices ![0, off] S512x128)
    (h1 : e.val = 256 * h + l.val) :
    even (bk m c t) off inb (ix2 r l) = resk (X m c) (P m c) (KG m c) (WK m c) (ix2 s e) := by
  have x1 := l.isLt
  refine (slice_at (bk m c t) off inb r l ⟨off + l.val, by omega⟩ rfl).trans ?_
  rw [bk_at m c t r s h0 _ e.val (by dsimp only; omega)]
  exact (if_pos (show e.val % 256 < 128 by omega)).symm

include H in
theorem kodd (h : ℕ) (h1 : e.val = 256 * h + 128 + l.val) :
    k0_pay6 (bt m c t) (iota .tc S512x128 32 [1] iota_S512x128_d1_w32) (iblk m c 2 t) (ix2 r l)
      = resk (X m c) (P m c) (KG m c) (WK m c) (ix2 s e) := by
  have x1 := l.isLt
  have lane (l : Fin 128) : iblk m c 2 t (ix2 r l) = lanes (tk (X m c) s) l.val :=
    (rd2 m c t r l s ⟨93 * 128 + l.val, by have := l.isLt; omega⟩ h0 rfl).trans (H.key _ _ _ l.isLt rfl)
  obtain ⟨l', hl'⟩ : ∃ l' : Fin 128, l'.val = (l.val + 64) % 128 := ⟨⟨_, Nat.mod_lt _ (by decide)⟩, rfl⟩
  refine (pay6_at (bt m c t) _ r l l' hl').trans ?_
  rw [lane l, lane l', bt_at m c t r s h0 l, bt_at m c t r s h0 l', hl', turn _ _ _ _ x1]
  refine Eq.trans ?_ (if_neg (show ¬e.val % 256 < 128 by omega)).symm
  show _ = if e.val % 256 < 192 then rope (tk (X m c) s) (cs (P m c) s) (sn (P m c) s) (e.val % 256 - 128) else 0
  by_cases hx : l.val < 64
  · rw [if_pos hx, if_pos (by omega), show l.val % 64 = e.val % 256 - 128 by omega]
  · rw [if_neg hx, if_neg (by omega)]
end

/-! ## The result arrays -/

section
variable (x0 : Vec Ideal S512x768 .bf16) (x1 : Vec Ideal S512x256 .bf16) (x2 : Vec Ideal S512x128 .bf16) (x3 : Vec Ideal S512x128 .f32)
  (x4 : Vec Ideal S1x768 .f32) (x5 : Vec Ideal S1x256 .f32) (x6 : Vec Ideal S768x2048 .bf16) (x7 x8 : Vec Ideal S256x1024 .bf16)

theorem ld_whole {n k : ℕ} {e : EltTy} (x : Vec Ideal ⟨2, ![n, k]⟩ e)
    (inb : ∀ a, ![0, 0] a + (⟨2, ![n, k]⟩ : Shape).size a ≤ (⟨2, ![n, k]⟩ : Shape).size a) :
    View.ld x (Rect.unit (s := ⟨2, ![n, k]⟩) ![0, 0] (⟨2, ![n, k]⟩ : Shape).size inb) = x := by
  funext i
  refine congrArg x (funext fun a => ?_)
  fin_cases a <;> exact Fin.ext (by simp [Rect.unit])

theorem p34 : k0_pay34 x0 x1 x2 x3 x4 x5 x6 x7 x8 = k0_pay1 x3 := congrArg k0_pay1 (ld_whole x3 _)
theorem p35 : k0_pay35 x0 x1 x2 x3 x4 x5 x6 x7 x8 = k0_pay2 x0 x4 x6 := by
  unfold k0_pay35
  exact congr (congr (congrArg k0_pay2 (ld_whole x0 _)) (ld_whole x4 _)) (ld_whole x6 _)
theorem p36 : k0_pay36 x0 x1 x2 x3 x4 x5 x6 x7 x8 = k0_pay3 x1 x5 := by
  unfold k0_pay36
  exact congr (congrArg k0_pay3 (ld_whole x1 _)) (ld_whole x5 _)
theorem p37 : k0_pay37 x0 x1 x2 x3 x4 x5 x6 x7 x8 = k0_pay4 (k0_pay3 x1 x5) x7 := by
  unfold k0_pay37
  exact congr (congrArg k0_pay4 (p36 x0 x1 x2 x3 x4 x5 x6 x7 x8)) (ld_whole x7 _)
theorem p38 : k0_pay6 (k0_pay34 x0 x1 x2 x3 x4 x5 x6 x7 x8) (k0_pay33 x0 x1 x2 x3 x4 x5 x6 x7 x8) (View.ld x2 r0_0)
    = k0_pay6 (k0_pay1 x3) (iota .tc S512x128 32 [1] iota_S512x128_d1_w32) x2 :=
  congr (congr (congrArg k0_pay6 (p34 x0 x1 x2 x3 x4 x5 x6 x7 x8)) rfl) (ld_whole x2 _)
theorem p9 (a : FVec Ideal S512x256 .bf16) (w : Vec Ideal S256x1024 .bf16) :
    k0_pay9 a w = even (k0_pay4 a w) 0 slices_S512x1024_o0_0_S512x128 := by unfold k0_pay9 even; rfl
theorem p39 : k0_pay9 (k0_pay36 x0 x1 x2 x3 x4 x5 x6 x7 x8) (View.ld x7 r0_6)
    = even (k0_pay4 (k0_pay3 x1 x5) x7) 0 slices_S512x1024_o0_0_S512x128 :=
  (congr (congrArg k0_pay9 (p36 x0 x1 x2 x3 x4 x5 x6 x7 x8)) (ld_whole x7 _)).trans (p9 _ _)
theorem p40 : k0_pay5 (k0_pay36 x0 x1 x2 x3 x4 x5 x6 x7 x8) (View.ld x8 r0_6) = k0_pay5 (k0_pay3 x1 x5) x8 :=
  congr (congrArg k0_pay5 (p36 x0 x1 x2 x3 x4 x5 x6 x7 x8)) (ld_whole x8 _)

/-- The sixteen stored parts of the queries. -/
theorem tiles9 (f : S512x2048.Idx → EReal)
    (he : ∀ h off : ℕ, h < 8 → off = 256 * h → ∀ inb (x : S512x128.Idx) (y : S512x2048.Idx), (y 0).val = (x 0).val → (y 1).val = off + (x 1).val →
      even (k0_pay2 x0 x4 x6) off inb x = f y)
    (ho : ∀ h off : ℕ, h < 8 → off = 256 * h + 128 → ∀ inb (x : S512x128.Idx) (y : S512x2048.Idx), (y 0).val = (x 0).val → (y 1).val = off + (x 1).val →
      odd (k0_pay1 x3) (k0_pay2 x0 x4 x6) off inb x = f y) (y : S512x2048.Idx) :
    out0_9 x0 x1 x2 x3 x4 x5 x6 x7 x8 y = f y := by
  unfold out0_9
  rw [p34, p35]
  generalize k0_pay1 x3 = T at ho ⊢
  generalize k0_pay2 x0 x4 x6 = A at he ho ⊢
  canon_tiles x h
  · exact ho 7 1920 (by decide) rfl _ x y (by omega) (by omega)
  · exact he 7 1792 (by decide) rfl _ x y (by omega) (by omega)
  · exact ho 6 1664 (by decide) rfl _ x y (by omega) (by omega)
  · exact he 6 1536 (by decide) rfl _ x y (by omega) (by omega)
  · exact ho 5 1408 (by decide) rfl _ x y (by omega) (by omega)
  · exact he 5 1280 (by decide) rfl _ x y (by omega) (by omega)
  · exact ho 4 1152 (by decide) rfl _ x y (by omega) (by omega)
  · exact he 4 1024 (by decide) rfl _ x y (by omega) (by omega)
  · exact ho 3 896 (by decide) rfl _ x y (by omega) (by omega)
  · exact he 3 768 (by decide) rfl _ x y (by omega) (by omega)
  · exact ho 2 640 (by decide) rfl _ x y (by omega) (by omega)
  · exact he 2 512 (by decide) rfl _ x y (by omega) (by omega)
  · exact ho 1 384 (by decide) rfl _ x y (by omega) (by omega)
  · exact he 1 256 (by decide) rfl _ x y (by omega) (by omega)
  · exact ho 0 128 (by decide) rfl _ x y (by omega) (by omega)
  · exact he 0 0 (by decide) rfl _ x y (by omega) (by omega)

/-- The sixteen stored parts of the keys. -/
theorem tiles10 (f : S512x2048.Idx → EReal)
    (he : ∀ h off : ℕ, h < 8 → off = 128 * h → ∀ inb (x : S512x128.Idx) (y : S512x2048.Idx), (y 0).val = (x 0).val → (y 1).val = 256 * h + (x 1).val →
      even (k0_pay4 (k0_pay3 x1 x5) x7) off inb x = f y)
    (ho : ∀ h : ℕ, h < 8 → ∀ (x : S512x128.Idx) (y : S512x2048.Idx), (y 0).val = (x 0).val → (y 1).val = 256 * h + 128 + (x 1).val →
      k0_pay6 (k0_pay1 x3) (iota .tc S512x128 32 [1] iota_S512x128_d1_w32) x2 x = f y) (y : S512x2048.Idx) :
    out0_10 x0 x1 x2 x3 x4 x5 x6 x7 x8 y = f y := by
  unfold out0_10
  unfold k0_pay38
  rw [p38, p37, p39]
  generalize k0_pay6 (k0_pay1 x3) (iota .tc S512x128 32 [1] iota_S512x128_d1_w32) x2 = B at ho ⊢
  generalize k0_pay4 (k0_pay3 x1 x5) x7 = A at he ⊢
  canon_tiles x h
  · exact ho 7 (by decide) x y (by omega) (by omega)
  · exact he 7 896 (by decide) rfl _ x y (by omega) (by omega)
  · exact ho 6 (by decide) x y (by omega) (by omega)
  · exact he 6 768 (by decide) rfl _ x y (by omega) (by omega)
  · exact ho 5 (by decide) x y (by omega) (by omega)
  · exact he 5 640 (by decide) rfl _ x y (by omega) (by omega)
  · exact ho 4 (by decide) x y (by omega) (by omega)
  · exact he 4 512 (by decide) rfl _ x y (by omega) (by omega)
  · exact ho 3 (by decide) x y (by omega) (by omega)
  · exact he 3 384 (by decide) rfl _ x y (by omega) (by omega)
  · exact ho 2 (by decide) x y (by omega) (by omega)
  · exact he 2 256 (by decide) rfl _ x y (by omega) (by omega)
  · exact ho 1 (by decide) x y (by omega) (by omega)
  · exact he 1 128 (by decide) rfl _ x y (by omega) (by omega)
  · exact ho 0 (by decide) x y (by omega) (by omega)
  · exact he 0 0 (by decide) rfl _ x y (by omega) (by omega)

theorem tiles11 (y : S512x1024.Idx) : out0_11 x0 x1 x2 x3 x4 x5 x6 x7 x8 y = k0_pay5 (k0_pay3 x1 x5) x8 y := by
  unfold out0_11
  rw [p40]
  generalize k0_pay5 (k0_pay3 x1 x5) x8 = A
  frame_out
end

section
variable (c : Dev nD) (H : Holds (X m c) (QG m c) (WQ m c)) (t : Fin cfg0.N)
include H in
theorem blockq (y : S512x2048.Idx) (i : S16384x2048.Idx) (g0 : (i 0).val = t.val * 512 + (y 0).val) (g1 : (i 1).val = (y 1).val) :
    (dats m 0 c).after 9 t y = resq (X m c) (P m c) (QG m c) (WQ m c) i := by
  have ht : t.val < 32 := t.isLt
  rw [after0_9]
  refine (tiles9 _ _ _ _ _ _ _ _ _ (fun z => resq (X m c) (P m c) (QG m c) (WQ m c)
    (ix2 ⟨t.val * 512 + (z 0).val, by have : (z 0).val < 512 := (z 0).isLt; omega⟩ (z 1))) ?_ ?_ y).trans ?_
  · intro h off hh ho inb x z g0 g1
    rw [eta x]
    exact qeven m c t (x 0) (x 1) _ (z 1) (congrArg (t.val * 512 + ·) g0) h off ho inb g1
  · intro h off hh ho inb x z g0 g1
    rw [eta x]
    exact qodd m c H t (x 0) (x 1) _ (z 1) (congrArg (t.val * 512 + ·) g0) h off ho hh inb g1
  · rw [eta i]
    exact congrArg₂ (fun a b => resq (X m c) (P m c) (QG m c) (WQ m c) (ix2 a b)) (Fin.ext g0.symm) (Fin.ext g1.symm)
include H in
theorem blockk (y : S512x2048.Idx) (i : S16384x2048.Idx) (g0 : (i 0).val = t.val * 512 + (y 0).val) (g1 : (i 1).val = (y 1).val) :
    (dats m 0 c).after 10 t y = resk (X m c) (P m c) (KG m c) (WK m c) i := by
  have ht : t.val < 32 := t.isLt
  rw [after0_10]
  refine (tiles10 _ _ _ _ _ _ _ _ _ (fun z => resk (X m c) (P m c) (KG m c) (WK m c)
    (ix2 ⟨t.val * 512 + (z 0).val, by have : (z 0).val < 512 := (z 0).isLt; omega⟩ (z 1))) ?_ ?_ y).trans ?_
  · intro h off hh ho inb x z g0 g1
    rw [eta x]
    exact keven m c t (x 0) (x 1) _ (z 1) (congrArg (t.val * 512 + ·) g0) h off ho hh inb g1
  · intro h hh x z g0 g1
    rw [eta x]
    exact kodd m c H t (x 0) (x 1) _ (z 1) (congrArg (t.val * 512 + ·) g0) h g1
  · rw [eta i]
    exact congrArg₂ (fun a b => resk (X m c) (P m c) (KG m c) (WK m c) (ix2 a b)) (Fin.ext g0.symm) (Fin.ext g1.symm)

theorem blockv (y : S512x1024.Idx) (i : S16384x1024.Idx) (g0 : (i 0).val = t.val * 512 + (y 0).val) (g1 : (i 1).val = (y 1).val) :
    (dats m 0 c).after 11 t y = resv (X m c) (KG m c) (WK m c) i := by
  rw [after0_11, tiles11]
  refine Eq.trans (congrArg (k0_pay5 (bc m c t) (iblk m c 8 t)) (eta y)) ?_
  refine bv_at m c t (y 0) (i 0) g0 (y 1) _ ?_
  show 256 * ((i 1).val / 128) + (128 + (i 1).val % 128) = _
  rw [g1]
end

theorem final9 (c : Dev nD) (H : Holds (X m c) (QG m c) (WQ m c)) : (dats m 0 c).arrAt 9 cfg0.N = resq (X m c) (P m c) (QG m c) (WQ m c) := by
  refine (dats m 0 c).arrAt_eq_of_covers 9 _ (by decide +kernel) fun t hf' y => ?_
  obtain ⟨f0, f1, -⟩ := odx t
  blk_simp
  refine blockq m c H t y _ ?_ ?_
  · blk_point [f0]
  · blk_point [f1]

theorem final10 (c : Dev nD) (H : Holds (X m c) (QG m c) (WQ m c)) : (dats m 0 c).arrAt 10 cfg0.N = resk (X m c) (P m c) (KG m c) (WK m c) := by
  refine (dats m 0 c).arrAt_eq_of_covers 10 _ (by decide +kernel) fun t hf' y => ?_
  obtain ⟨-, -, f0, f1, -⟩ := odx t
  blk_simp
  refine blockk m c H t y _ ?_ ?_
  · blk_point [f0]
  · blk_point [f1]

theorem final11 (c : Dev nD) : (dats m 0 c).arrAt 11 cfg0.N = resv (X m c) (KG m c) (WK m c) := by
  refine (dats m 0 c).arrAt_eq_of_covers 11 _ (by decide +kernel) fun t hf' y => ?_
  obtain ⟨-, -, -, -, f0, f1⟩ := odx t
  blk_simp
  refine blockv m c t y _ ?_ ?_
  · blk_point [f0]
  · blk_point [f1]

end Cert.PrepIdeal.Hand
end
-- ==== Proof.PrepValue.lean ====
/- The latent attention's preparation agrees with its reference. -/
module
public import proofs.«01_k».proof.Defs
public import proofs.«01_k».proof.Proof.PrepBlock
public import proofs.«01_k».proof.Proof.PrepRefValue
public import proofs.«01_k».proof.Proof.Gen.PrepIdeal.Value
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
namespace Cert.PrepIdeal.Hand
open Cert.PrepIdeal Cert.PrepIdeal.Gen Idealize.ShloMosaic Idealize.ShloMosaic.TcCoe Idealize.SL.Sem
open Cert.PrepMath Cert.Softmax
open Cert.PrepRefIdeal.Hand (tk_of)

variable (m : (ℓ : Loc nD τ sig) → Buf (Elt Ideal) ℓ) (ρ : Dev nD → PrngReg)

/-! ## The precondition, read -/

theorem real_of {x : EReal} (h : BitVec.ofBool (decide (FloatOps.absf (F := Ideal) (φ := .f32) x < Ideal.ofBits .f32 0x7F800000#32)) = 1#1) :
    Real' x := Real'.of_cmp h

/-- Two bits whose conjunction is set are set. -/
theorem and_one {a b : BitVec 1} (h : IntOp.andi a b = 1#1) : a = 1#1 ∧ b = 1#1 := by
  revert a b; decide

/-- A proposition whose bit is set holds. -/
theorem of_bit {p : Prop} [Decidable p] (h : BitVec.ofBool (decide p) = 1#1) : p := by
  by_contra hn
  rw [decide_eq_false hn] at h
  exact absurd h (by decide)

section
variable [Cert.Pre_finite_prep.Facts] (x : Vec Ideal S16384x12288 .bf16) (p : Vec Ideal S4x4096 .i32) (qg : Vec Ideal S768 .f32)
    (kg : Vec Ideal S256 .f32) (wq : Vec Ideal S768x1536 .f32) (wk : Vec Ideal S256x2048 .f32)
    (h : Cert.Pre_finite_prep.fn (F := Ideal) x p qg kg wq wk = fun _ => 1#1)
include h

theorem pre_row (s : Fin 16384) (k : Fin 768) (k' : Fin 12288) (hk : k'.val = k.val) : Real' (x (ix2 s k')) := by
  have := s.isLt
  have e := congrFun h (ix2 k ⟨s.val, by omega⟩)
  revert e
  pointwise [Cert.Pre_finite_prep.fn]
  intro e
  refine Eq.mp (congrArg Real' (at2 x rfl ?_)) (real_of (and_one e).1)
  exact hk.symm

theorem pre_gain (k : Fin 768) : Real' (qg (ix1 k)) := by
  have e := congrFun h (ix2 k ⟨16384, by omega⟩)
  revert e
  pointwise [Cert.Pre_finite_prep.fn]
  intro e
  exact real_of (and_one e).1

theorem pre_wt (k : Fin 768) (n : Fin 1536) : Real' (wq (ix2 k n)) := by
  have := n.isLt
  have e := congrFun h (ix2 k ⟨16385 + n.val, by omega⟩)
  revert e
  pointwise [Cert.Pre_finite_prep.fn]
  intro e
  have e1 := (and_one e).1
  rw [dif_neg (by omega), dif_neg (by omega)] at e1
  refine Eq.mp (congrArg Real' (at2 wq rfl ?_)) (real_of e1)
  dsimp only; omega

theorem pre_key (s : Fin 16384) (j : ℕ) (hj : j < 64) (k : Fin 12288) (hk : k.val = 11968 + j) :
    x (ix2 s k) = if j < 32 then -tk x s (32 + j) else tk x s (j - 32) := by
  have := s.isLt
  have e := congrFun h (ix2 ⟨j, by omega⟩ ⟨s.val, by omega⟩)
  revert e
  pointwise [Cert.Pre_finite_prep.fn]
  intro e
  have e2 := (and_one e).2
  rw [dif_pos hj] at e2
  refine (at2 x rfl hk).trans ((of_bit e2).trans ?_)
  by_cases hh : j < 32
  · rw [dif_pos hh, if_pos hh, tk_of x s _ (32 + j) (by dsimp only; omega)]
  · rw [dif_neg hh, if_neg hh, tk_of x s _ (j - 32) rfl]
end

theorem holds_of_pre [Cert.Pre_finite_prep.Facts] (x : Vec Ideal S16384x12288 .bf16) (p : Vec Ideal S4x4096 .i32) (qg : Vec Ideal S768 .f32)
    (kg : Vec Ideal S256 .f32) (wq : Vec Ideal S768x1536 .f32) (wk : Vec Ideal S256x2048 .f32)
    (h : Cert.Pre_finite_prep.fn (F := Ideal) x p qg kg wq wk = fun _ => 1#1) : Holds x qg wq where
  lat := fun s k hk => pre_row x p qg kg wq wk h s ⟨k.val, hk⟩ k rfl
  gain := pre_gain x p qg kg wq wk h
  wt := pre_wt x p qg kg wq wk h
  key := by
    intro s l k hl hk
    by_cases h1 : l < 64
    · exact (tk_of x s k l hk).trans (lanes_lo _ h1).symm
    · rw [pre_key x p qg kg wq wk h s (l - 64) (by omega) k (by omega)]
      by_cases h2 : l < 96
      · rw [if_pos (by omega), lanes_mid _ h1 h2, show 32 + (l - 64) = l - 32 by omega]
      · rw [if_neg (by omega), lanes_hi _ h2, show l - 64 - 32 = l - 96 by omega]

theorem algebraic [Cert.Pre_finite_prep.Facts] : Cert.algebraic_PrepIdeal_PrepRefIdeal_pre_finite_prep
    (hPrepIdeal := Cert.PrepIdeal.Gen.facts) (hPrepRefIdeal := Cert.PrepRefIdeal.Gen.facts) := by
  intro m ρ m' ρ' hpre hm
  have hf (c : Dev nD) : Holds (X m c) (QG m c) (WQ m c) := holds_of_pre _ _ _ _ _ _ (hpre c)
  refine ⟨fun c => resq (X m c) (P m c) (QG m c) (WQ m c), fun c => resk (X m c) (P m c) (KG m c) (WK m c),
    fun c => resv (X m c) (KG m c) (WK m c), ?_, ?_⟩
  · exact (θ_run defs _ _).mono (fun r h c => ⟨(h c).1.trans (final9 m c (hf c)), (h c).2.1.trans (final10 m c (hf c)),
      (h c).2.2.1.trans (final11 m c), (h c).2.2.2⟩) (Value.run_blocks m ρ)
  · refine (θ_run Cert.PrepRefIdeal.defs _ _).mono (fun r h c => ⟨(h c).1.trans ?_, (h c).2.1.trans ?_, (h c).2.2.1.trans ?_, (h c).2.2.2⟩)
      (Cert.PrepRefIdeal.Value.run m' ρ')
    · rw [Cert.PrepRefIdeal.Read.val_main_v83_eq, (hm c).1, (hm c).2.1, (hm c).2.2.1, (hm c).2.2.2.2.1]
      exact Cert.PrepRefIdeal.Hand.resq_eq _ _ _ _
    · rw [Cert.PrepRefIdeal.Read.val_main_v85_eq, (hm c).1, (hm c).2.1, (hm c).2.2.2.1, (hm c).2.2.2.2.2]
      exact Cert.PrepRefIdeal.Hand.resk_eq _ _ _ _
    · rw [Cert.PrepRefIdeal.Read.val_main_v88_eq, (hm c).1, (hm c).2.2.2.1, (hm c).2.2.2.2.2]
      exact Cert.PrepRefIdeal.Hand.resv_eq _ _ _

end Cert.PrepIdeal.Hand
end
-- ==== Proof.lean ====
/- The claims, put together: each program runs to a quiescent end with its arguments unchanged, and each kernel
   computes, over the extended reals, what its reference computes. The three attentions and the preparation of
   the latent one do so from finite arguments.
   The value proofs are in the modules beside this. -/
module

public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentRefIdeal
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.Window
public import proofs.«01_k».proof.Proof.Gen.Window.Skeleton
public import proofs.«01_k».proof.Proof.Gen.Window.Launch
public import proofs.«01_k».proof.Proof.Gen.Window.Points
public import proofs.«01_k».proof.Proof.Gen.Window.Frame
public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Gen.WindowRefIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.Pre_finite_fox
public import proofs.«01_k».proof.Proof.Gen.Pre_finite_latent
public import proofs.«01_k».proof.Proof.Gen.Pre_finite_window
public import proofs.«01_k».proof.Proof.Gen.Pre_finite_prep
public import Idealize.ShloMosaic.Adequacy
public import Idealize.ShloMosaic.Init
public import proofs.«01_k».proof.Proof.Gen.FoxRefIdeal.Run
public import proofs.«01_k».proof.Proof.Gen.FoxRefIdeal.Read
public import proofs.«01_k».proof.Proof.FoxFrame
public import proofs.«01_k».proof.Proof.FoxIdealFrame
public import proofs.«01_k».proof.Proof.FoxResult
public import proofs.«01_k».proof.Proof.Gen.MergeIdeal.Value
public import proofs.«01_k».proof.Proof.Gen.MergeRefIdeal.Run
public import proofs.«01_k».proof.Proof.Gen.MergeRefIdeal.Read
public import proofs.«01_k».proof.Proof.MergeValue
public import proofs.«01_k».proof.Proof.Gen.ProjIdeal.Value
public import proofs.«01_k».proof.Proof.Gen.ProjRefIdeal.Run
public import proofs.«01_k».proof.Proof.Gen.ProjRefIdeal.Read
public import proofs.«01_k».proof.Proof.ProjValue
public import proofs.«01_k».proof.Proof.Gen.OutIdeal.Value
public import proofs.«01_k».proof.Proof.Gen.OutRefIdeal.Run
public import proofs.«01_k».proof.Proof.Gen.OutRefIdeal.Read
public import proofs.«01_k».proof.Proof.OutValue
public import proofs.«01_k».proof.Proof.Gen.NormIdeal.Value
public import proofs.«01_k».proof.Proof.Gen.NormRefIdeal.Run
public import proofs.«01_k».proof.Proof.Gen.NormRefIdeal.Read
public import proofs.«01_k».proof.Proof.NormValue
public import proofs.«01_k».proof.Proof.Gen.LatentRefIdeal.Run
public import proofs.«01_k».proof.Proof.Gen.LatentRefIdeal.Read
public import proofs.«01_k».proof.Proof.LatentFrame
public import proofs.«01_k».proof.Proof.LatentIdealFrame
public import proofs.«01_k».proof.Proof.LatentResult
public import proofs.«01_k».proof.Proof.Gen.SmallIdeal.Value
public import proofs.«01_k».proof.Proof.Gen.SmallRefIdeal.Run
public import proofs.«01_k».proof.Proof.Gen.SmallRefIdeal.Read
public import proofs.«01_k».proof.Proof.SmallValue
public import proofs.«01_k».proof.Proof.Gen.WindowIdeal.Value
public import proofs.«01_k».proof.Proof.Gen.WindowRefIdeal.Run
public import proofs.«01_k».proof.Proof.Gen.WindowRefIdeal.Read
public import proofs.«01_k».proof.Proof.WindowResult
public import proofs.«01_k».proof.Proof.Gen.PrepIdeal.Value
public import proofs.«01_k».proof.Proof.Gen.PrepRefIdeal.Run
public import proofs.«01_k».proof.Proof.Gen.PrepRefIdeal.Read
public import proofs.«01_k».proof.Proof.PrepValue

@[expose] public section

noncomputable section

namespace Cert.Proof

open Idealize.ShloMosaic Idealize.SL.Sem Cert.Fox

/-- The reference of `Fox` ends with its arguments unchanged and its counters at zero. -/
theorem frame_FoxRef : Cert.quiescent_FoxRefIdeal (hFoxRefIdeal := Cert.FoxRefIdeal.Gen.facts) := fun m ρ _ =>
  (θ_run Cert.FoxRefIdeal.defs _ _).mono (fun r h => ⟨fun c => (h c).2, sem_eq_zero_of_no_sems (by decide) r.2⟩)
    (Cert.FoxRefIdeal.Value.run m ρ)

/-- The reference of `Merge` ends with its arguments unchanged and its counters at zero. -/
theorem frame_MergeRef : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run m ρ)

/-- The reference of `Proj` ends with its arguments unchanged and its counters at zero. -/
theorem frame_ProjRef : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.Value.run m ρ)

/-- The reference of `Out` ends with its arguments unchanged and its counters at zero. -/
theorem frame_OutRef : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run m ρ)

/-- The reference of `Norm` ends with its arguments unchanged and its counters at zero. -/
theorem frame_NormRef : Cert.quiescent_NormRefIdeal (hNormRefIdeal := Cert.NormRefIdeal.Gen.facts) := fun m ρ _ =>
  (θ_run Cert.NormRefIdeal.defs _ _).mono (fun r h => ⟨fun c => (h c).2.2, sem_eq_zero_of_no_sems (by decide) r.2⟩)
    (Cert.NormRefIdeal.Value.run m ρ)

/-- The reference of `Latent` ends with its arguments unchanged and its counters at zero. -/
theorem frame_LatentRef : Cert.quiescent_LatentRefIdeal (hLatentRefIdeal := Cert.LatentRefIdeal.Gen.facts) := fun m ρ _ =>
  (θ_run Cert.LatentRefIdeal.defs _ _).mono (fun r h => ⟨fun c => (h c).2, sem_eq_zero_of_no_sems (by decide) r.2⟩)
    (Cert.LatentRefIdeal.Value.run m ρ)

/-- The reference of `Small` ends with its arguments unchanged and its counters at zero. -/
theorem frame_SmallRef : Cert.quiescent_SmallRefIdeal (hSmallRefIdeal := Cert.SmallRefIdeal.Gen.facts) := fun m ρ _ =>
  (θ_run Cert.SmallRefIdeal.defs _ _).mono (fun r h => ⟨fun c => (h c).2, sem_eq_zero_of_no_sems (by decide) r.2⟩)
    (Cert.SmallRefIdeal.Value.run m ρ)

/-- The reference of `Window` ends with its arguments unchanged and its counters at zero. -/
theorem frame_WindowRef : Cert.quiescent_WindowRefIdeal (hWindowRefIdeal := Cert.WindowRefIdeal.Gen.facts) := fun m ρ _ =>
  (θ_run Cert.WindowRefIdeal.defs _ _).mono (fun r h => ⟨fun c => (h c).2, sem_eq_zero_of_no_sems (by decide) r.2⟩)
    (Cert.WindowRefIdeal.Value.run m ρ)

/-- The reference of `Prep` ends with its arguments unchanged and its counters at zero. -/
theorem frame_PrepRef : Cert.quiescent_PrepRefIdeal (hPrepRefIdeal := Cert.PrepRefIdeal.Gen.facts) := fun m ρ _ =>
  (θ_run Cert.PrepRefIdeal.defs _ _).mono (fun r h => ⟨fun c => (h c).2.2.2, sem_eq_zero_of_no_sems (by decide) r.2⟩)
    (Cert.PrepRefIdeal.Value.run m ρ)

theorem claim : Cert.Claim := ⟨Cert.Fox.Gen.facts, Cert.FoxIdeal.Gen.facts, Cert.FoxRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Norm.Gen.facts, Cert.NormIdeal.Gen.facts, Cert.NormRefIdeal.Gen.facts, Cert.Latent.Gen.facts, Cert.LatentIdeal.Gen.facts, Cert.LatentRefIdeal.Gen.facts, Cert.Small.Gen.facts, Cert.SmallIdeal.Gen.facts, Cert.SmallRefIdeal.Gen.facts, Cert.Window.Gen.facts, Cert.WindowIdeal.Gen.facts, Cert.WindowRefIdeal.Gen.facts, Cert.Prep.Gen.facts, Cert.PrepIdeal.Gen.facts, Cert.PrepRefIdeal.Gen.facts, Cert.Pre_finite_fox.Gen.facts, Cert.Pre_finite_latent.Gen.facts, Cert.Pre_finite_window.Gen.facts, Cert.Pre_finite_prep.Gen.facts,
    fun m ρ _ => Cert.Fox.Hand.frame m ρ, fun m ρ _ => Cert.FoxIdeal.Hand.frame m ρ, fun m ρ _ => Cert.FoxIdeal.Hand.frame m ρ,
    frame_FoxRef, fun m ρ _ => frame_FoxRef m ρ trivial,
    fun m ρ _ => Cert.Merge.Gen.frame m ρ, fun m ρ _ => Cert.MergeIdeal.Gen.frame m ρ, frame_MergeRef,
    fun m ρ _ => Cert.Proj.Gen.frame m ρ, fun m ρ _ => Cert.ProjIdeal.Gen.frame m ρ, frame_ProjRef,
    fun m ρ _ => Cert.Out.Gen.frame m ρ, fun m ρ _ => Cert.OutIdeal.Gen.frame m ρ, frame_OutRef,
    fun m ρ _ => Cert.Norm.Gen.frame m ρ, fun m ρ _ => Cert.NormIdeal.Gen.frame m ρ, frame_NormRef,
    fun m ρ _ => Cert.Latent.Hand.frame m ρ, fun m ρ _ => Cert.LatentIdeal.Hand.frame m ρ, fun m ρ _ => Cert.LatentIdeal.Hand.frame m ρ,
    frame_LatentRef, fun m ρ _ => frame_LatentRef m ρ trivial,
    fun m ρ _ => Cert.Small.Gen.frame m ρ, fun m ρ _ => Cert.SmallIdeal.Gen.frame m ρ, frame_SmallRef,
    fun m ρ _ => Cert.Window.Gen.frame m ρ, fun m ρ _ => Cert.WindowIdeal.Gen.frame m ρ, fun m ρ _ => Cert.WindowIdeal.Gen.frame m ρ,
    frame_WindowRef, fun m ρ _ => frame_WindowRef m ρ trivial,
    fun m ρ _ => Cert.Prep.Gen.frame m ρ, fun m ρ _ => Cert.PrepIdeal.Gen.frame m ρ, fun m ρ _ => Cert.PrepIdeal.Gen.frame m ρ,
    frame_PrepRef, fun m ρ _ => frame_PrepRef m ρ trivial,
    IdealRules.named_const.statement Cert.FoxIdeal.κ "mask" .f32 0xF149F2CA#32 ⊥ rfl,
    Cert.FoxIdeal.Hand.algebraic,
    trivial, Cert.MergeIdeal.Hand.algebraic,
    trivial, Cert.ProjIdeal.Hand.algebraic,
    trivial, Cert.OutIdeal.Hand.algebraic,
    trivial, Cert.NormIdeal.Hand.algebraic,
    IdealRules.named_const.statement Cert.LatentIdeal.κ "mask" .f32 0xF149F2CA#32 ⊥ rfl,
    Cert.LatentIdeal.Hand.algebraic,
    trivial, Cert.SmallIdeal.Hand.algebraic,
    IdealRules.named_const.statement Cert.WindowIdeal.κ "mask" .f32 0xF149F2CA#32 ⊥ rfl,
    Cert.WindowIdeal.Hand.algebraic,
    trivial, Cert.PrepIdeal.Hand.algebraic⟩

end Cert.Proof

end
